-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_in_range [hPre_in_range : Cert.Pre_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_in_range [hExpertsReferenceIdeal : Cert.ExpertsReferenceIdeal.Facts] [hPre_in_range : Cert.Pre_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9)
      ∧ r.2.mem ((c.tc : Thread Cert.Attention.nD Cert.Attention.τ).loc Cert.Attention.main_arg10) = m ((c.tc : Thread Cert.Attention.nD Cert.Attention.τ).loc Cert.Attention.main_arg10)
      ∧ r.2.mem ((c.tc : Thread Cert.Attention.nD Cert.Attention.τ).loc Cert.Attention.main_arg11) = m ((c.tc : Thread Cert.Attention.nD Cert.Attention.τ).loc Cert.Attention.main_arg11)
      ∧ r.2.mem ((c.tc : Thread Cert.Attention.nD Cert.Attention.τ).loc Cert.Attention.main_arg12) = m ((c.tc : Thread Cert.Attention.nD Cert.Attention.τ).loc Cert.Attention.main_arg12))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5)
      ∧ r.2.mem ((c.tc : Thread Cert.AttentionReferenceIdeal.nD Cert.AttentionReferenceIdeal.τ).loc Cert.AttentionReferenceIdeal.main_arg6) = m ((c.tc : Thread Cert.AttentionReferenceIdeal.nD Cert.AttentionReferenceIdeal.τ).loc Cert.AttentionReferenceIdeal.main_arg6)
      ∧ r.2.mem ((c.tc : Thread Cert.AttentionReferenceIdeal.nD Cert.AttentionReferenceIdeal.τ).loc Cert.AttentionReferenceIdeal.main_arg7) = m ((c.tc : Thread Cert.AttentionReferenceIdeal.nD Cert.AttentionReferenceIdeal.τ).loc Cert.AttentionReferenceIdeal.main_arg7)
      ∧ r.2.mem ((c.tc : Thread Cert.AttentionReferenceIdeal.nD Cert.AttentionReferenceIdeal.τ).loc Cert.AttentionReferenceIdeal.main_arg8) = m ((c.tc : Thread Cert.AttentionReferenceIdeal.nD Cert.AttentionReferenceIdeal.τ).loc Cert.AttentionReferenceIdeal.main_arg8)
      ∧ r.2.mem ((c.tc : Thread Cert.AttentionReferenceIdeal.nD Cert.AttentionReferenceIdeal.τ).loc Cert.AttentionReferenceIdeal.main_arg9) = m ((c.tc : Thread Cert.AttentionReferenceIdeal.nD Cert.AttentionReferenceIdeal.τ).loc Cert.AttentionReferenceIdeal.main_arg9)
      ∧ r.2.mem ((c.tc : Thread Cert.AttentionReferenceIdeal.nD Cert.AttentionReferenceIdeal.τ).loc Cert.AttentionReferenceIdeal.main_arg10) = m ((c.tc : Thread Cert.AttentionReferenceIdeal.nD Cert.AttentionReferenceIdeal.τ).loc Cert.AttentionReferenceIdeal.main_arg10)
      ∧ r.2.mem ((c.tc : Thread Cert.AttentionReferenceIdeal.nD Cert.AttentionReferenceIdeal.τ).loc Cert.AttentionReferenceIdeal.main_arg11) = m ((c.tc : Thread Cert.AttentionReferenceIdeal.nD Cert.AttentionReferenceIdeal.τ).loc Cert.AttentionReferenceIdeal.main_arg11)
      ∧ r.2.mem ((c.tc : Thread Cert.AttentionReferenceIdeal.nD Cert.AttentionReferenceIdeal.τ).loc Cert.AttentionReferenceIdeal.main_arg12) = m ((c.tc : Thread Cert.AttentionReferenceIdeal.nD Cert.AttentionReferenceIdeal.τ).loc Cert.AttentionReferenceIdeal.main_arg12))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v29) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v2) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v31) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)
      ∧ m' ((c.tc : Thread Cert.AttentionReferenceIdeal.nD Cert.AttentionReferenceIdeal.τ).loc Cert.AttentionReferenceIdeal.main_arg6) = m ((c.tc : Thread Cert.AttentionIdeal.nD Cert.AttentionIdeal.τ).loc Cert.AttentionIdeal.main_arg6)
      ∧ m' ((c.tc : Thread Cert.AttentionReferenceIdeal.nD Cert.AttentionReferenceIdeal.τ).loc Cert.AttentionReferenceIdeal.main_arg7) = m ((c.tc : Thread Cert.AttentionIdeal.nD Cert.AttentionIdeal.τ).loc Cert.AttentionIdeal.main_arg7)
      ∧ m' ((c.tc : Thread Cert.AttentionReferenceIdeal.nD Cert.AttentionReferenceIdeal.τ).loc Cert.AttentionReferenceIdeal.main_arg8) = m ((c.tc : Thread Cert.AttentionIdeal.nD Cert.AttentionIdeal.τ).loc Cert.AttentionIdeal.main_arg8)
      ∧ m' ((c.tc : Thread Cert.AttentionReferenceIdeal.nD Cert.AttentionReferenceIdeal.τ).loc Cert.AttentionReferenceIdeal.main_arg9) = m ((c.tc : Thread Cert.AttentionIdeal.nD Cert.AttentionIdeal.τ).loc Cert.AttentionIdeal.main_arg9)
      ∧ m' ((c.tc : Thread Cert.AttentionReferenceIdeal.nD Cert.AttentionReferenceIdeal.τ).loc Cert.AttentionReferenceIdeal.main_arg10) = m ((c.tc : Thread Cert.AttentionIdeal.nD Cert.AttentionIdeal.τ).loc Cert.AttentionIdeal.main_arg10)
      ∧ m' ((c.tc : Thread Cert.AttentionReferenceIdeal.nD Cert.AttentionReferenceIdeal.τ).loc Cert.AttentionReferenceIdeal.main_arg11) = m ((c.tc : Thread Cert.AttentionIdeal.nD Cert.AttentionIdeal.τ).loc Cert.AttentionIdeal.main_arg11)
      ∧ m' ((c.tc : Thread Cert.AttentionReferenceIdeal.nD Cert.AttentionReferenceIdeal.τ).loc Cert.AttentionReferenceIdeal.main_arg12) = m ((c.tc : Thread Cert.AttentionIdeal.nD Cert.AttentionIdeal.τ).loc Cert.AttentionIdeal.main_arg12)) →
    ∃ (v0 : (c : Dev Cert.AttentionIdeal.nD) → Buf (Elt Ideal) ((c.tc : Thread Cert.AttentionIdeal.nD Cert.AttentionIdeal.τ).loc Cert.AttentionIdeal.main_v31_0)) (v1 : (c : Dev Cert.AttentionIdeal.nD) → Buf (Elt Ideal) ((c.tc : Thread Cert.AttentionIdeal.nD Cert.AttentionIdeal.τ).loc Cert.AttentionIdeal.main_v31_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v31_0) = v0 c
          ∧ r.2.mem ((c.tc : Thread Cert.AttentionIdeal.nD Cert.AttentionIdeal.τ).loc Cert.AttentionIdeal.main_v31_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
          ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
          ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v120) = v0 c
          ∧ r.2.mem ((c.tc : Thread Cert.AttentionReferenceIdeal.nD Cert.AttentionReferenceIdeal.τ).loc Cert.AttentionReferenceIdeal.main_v124) = v1 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5)
          ∧ r.2.mem ((c.tc : Thread Cert.AttentionReferenceIdeal.nD Cert.AttentionReferenceIdeal.τ).loc Cert.AttentionReferenceIdeal.main_arg6) = m' ((c.tc : Thread Cert.AttentionReferenceIdeal.nD Cert.AttentionReferenceIdeal.τ).loc Cert.AttentionReferenceIdeal.main_arg6)
          ∧ r.2.mem ((c.tc : Thread Cert.AttentionReferenceIdeal.nD Cert.AttentionReferenceIdeal.τ).loc Cert.AttentionReferenceIdeal.main_arg7) = m' ((c.tc : Thread Cert.AttentionReferenceIdeal.nD Cert.AttentionReferenceIdeal.τ).loc Cert.AttentionReferenceIdeal.main_arg7)
          ∧ r.2.mem ((c.tc : Thread Cert.AttentionReferenceIdeal.nD Cert.AttentionReferenceIdeal.τ).loc Cert.AttentionReferenceIdeal.main_arg8) = m' ((c.tc : Thread Cert.AttentionReferenceIdeal.nD Cert.AttentionReferenceIdeal.τ).loc Cert.AttentionReferenceIdeal.main_arg8)
          ∧ r.2.mem ((c.tc : Thread Cert.AttentionReferenceIdeal.nD Cert.AttentionReferenceIdeal.τ).loc Cert.AttentionReferenceIdeal.main_arg9) = m' ((c.tc : Thread Cert.AttentionReferenceIdeal.nD Cert.AttentionReferenceIdeal.τ).loc Cert.AttentionReferenceIdeal.main_arg9)
          ∧ r.2.mem ((c.tc : Thread Cert.AttentionReferenceIdeal.nD Cert.AttentionReferenceIdeal.τ).loc Cert.AttentionReferenceIdeal.main_arg10) = m' ((c.tc : Thread Cert.AttentionReferenceIdeal.nD Cert.AttentionReferenceIdeal.τ).loc Cert.AttentionReferenceIdeal.main_arg10)
          ∧ r.2.mem ((c.tc : Thread Cert.AttentionReferenceIdeal.nD Cert.AttentionReferenceIdeal.τ).loc Cert.AttentionReferenceIdeal.main_arg11) = m' ((c.tc : Thread Cert.AttentionReferenceIdeal.nD Cert.AttentionReferenceIdeal.τ).loc Cert.AttentionReferenceIdeal.main_arg11)
          ∧ r.2.mem ((c.tc : Thread Cert.AttentionReferenceIdeal.nD Cert.AttentionReferenceIdeal.τ).loc Cert.AttentionReferenceIdeal.main_arg12) = m' ((c.tc : Thread Cert.AttentionReferenceIdeal.nD Cert.AttentionReferenceIdeal.τ).loc Cert.AttentionReferenceIdeal.main_arg12))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v29) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hAttention : Cert.Attention.Facts) (hAttentionIdeal : Cert.AttentionIdeal.Facts) (hAttentionReferenceIdeal : Cert.AttentionReferenceIdeal.Facts) (hMemory : Cert.Memory.Facts) (hMemoryIdeal : Cert.MemoryIdeal.Facts) (hMemoryReferenceIdeal : Cert.MemoryReferenceIdeal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_in_range := hPre_in_range)
    ∧ quiescent_ExpertsIdeal (hExpertsIdeal := hExpertsIdeal) (hPre_in_range := hPre_in_range)
    ∧ quiescent_ExpertsReferenceIdeal (hExpertsReferenceIdeal := hExpertsReferenceIdeal)
    ∧ quiescent_ExpertsReferenceIdeal_pre_in_range (hExpertsReferenceIdeal := hExpertsReferenceIdeal) (hPre_in_range := hPre_in_range)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_in_range := hPre_in_range)
    ∧ preserves_Projection_ProjectionIdeal
    ∧ algebraic_ProjectionIdeal_ProjectionReferenceIdeal (hProjectionIdeal := hProjectionIdeal) (hProjectionReferenceIdeal := hProjectionReferenceIdeal)
    ∧ preserves_Attention_AttentionIdeal
    ∧ algebraic_AttentionIdeal_AttentionReferenceIdeal (hAttentionIdeal := hAttentionIdeal) (hAttentionReferenceIdeal := hAttentionReferenceIdeal)
    ∧ preserves_Memory_MemoryIdeal
    ∧ algebraic_MemoryIdeal_MemoryReferenceIdeal (hMemoryIdeal := hMemoryIdeal) (hMemoryReferenceIdeal := hMemoryReferenceIdeal)
-- ==== Pre_in_range.lean ====
abbrev S219 : Shape := ⟨1, ![219]⟩
abbrev S1 : Shape := ⟨1, ![1]⟩
abbrev S112128x1024 : Shape := ⟨2, ![112128, 1024]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S219 : S_.BroadcastsInDim S219 (![] : Fin 0 → Fin S219.rank)
  reducesTo_S219_S_d0 : S219.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S219 32) (main_arg1 : IVec S1 32) (main_arg2 : FVec F S112128x1024 .bf16) (main_arg3 : FVec F S2x32x1024x512 .f32) (main_arg4 : FVec F S2x32x1024x512 .f32) (main_arg5 : FVec F S2x32x512x1024 .f32) : IVec S_ 1 :=
  let main_c : IVec S_ 32 := constantI S_ 32 0#32
  let main_v0 : IVec S219 32 := broadcastInDim S219 ![] bcast_S_S219 main_c
  let main_v1 : IVec S219 1 := cmpi .sge main_arg0 main_v0
  let main_c_0 : IVec S_ 32 := constantI S_ 32 32#32
  let main_v2 : IVec S219 32 := broadcastInDim S219 ![] bcast_S_S219 main_c_0
  let main_v3 : IVec S219 1 := cmpi .slt main_arg0 main_v2
  let main_v4 : IVec S219 1 := andi main_v1 main_v3
  let main_c_1 : IVec S_ 1 := constantI S_ 1 1#1
  let main_v5 : IVec S_ 1 := (fun x v => Host.reduce IntOp.andi x v reducesTo_S219_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 219#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S3072x2048 : Shape := ⟨2, ![3072, 2048]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S40x1024 : Shape := ⟨2, ![40, 1024]⟩
abbrev S1024x32 : Shape := ⟨2, ![1024, 32]⟩
abbrev S32x1024 : Shape := ⟨2, ![32, 1024]⟩
abbrev S1 : Shape := ⟨1, ![1]⟩
abbrev S4x1024 : Shape := ⟨2, ![4, 1024]⟩
abbrev S40 : Shape := ⟨1, ![40]⟩
abbrev S32 : Shape := ⟨1, ![32]⟩
abbrev S40x1 : Shape := ⟨2, ![40, 1]⟩
abbrev S40x512 : Shape := ⟨2, ![40, 512]⟩
abbrev S512x512 : Shape := ⟨2, ![512, 512]⟩
abbrev S32x32 : Shape := ⟨2, ![32, 32]⟩
abbrev S1x1024 : Shape := ⟨2, ![1, 1024]⟩
abbrev S64x8x512 : Shape := ⟨3, ![64, 8, 512]⟩
abbrev S64x32x128 : Shape := ⟨3, ![64, 32, 128]⟩
abbrev S8x1024 : Shape := ⟨2, ![8, 1024]⟩
abbrev S512x1024 : Shape := ⟨2, ![512, 1024]⟩
abbrev S256x2048 : Shape := ⟨2, ![256, 2048]⟩
abbrev S1x8x512 : Shape := ⟨3, ![1, 8, 512]⟩
abbrev S1x32x128 : Shape := ⟨3, ![1, 32, 128]⟩
abbrev S528x1024 : Shape := ⟨2, ![528, 1024]⟩
abbrev S528 : Shape := ⟨1, ![528]⟩
abbrev S528x1 : Shape := ⟨2, ![528, 1]⟩
abbrev S528x3072 : Shape := ⟨2, ![528, 3072]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S4x512 : Shape := ⟨2, ![4, 512]⟩
abbrev S1x512 : Shape := ⟨2, ![1, 512]⟩
abbrev S32x512 : Shape := ⟨2, ![32, 512]⟩
abbrev S32x1 : Shape := ⟨2, ![32, 1]⟩
abbrev S32x128 : Shape := ⟨2, ![32, 128]⟩
abbrev S8x512 : Shape := ⟨2, ![8, 512]⟩

abbrev nBuf : Space → Nat
  | .hbm => 76
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S3072x2048, .bf16⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x4x8, .f32⟩
  | .hbm, ⟨13, _⟩ => ⟨S4x8, .f32⟩
  | .hbm, ⟨14, _⟩ => ⟨S1024x3072, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S_, .f32⟩
  | .hbm, ⟨19, _⟩ => ⟨S40x1024, .f32⟩
  | .hbm, ⟨20, _⟩ => ⟨S1024x32, .f32⟩
  | .hbm, ⟨21, _⟩ => ⟨S32x1024, .f32⟩
  | .hbm, ⟨22, _⟩ => ⟨S_, .i32⟩
  | .hbm, ⟨23, _⟩ => ⟨S1, .i32⟩
  | .hbm, ⟨24, _⟩ => ⟨S40x1024, .f32⟩
  | .hbm, ⟨25, _⟩ => ⟨S4x1024, .f32⟩
  | .hbm, ⟨26, _⟩ => ⟨S_, .i32⟩
  | .hbm, ⟨27, _⟩ => ⟨S1, .i32⟩
  | .hbm, ⟨28, _⟩ => ⟨S40x1024, .f32⟩
  | .hbm, ⟨29, _⟩ => ⟨S_, .f32⟩
  | .hbm, ⟨30, _⟩ => ⟨S40, .f32⟩
  | .hbm, ⟨31, _⟩ => ⟨S32, .f32⟩
  | .hbm, ⟨32, _⟩ => ⟨S_, .i32⟩
  | .hbm, ⟨33, _⟩ => ⟨S1, .i32⟩
  | .hbm, ⟨34, _⟩ => ⟨S40, .f32⟩
  | .hbm, ⟨35, _⟩ => ⟨S_, .i32⟩
  | .hbm, ⟨36, _⟩ => ⟨S1, .i32⟩
  | .hbm, ⟨37, _⟩ => ⟨S40, .f32⟩
  | .hbm, ⟨38, _⟩ => ⟨S40x1024, .bf16⟩
  | .hbm, ⟨39, _⟩ => ⟨S40x1024, .f32⟩
  | .hbm, ⟨40, _⟩ => ⟨S40x1024, .f32⟩
  | .hbm, ⟨41, _⟩ => ⟨S40x1024, .bf16⟩
  | .hbm, ⟨42, _⟩ => ⟨S40x1, .f32⟩
  | .hbm, ⟨43, _⟩ => ⟨S40x512, .f32⟩
  | .hbm, ⟨44, _⟩ => ⟨S_, .f32⟩
  | .hbm, ⟨45, _⟩ => ⟨S512x512, .f32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S_, .f32⟩
  | .hbm, ⟨57, _⟩ => ⟨S32x32, .f32⟩
  | .hbm, ⟨58, _⟩ => ⟨S32x32, .i32⟩
  | .hbm, ⟨59, _⟩ => ⟨S_, .i32⟩
  | .hbm, ⟨60, _⟩ => ⟨S32x32, .i32⟩
  | .hbm, ⟨61, _⟩ => ⟨S32x32, .i32⟩
  | .hbm, ⟨62, _⟩ => ⟨S32x32, .i32⟩
  | .hbm, ⟨63, _⟩ => ⟨S32x32, .i1⟩
  | .hbm, ⟨64, _⟩ => ⟨S_, .f32⟩
  | .hbm, ⟨65, _⟩ => ⟨S32x32, .f32⟩
  | .hbm, ⟨66, _⟩ => ⟨S32x32, .f32⟩
  | .hbm, ⟨67, _⟩ => ⟨S32x32, .bf16⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S32768x1024, .f32⟩
  | .hbm, ⟨72, _⟩ => ⟨S32768x1024, .bf16⟩
  | .hbm, ⟨73, _⟩ => ⟨S64x8x512, .i32⟩
  | .hbm, ⟨74, _⟩ => ⟨S64x8x512, .f32⟩
  | .hbm, ⟨75, _⟩ => ⟨S64x32x128, .i32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x3072, .bf16⟩
  | .local _ .vmem, ⟨8, _⟩ => ⟨S3x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S256x2048, .bf16⟩
  | .local _ .vmem, ⟨13, _⟩ => ⟨S256x2048, .bf16⟩
  | .local _ .vmem, ⟨14, _⟩ => ⟨S1024x1024, .bf16⟩
  | .local _ .vmem, ⟨15, _⟩ => ⟨S1x1024, .f32⟩
  | .local _ .vmem, ⟨16, _⟩ => ⟨S40x1024, .bf16⟩
  | .local _ .vmem, ⟨17, _⟩ => ⟨S40x1024, .bf16⟩
  | .local _ .vmem, ⟨18, _⟩ => ⟨S40x512, .f32⟩
  | .local _ .vmem, ⟨19, _⟩ => ⟨S512x512, .bf16⟩
  | .local _ .vmem, ⟨20, _⟩ => ⟨S32x32, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1x8x512, .i32⟩
  | .local _ .vmem, ⟨26, _⟩ => ⟨S1x8x512, .i32⟩
  | .local _ .vmem, ⟨27, _⟩ => ⟨S1x8x512, .f32⟩
  | .local _ .vmem, ⟨28, _⟩ => ⟨S1x8x512, .f32⟩
  | .local _ .vmem, ⟨29, _⟩ => ⟨S1x32x128, .i32⟩
  | .local _ .vmem, ⟨30, _⟩ => ⟨S1x32x128, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_cst : Ref sig .tc := ⟨.hbm, 52, rfl⟩
abbrev main_call0_v5 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_cst : Ref sig .tc := ⟨.hbm, 64, rfl⟩
abbrev main_call1_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33_0 : Ref sig .tc := ⟨.hbm, 71, rfl⟩
abbrev main_v33_1 : Ref sig .tc := ⟨.hbm, 72, rfl⟩
abbrev main_v33_2 : Ref sig .tc := ⟨.hbm, 73, rfl⟩
abbrev main_v33_3 : Ref sig .tc := ⟨.hbm, 74, rfl⟩
abbrev main_v33_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c8_i32 : BitVec 32 := 8#32
  let v37 : BitVec 32 := Scalar.addi c8_i32 v36
  let v38 : BitVec 32 := Scalar.select v1 v18 v37
  let c0_i32_11 : BitVec 32 := 0#32
  let c0_i32_12 : BitVec 32 := 0#32
  ![v38.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x32 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x32x128 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S3072x2048 : Shape := ⟨2, ![3072, 2048]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S16384x1024 : Shape := ⟨2, ![16384, 1024]⟩
abbrev S8x2048x1024 : Shape := ⟨3, ![8, 2048, 1024]⟩
abbrev S2048x2048 : Shape := ⟨2, ![2048, 2048]⟩
abbrev S8x256x2048 : Shape := ⟨3, ![8, 256, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2050x1024 : Shape := ⟨3, ![8, 2050, 1024]⟩
abbrev S1x1024 : Shape := ⟨2, ![1, 1024]⟩
abbrev S8x2048x4x256 : Shape := ⟨4, ![8, 2048, 4, 256]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S4x4096x1024 : Shape := ⟨3, ![4, 4096, 1024]⟩
abbrev S1024x2048 : Shape := ⟨2, ![1024, 2048]⟩
abbrev S4x256x2048 : Shape := ⟨3, ![4, 256, 2048]⟩
abbrev S4x4096 : Shape := ⟨2, ![4, 4096]⟩
abbrev S4x4096x1 : Shape := ⟨3, ![4, 4096, 1]⟩
abbrev S4x4096x3072 : Shape := ⟨3, ![4, 4096, 3072]⟩
abbrev S4x4098x1024 : Shape := ⟨3, ![4, 4098, 1024]⟩
abbrev S4x4096x4x256 : Shape := ⟨4, ![4, 4096, 4, 256]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 246
  | .vmem => 0
  | .smem => 0
  | _ => 0

abbrev hbmTy0_0 (i : Nat) : BufTy := match i % 128 with
  | 0 => ⟨S32768x1024, .f32⟩
  | 1 => ⟨S1024, .f32⟩
  | 2 => ⟨S1024x3072, .f32⟩
  | 3 => ⟨S3x1024, .f32⟩
  | 4 => ⟨S1024x1024, .f32⟩
  | 5 => ⟨S1024, .f32⟩
  | 6 => ⟨S1024x1024, .f32⟩
  | 7 => ⟨S3072x2048, .bf16⟩
  | 8 => ⟨S1024x1024, .f32⟩
  | 9 => ⟨S1024, .f32⟩
  | 10 => ⟨S1024x4, .f32⟩
  | 11 => ⟨S4, .f32⟩
  | 12 => ⟨S1024x4x8, .f32⟩
  | 13 => ⟨S4x8, .f32⟩
  | 14 => ⟨S3072x2048, .f32⟩
  | 15 => ⟨S16384x1024, .f32⟩
  | 16 => ⟨S8x2048x1024, .f32⟩
  | 17 => ⟨S2048x2048, .f32⟩
  | 18 => ⟨S8x256x2048, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S8x2048x3072, .f32⟩
  | 36 => ⟨S8x2048x1024, .f32⟩
  | 37 => ⟨S8x2048x1024, .f32⟩
  | 38 => ⟨S8x2048x1024, .f32⟩
  | 39 => ⟨S8x2048x1024, .f32⟩
  | 40 => ⟨S_, .i32⟩
  | 41 => ⟨S_, .f32⟩
  | 42 => ⟨S8x2050x1024, .f32⟩
  | 43 => ⟨S8x2048x1024, .f32⟩
  | 44 => ⟨S1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S1x1024, .f32⟩
  | 51 => ⟨S1024, .f32⟩
  | 52 => ⟨S1x1x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S1x1024, .f32⟩
  | 58 => ⟨S1024, .f32⟩
  | 59 => ⟨S1x1x1024, .f32⟩
  | 60 => ⟨S8x2048x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S_, .f32⟩
  | 74 => ⟨S8x2048x1, .f32⟩
  | 75 => ⟨S8x2048x1, .f32⟩
  | 76 => ⟨S8x2048x1, .f32⟩
  | 77 => ⟨S8x2048x1024, .f32⟩
  | 78 => ⟨S8x2048x1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x4x256, .f32⟩
  | 84 => ⟨S8x256x1024, .f32⟩
  | 85 => ⟨S8x256x1024, .f32⟩
  | 86 => ⟨S8x256x4x256, .f32⟩
  | 87 => ⟨S8x256x4x256, .f32⟩
  | 88 => ⟨S8x4x2048x256, .f32⟩
  | 89 => ⟨S_, .f32⟩
  | 90 => ⟨S8x4x2048x256, .f32⟩
  | 91 => ⟨S8x4x2048x256, .f32⟩
  | 92 => ⟨S_, .f32⟩
  | 93 => ⟨S8x4x2048, .f32⟩
  | 94 => ⟨S_, .f32⟩
  | 95 => ⟨S8x4x2048, .f32⟩
  | 96 => ⟨S8x4x2048, .f32⟩
  | 97 => ⟨S8x4x2048x1, .f32⟩
  | 98 => ⟨S8x4x2048x256, .f32⟩
  | 99 => ⟨S8x4x2048x256, .f32⟩
  | 100 => ⟨S8x4x2048x256, .f32⟩
  | 101 => ⟨S_, .f32⟩
  | 102 => ⟨S8x4x2048, .f32⟩
  | 103 => ⟨S8x4x2048x1, .f32⟩
  | 104 => ⟨S8x4x2048x256, .f32⟩
  | 105 => ⟨S8x4x2048x256, .f32⟩
  | 106 => ⟨S8x4x256x2048, .f32⟩
  | 107 => ⟨S8x2048x4x256, .f32⟩
  | 108 => ⟨S8x2048x1024, .f32⟩
  | 109 => ⟨S8x2048x1024, .f32⟩
  | 110 => ⟨S8x2048x1024, .f32⟩
  | 111 => ⟨S8x2048x1024, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x1, .f32⟩
  | 122 => ⟨S8x2048x1024, .f32⟩
  | 123 => ⟨S8x2048x1024, .f32⟩
  | 124 => ⟨S1x1x1024, .f32⟩
  | 125 => ⟨S8x2048x1024, .f32⟩
  | 126 => ⟨S8x2048x1024, .f32⟩
  | 127 => ⟨S16384x1024, .f32⟩
  | _ => ⟨S32768x1024, .f32⟩

abbrev hbmTy0_1 (i : Nat) : BufTy := match i % 128 with
  | 0 => ⟨S4x4096x1024, .f32⟩
  | 1 => ⟨S1024x2048, .f32⟩
  | 2 => ⟨S4x256x2048, .f32⟩
  | 3 => ⟨S4x4096x1024, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S_, .f32⟩
  | 11 => ⟨S4x4096x1, .f32⟩
  | 12 => ⟨S4x4096x1, .f32⟩
  | 13 => ⟨S4x4096x1, .f32⟩
  | 14 => ⟨S4x4096x1024, .f32⟩
  | 15 => ⟨S4x4096x1024, .f32⟩
  | 16 => ⟨S1x1x1024, .f32⟩
  | 17 => ⟨S4x4096x1024, .f32⟩
  | 18 => ⟨S4x4096x1024, .f32⟩
  | 19 => ⟨S4x4096x3072, .f32⟩
  | 20 => ⟨S4x4096x1024, .f32⟩
  | 21 => ⟨S4x4096x1024, .f32⟩
  | 22 => ⟨S4x4096x1024, .f32⟩
  | 23 => ⟨S4x4096x1024, .f32⟩
  | 24 => ⟨S_, .i32⟩
  | 25 => ⟨S_, .f32⟩
  | 26 => ⟨S4x4098x1024, .f32⟩
  | 27 => ⟨S4x4096x1024, .f32⟩
  | 28 => ⟨S1x1024, .f32⟩
  | 29 => ⟨S1024, .f32⟩
  | 30 => ⟨S1x1x1024, .f32⟩
  | 31 => ⟨S4x4096x1024, .f32⟩
  | 32 => ⟨S4x4096x1024, .f32⟩
  | 33 => ⟨S4x4096x1024, .f32⟩
  | 34 => ⟨S1x1024, .f32⟩
  | 35 => ⟨S1024, .f32⟩
  | 36 => ⟨S1x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S1x1024, .f32⟩
  | 42 => ⟨S1024, .f32⟩
  | 43 => ⟨S1x1x1024, .f32⟩
  | 44 => ⟨S4x4096x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S_, .f32⟩
  | 52 => ⟨S4x4096, .f32⟩
  | 53 => ⟨S4x4096x1, .f32⟩
  | 54 => ⟨S_, .f32⟩
  | 55 => ⟨S4x4096x1, .f32⟩
  | 56 => ⟨S4x4096x1, .f32⟩
  | 57 => ⟨S_, .f32⟩
  | 58 => ⟨S4x4096x1, .f32⟩
  | 59 => ⟨S4x4096x1, .f32⟩
  | 60 => ⟨S4x4096x1, .f32⟩
  | 61 => ⟨S4x4096x1024, .f32⟩
  | 62 => ⟨S4x4096x1024, .f32⟩
  | 63 => ⟨S1x1x1024, .f32⟩
  | 64 => ⟨S4x4096x1024, .f32⟩
  | 65 => ⟨S4x4096x1024, .f32⟩
  | 66 => ⟨S4x4096x1024, .f32⟩
  | 67 => ⟨S4x4096x4x256, .f32⟩
  | 68 => ⟨S4x256x1024, .f32⟩
  | 69 => ⟨S4x256x1024, .f32⟩
  | 70 => ⟨S4x256x4x256, .f32⟩
  | 71 => ⟨S4x256x4x256, .f32⟩
  | 72 => ⟨S4x4x4096x256, .f32⟩
  | 73 => ⟨S_, .f32⟩
  | 74 => ⟨S4x4x4096x256, .f32⟩
  | 75 => ⟨S4x4x4096x256, .f32⟩
  | 76 => ⟨S_, .f32⟩
  | 77 => ⟨S4x4x4096, .f32⟩
  | 78 => ⟨S_, .f32⟩
  | 79 => ⟨S4x4x4096, .f32⟩
  | 80 => ⟨S4x4x4096, .f32⟩
  | 81 => ⟨S4x4x4096x1, .f32⟩
  | 82 => ⟨S4x4x4096x256, .f32⟩
  | 83 => ⟨S4x4x4096x256, .f32⟩
  | 84 => ⟨S4x4x4096x256, .f32⟩
  | 85 => ⟨S_, .f32⟩
  | 86 => ⟨S4x4x4096, .f32⟩
  | 87 => ⟨S4x4x4096x1, .f32⟩
  | 88 => ⟨S4x4x4096x256, .f32⟩
  | 89 => ⟨S4x4x4096x256, .f32⟩
  | 90 => ⟨S4x4x256x4096, .f32⟩
  | 91 => ⟨S4x4096x4x256, .f32⟩
  | 92 => ⟨S4x4096x1024, .f32⟩
  | 93 => ⟨S4x4096x1024, .f32⟩
  | 94 => ⟨S4x4096x1024, .f32⟩
  | 95 => ⟨S4x4096x1024, .f32⟩
  | 96 => ⟨S_, .f32⟩
  | 97 => ⟨S4x4096, .f32⟩
  | 98 => ⟨S4x4096x1, .f32⟩
  | 99 => ⟨S_, .f32⟩
  | 100 => ⟨S4x4096x1, .f32⟩
  | 101 => ⟨S4x4096x1, .f32⟩
  | 102 => ⟨S_, .f32⟩
  | 103 => ⟨S4x4096x1, .f32⟩
  | 104 => ⟨S4x4096x1, .f32⟩
  | 105 => ⟨S4x4096x1, .f32⟩
  | 106 => ⟨S4x4096x1024, .f32⟩
  | 107 => ⟨S4x4096x1024, .f32⟩
  | 108 => ⟨S1x1x1024, .f32⟩
  | 109 => ⟨S4x4096x1024, .f32⟩
  | 110 => ⟨S4x4096x1024, .f32⟩
  | 111 => ⟨S16384x1024, .f32⟩
  | 112 => ⟨S16384x1024, .f32⟩
  | 113 => ⟨S32768x1024, .f32⟩
  | 114 => ⟨S16384x1024, .f32⟩
  | 115 => ⟨S16384x1024, .f32⟩
  | 116 => ⟨S32768x1024, .f32⟩
  | 117 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_cst_4 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_cst_7 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_9 : Ref sig .tc := ⟨.hbm, 112, rfl⟩
abbrev main_v86 : Ref sig .tc := ⟨.hbm, 113, rfl⟩
abbrev main_v87 : Ref sig .tc := ⟨.hbm, 114, rfl⟩
abbrev main_cst_10 : Ref sig .tc := ⟨.hbm, 115, rfl⟩
abbrev main_v88 : Ref sig .tc := ⟨.hbm, 116, rfl⟩
abbrev main_v89 : Ref sig .tc := ⟨.hbm, 117, rfl⟩
abbrev main_cst_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_12 : Ref sig .tc := ⟨.hbm, 132, rfl⟩
abbrev main_v103 : Ref sig .tc := ⟨.hbm, 133, rfl⟩
abbrev main_v104 : Ref sig .tc := ⟨.hbm, 134, rfl⟩
abbrev main_cst_13 : Ref sig .tc := ⟨.hbm, 135, rfl⟩
abbrev main_v105 : Ref sig .tc := ⟨.hbm, 136, rfl⟩
abbrev main_v106 : Ref sig .tc := ⟨.hbm, 137, rfl⟩
abbrev main_cst_14 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_15 : Ref sig .tc := ⟨.hbm, 152, rfl⟩
abbrev main_call1_v0 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_16 : Ref sig .tc := ⟨.hbm, 179, rfl⟩
abbrev main_v145 : Ref sig .tc := ⟨.hbm, 180, rfl⟩
abbrev main_v146 : Ref sig .tc := ⟨.hbm, 181, rfl⟩
abbrev main_cst_17 : Ref sig .tc := ⟨.hbm, 182, rfl⟩
abbrev main_v147 : Ref sig .tc := ⟨.hbm, 183, rfl⟩
abbrev main_v148 : Ref sig .tc := ⟨.hbm, 184, rfl⟩
abbrev main_cst_18 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_19 : Ref sig .tc := ⟨.hbm, 201, rfl⟩
abbrev main_v164 : Ref sig .tc := ⟨.hbm, 202, rfl⟩
abbrev main_v165 : Ref sig .tc := ⟨.hbm, 203, rfl⟩
abbrev main_cst_20 : Ref sig .tc := ⟨.hbm, 204, rfl⟩
abbrev main_v166 : Ref sig .tc := ⟨.hbm, 205, rfl⟩
abbrev main_cst_21 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_22 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_23 : Ref sig .tc := ⟨.hbm, 224, rfl⟩
abbrev main_v183 : Ref sig .tc := ⟨.hbm, 225, rfl⟩
abbrev main_v184 : Ref sig .tc := ⟨.hbm, 226, rfl⟩
abbrev main_cst_24 : Ref sig .tc := ⟨.hbm, 227, rfl⟩
abbrev main_v185 : Ref sig .tc := ⟨.hbm, 228, rfl⟩
abbrev main_v186 : Ref sig .tc := ⟨.hbm, 229, rfl⟩
abbrev main_cst_25 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩

abbrev nD : Nat := 1
abbrev τ : Topo := Topo.v7x

variable {F : FTy → Type} [FloatOps F]
-- ==== Experts.lean ====
abbrev S219 : Shape := ⟨1, ![219]⟩
abbrev S1 : Shape := ⟨1, ![1]⟩
abbrev S112128x1024 : Shape := ⟨2, ![112128, 1024]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S112128x1024, .bf16⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S112128x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .smem, ⟨0, _⟩ => ⟨S219, .i32⟩
  | .local _ .smem, ⟨1, _⟩ => ⟨S1, .i32⟩
  | _, _ => ⟨S112128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![219], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S219 : Shape := ⟨1, ![219]⟩
abbrev S1 : Shape := ⟨1, ![1]⟩
abbrev S112128x1024 : Shape := ⟨2, ![112128, 1024]⟩
abbrev S2x32x1024x512 : Shape := ⟨4, ![2, 32, 1024, 512]⟩
abbrev S2x32x512x1024 : Shape := ⟨4, ![2, 32, 512, 1024]⟩
abbrev S1x32x1024x512 : Shape := ⟨4, ![1, 32, 1024, 512]⟩
abbrev S32x1024x512 : Shape := ⟨3, ![32, 1024, 512]⟩
abbrev S32x512x112128 : Shape := ⟨3, ![32, 512, 112128]⟩
abbrev S32x112128x512 : Shape := ⟨3, ![32, 112128, 512]⟩
abbrev S_ : Shape := ⟨0, ![]⟩
abbrev S1x32x512x1024 : Shape := ⟨4, ![1, 32, 512, 1024]⟩
abbrev S32x512x1024 : Shape := ⟨3, ![32, 512, 1024]⟩
abbrev S32x112128x1024 : Shape := ⟨3, ![32, 112128, 1024]⟩
abbrev S219x512 : Shape := ⟨2, ![219, 512]⟩
abbrev S112128 : Shape := ⟨1, ![112128]⟩
abbrev S112128x1 : Shape := ⟨2, ![112128, 1]⟩
abbrev S1x32 : Shape := ⟨2, ![1, 32]⟩
abbrev S112128x32 : Shape := ⟨2, ![112128, 32]⟩
abbrev S32x112128 : Shape := ⟨2, ![32, 112128]⟩
abbrev S32x112128x1 : Shape := ⟨3, ![32, 112128, 1]⟩

abbrev nBuf : Space → Nat
  | .hbm => 52
  | .vmem => 0
  | .smem => 0
  | _ => 0

abbrev bufTy : (tb : Table) → Fin (tcTables nBuf tb) → BufTy
  | .hbm, ⟨0, _⟩ => ⟨S219, .i32⟩
  | .hbm, ⟨1, _⟩ => ⟨S1, .i32⟩
  | .hbm, ⟨2, _⟩ => ⟨S112128x1024, .bf16⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S112128x1024, .f32⟩
  | .hbm, ⟨7, _⟩ => ⟨S1x32x1024x512, .f32⟩
  | .hbm, ⟨8, _⟩ => ⟨S32x1024x512, .f32⟩
  | .hbm, ⟨9, _⟩ => ⟨S32x512x112128, .f32⟩
  | .hbm, ⟨10, _⟩ => ⟨S32x112128x512, .f32⟩
  | .hbm, ⟨11, _⟩ => ⟨S1x32x1024x512, .f32⟩
  | .hbm, ⟨12, _⟩ => ⟨S32x1024x512, .f32⟩
  | .hbm, ⟨13, _⟩ => ⟨S32x512x112128, .f32⟩
  | .hbm, ⟨14, _⟩ => ⟨S32x112128x512, .f32⟩
  | .hbm, ⟨15, _⟩ => ⟨S32x112128x512, .f32⟩
  | .hbm, ⟨16, _⟩ => ⟨S32x112128x512, .f32⟩
  | .hbm, ⟨17, _⟩ => ⟨S_, .f32⟩
  | .hbm, ⟨18, _⟩ => ⟨S32x112128x512, .f32⟩
  | .hbm, ⟨19, _⟩ => ⟨S32x112128x512, .f32⟩
  | .hbm, ⟨20, _⟩ => ⟨S_, .f32⟩
  | .hbm, ⟨21, _⟩ => ⟨S32x112128x512, .f32⟩
  | .hbm, ⟨22, _⟩ => ⟨S32x112128x512, .f32⟩
  | .hbm, ⟨23, _⟩ => ⟨S32x112128x512, .f32⟩
  | .hbm, ⟨24, _⟩ => ⟨S32x112128x512, .f32⟩
  | .hbm, ⟨25, _⟩ => ⟨S1x32x512x1024, .f32⟩
  | .hbm, ⟨26, _⟩ => ⟨S32x512x1024, .f32⟩
  | .hbm, ⟨27, _⟩ => ⟨S32x112128x1024, .f32⟩
  | .hbm, ⟨28, _⟩ => ⟨S219x512, .i32⟩
  | .hbm, ⟨29, _⟩ => ⟨S112128, .i32⟩
  | .hbm, ⟨30, _⟩ => ⟨S112128x1, .i32⟩
  | .hbm, ⟨31, _⟩ => ⟨S1x32, .i32⟩
  | .hbm, ⟨32, _⟩ => ⟨S112128x32, .i32⟩
  | .hbm, ⟨33, _⟩ => ⟨S112128x32, .i32⟩
  | .hbm, ⟨34, _⟩ => ⟨S112128x32, .i1⟩
  | .hbm, ⟨35, _⟩ => ⟨S112128x32, .f32⟩
  | .hbm, ⟨36, _⟩ => ⟨S32x112128, .f32⟩
  | .hbm, ⟨37, _⟩ => ⟨S32x112128x1, .f32⟩
  | .hbm, ⟨38, _⟩ => ⟨S32x112128x1024, .f32⟩
  | .hbm, ⟨39, _⟩ => ⟨S32x112128x1024, .f32⟩
  | .hbm, ⟨40, _⟩ => ⟨S_, .f32⟩
  | .hbm, ⟨41, _⟩ => ⟨S112128x1024, .f32⟩
  | .hbm, ⟨42, _⟩ => ⟨S112128, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S112128, .i32⟩
  | .hbm, ⟨47, _⟩ => ⟨S112128, .i1⟩
  | .hbm, ⟨48, _⟩ => ⟨S112128x1, .i1⟩
  | .hbm, ⟨49, _⟩ => ⟨S112128x1024, .bf16⟩
  | .hbm, ⟨50, _⟩ => ⟨S112128x1024, .i1⟩
  | .hbm, ⟨51, _⟩ => ⟨S112128x1024, .bf16⟩
  | _, _ => ⟨S219, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call2_v0 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Projection.lean ====
abbrev S16384x1024 : Shape := ⟨2, ![16384, 1024]⟩
abbrev S1024 : Shape := ⟨1, ![1024]⟩
abbrev S1024x5120 : Shape := ⟨2, ![1024, 5120]⟩
abbrev S1x1024 : Shape := ⟨2, ![1, 1024]⟩
abbrev S40x32768x128 : Shape := ⟨3, ![40, 32768, 128]⟩
abbrev S512x1024 : Shape := ⟨2, ![512, 1024]⟩
abbrev S40x512x128 : Shape := ⟨3, ![40, 512, 128]⟩
abbrev S512 : Shape := ⟨1, ![512]⟩
abbrev S512x1 : Shape := ⟨2, ![512, 1]⟩
abbrev S512x5120 : Shape := ⟨2, ![512, 5120]⟩
abbrev S512x128 : Shape := ⟨2, ![512, 128]⟩
abbrev S1x512x128 : Shape := ⟨3, ![1, 512, 128]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5120, .f32⟩
  | .hbm, ⟨4, _⟩ => ⟨S1024x5120, .bf16⟩
  | .hbm, ⟨5, _⟩ => ⟨S1x1024, .f32⟩
  | .hbm, ⟨6, _⟩ => ⟨S40x32768x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x5120, .bf16⟩
  | .local _ .vmem, ⟨6, _⟩ => ⟨S40x512x128, .bf16⟩
  | .local _ .vmem, ⟨7, _⟩ => ⟨S40x512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S40x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectionReferenceIdeal.lean ====
abbrev S16384x1024 : Shape := ⟨2, ![16384, 1024]⟩
abbrev S1024 : Shape := ⟨1, ![1024]⟩
abbrev S1024x5120 : Shape := ⟨2, ![1024, 5120]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5120 : Shape := ⟨2, ![16384, 5120]⟩
abbrev S32768x5120 : Shape := ⟨2, ![32768, 5120]⟩
abbrev S32768x40x128 : Shape := ⟨3, ![32768, 40, 128]⟩
abbrev S40x32768x128 : Shape := ⟨3, ![40, 32768, 128]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5120, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5120, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x5120, .f32⟩
  | .hbm, ⟨38, _⟩ => ⟨S32768x5120, .f32⟩
  | .hbm, ⟨39, _⟩ => ⟨S32768x40x128, .f32⟩
  | .hbm, ⟨40, _⟩ => ⟨S40x32768x128, .f32⟩
  | .hbm, ⟨41, _⟩ => ⟨S40x32768x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Attention.lean ====
abbrev S16384x1024 : Shape := ⟨2, ![16384, 1024]⟩
abbrev S32768x1024 : Shape := ⟨2, ![32768, 1024]⟩
abbrev S1024x1024 : Shape := ⟨2, ![1024, 1024]⟩
abbrev S1024 : Shape := ⟨1, ![1024]⟩
abbrev S3072x2048 : Shape := ⟨2, ![3072, 2048]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S40x1024 : Shape := ⟨2, ![40, 1024]⟩
abbrev S1024x32 : Shape := ⟨2, ![1024, 32]⟩
abbrev S32x1024 : Shape := ⟨2, ![32, 1024]⟩
abbrev S1 : Shape := ⟨1, ![1]⟩
abbrev S4x1024 : Shape := ⟨2, ![4, 1024]⟩
abbrev S40 : Shape := ⟨1, ![40]⟩
abbrev S32 : Shape := ⟨1, ![32]⟩
abbrev S40x1 : Shape := ⟨2, ![40, 1]⟩
abbrev S40x512 : Shape := ⟨2, ![40, 512]⟩
abbrev S512x512 : Shape := ⟨2, ![512, 512]⟩
abbrev S32x32 : Shape := ⟨2, ![32, 32]⟩
abbrev S1x1024 : Shape := ⟨2, ![1, 1024]⟩
abbrev S64x8x512 : Shape := ⟨3, ![64, 8, 512]⟩
abbrev S64x32x128 : Shape := ⟨3, ![64, 32, 128]⟩
abbrev S512x1024 : Shape := ⟨2, ![512, 1024]⟩
abbrev S256x2048 : Shape := ⟨2, ![256, 2048]⟩
abbrev S1x8x512 : Shape := ⟨3, ![1, 8, 512]⟩
abbrev S1x32x128 : Shape := ⟨3, ![1, 32, 128]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S4x512 : Shape := ⟨2, ![4, 512]⟩
abbrev S1x512 : Shape := ⟨2, ![1, 512]⟩
abbrev S32x512 : Shape := ⟨2, ![32, 512]⟩
abbrev S32x1 : Shape := ⟨2, ![32, 1]⟩
abbrev S32x128 : Shape := ⟨2, ![32, 128]⟩
abbrev S8x512 : Shape := ⟨2, ![8, 512]⟩

abbrev nBuf : Space → Nat
  | .hbm => 73
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S32768x1024, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S3072x2048, .bf16⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x4x8, .f32⟩
  | .hbm, ⟨12, _⟩ => ⟨S4x8, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S_, .f32⟩
  | .hbm, ⟨17, _⟩ => ⟨S40x1024, .f32⟩
  | .hbm, ⟨18, _⟩ => ⟨S1024x32, .f32⟩
  | .hbm, ⟨19, _⟩ => ⟨S32x1024, .f32⟩
  | .hbm, ⟨20, _⟩ => ⟨S_, .i32⟩
  | .hbm, ⟨21, _⟩ => ⟨S1, .i32⟩
  | .hbm, ⟨22, _⟩ => ⟨S40x1024, .f32⟩
  | .hbm, ⟨23, _⟩ => ⟨S4x1024, .f32⟩
  | .hbm, ⟨24, _⟩ => ⟨S_, .i32⟩
  | .hbm, ⟨25, _⟩ => ⟨S1, .i32⟩
  | .hbm, ⟨26, _⟩ => ⟨S40x1024, .f32⟩
  | .hbm, ⟨27, _⟩ => ⟨S_, .f32⟩
  | .hbm, ⟨28, _⟩ => ⟨S40, .f32⟩
  | .hbm, ⟨29, _⟩ => ⟨S32, .f32⟩
  | .hbm, ⟨30, _⟩ => ⟨S_, .i32⟩
  | .hbm, ⟨31, _⟩ => ⟨S1, .i32⟩
  | .hbm, ⟨32, _⟩ => ⟨S40, .f32⟩
  | .hbm, ⟨33, _⟩ => ⟨S_, .i32⟩
  | .hbm, ⟨34, _⟩ => ⟨S1, .i32⟩
  | .hbm, ⟨35, _⟩ => ⟨S40, .f32⟩
  | .hbm, ⟨36, _⟩ => ⟨S40x1024, .bf16⟩
  | .hbm, ⟨37, _⟩ => ⟨S40x1024, .f32⟩
  | .hbm, ⟨38, _⟩ => ⟨S40x1024, .f32⟩
  | .hbm, ⟨39, _⟩ => ⟨S40x1024, .bf16⟩
  | .hbm, ⟨40, _⟩ => ⟨S40x1, .f32⟩
  | .hbm, ⟨41, _⟩ => ⟨S40x512, .f32⟩
  | .hbm, ⟨42, _⟩ => ⟨S_, .f32⟩
  | .hbm, ⟨43, _⟩ => ⟨S512x512, .f32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .bf16⟩
  | .hbm, ⟨54, _⟩ => ⟨S_, .f32⟩
  | .hbm, ⟨55, _⟩ => ⟨S32x32, .f32⟩
  | .hbm, ⟨56, _⟩ => ⟨S32x32, .i32⟩
  | .hbm, ⟨57, _⟩ => ⟨S_, .i32⟩
  | .hbm, ⟨58, _⟩ => ⟨S32x32, .i32⟩
  | .hbm, ⟨59, _⟩ => ⟨S32x32, .i32⟩
  | .hbm, ⟨60, _⟩ => ⟨S32x32, .i32⟩
  | .hbm, ⟨61, _⟩ => ⟨S32x32, .i1⟩
  | .hbm, ⟨62, _⟩ => ⟨S_, .f32⟩
  | .hbm, ⟨63, _⟩ => ⟨S32x32, .f32⟩
  | .hbm, ⟨64, _⟩ => ⟨S32x32, .f32⟩
  | .hbm, ⟨65, _⟩ => ⟨S32x32, .bf16⟩
  | .hbm, ⟨66, _⟩ => ⟨S1x1024, .f32⟩
  | .hbm, ⟨67, _⟩ => ⟨S1x1024, .f32⟩
  | .hbm, ⟨68, _⟩ => ⟨S32768x1024, .f32⟩
  | .hbm, ⟨69, _⟩ => ⟨S32768x1024, .bf16⟩
  | .hbm, ⟨70, _⟩ => ⟨S64x8x512, .i32⟩
  | .hbm, ⟨71, _⟩ => ⟨S64x8x512, .f32⟩
  | .hbm, ⟨72, _⟩ => ⟨S64x32x128, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x2048, .bf16⟩
  | .local _ .vmem, ⟨10, _⟩ => ⟨S256x2048, .bf16⟩
  | .local _ .vmem, ⟨11, _⟩ => ⟨S1024x1024, .bf16⟩
  | .local _ .vmem, ⟨12, _⟩ => ⟨S1x1024, .f32⟩
  | .local _ .vmem, ⟨13, _⟩ => ⟨S40x1024, .bf16⟩
  | .local _ .vmem, ⟨14, _⟩ => ⟨S40x1024, .bf16⟩
  | .local _ .vmem, ⟨15, _⟩ => ⟨S40x512, .f32⟩
  | .local _ .vmem, ⟨16, _⟩ => ⟨S512x512, .bf16⟩
  | .local _ .vmem, ⟨17, _⟩ => ⟨S32x32, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x8x512, .i32⟩
  | .local _ .vmem, ⟨23, _⟩ => ⟨S1x8x512, .i32⟩
  | .local _ .vmem, ⟨24, _⟩ => ⟨S1x8x512, .f32⟩
  | .local _ .vmem, ⟨25, _⟩ => ⟨S1x8x512, .f32⟩
  | .local _ .vmem, ⟨26, _⟩ => ⟨S1x32x128, .i32⟩
  | .local _ .vmem, ⟨27, _⟩ => ⟨S1x32x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_cst : Ref sig .tc := ⟨.hbm, 50, rfl⟩
abbrev main_call0_v5 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_cst : Ref sig .tc := ⟨.hbm, 62, rfl⟩
abbrev main_call1_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31_0 : Ref sig .tc := ⟨.hbm, 68, rfl⟩
abbrev main_v31_1 : Ref sig .tc := ⟨.hbm, 69, rfl⟩
abbrev main_v31_2 : Ref sig .tc := ⟨.hbm, 70, rfl⟩
abbrev main_v31_3 : Ref sig .tc := ⟨.hbm, 71, rfl⟩
abbrev main_v31_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c2048_i32 : BitVec 32 := 2048#32
  let v2 : BitVec 32 := Scalar.divsi v0 c2048_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v0 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c8_i32 : BitVec 32 := 8#32
  let v37 : BitVec 32 := Scalar.addi c8_i32 v36
  let v38 : BitVec 32 := Scalar.select v1 v18 v37
  let c0_i32_11 : BitVec 32 := 0#32
  let c0_i32_12 : BitVec 32 := 0#32
  ![v38.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x128 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== AttentionReferenceIdeal.lean ====
abbrev S16384x1024 : Shape := ⟨2, ![16384, 1024]⟩
abbrev S32768x1024 : Shape := ⟨2, ![32768, 1024]⟩
abbrev S1024x1024 : Shape := ⟨2, ![1024, 1024]⟩
abbrev S1024 : Shape := ⟨1, ![1024]⟩
abbrev S3072x2048 : Shape := ⟨2, ![3072, 2048]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S8x2048x1024 : Shape := ⟨3, ![8, 2048, 1024]⟩
abbrev S2048x2048 : Shape := ⟨2, ![2048, 2048]⟩
abbrev S8x256x2048 : Shape := ⟨3, ![8, 256, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S4x4096x1024 : Shape := ⟨3, ![4, 4096, 1024]⟩
abbrev S1024x2048 : Shape := ⟨2, ![1024, 2048]⟩
abbrev S4x256x2048 : Shape := ⟨3, ![4, 256, 2048]⟩
abbrev S4x4096 : Shape := ⟨2, ![4, 4096]⟩
abbrev S4x4096x1 : Shape := ⟨3, ![4, 4096, 1]⟩
abbrev S4x4096x4x256 : Shape := ⟨4, ![4, 4096, 4, 256]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 158
  | .vmem => 0
  | .smem => 0
  | _ => 0

abbrev hbmTy0_0 (i : Nat) : BufTy := match i % 128 with
  | 0 => ⟨S16384x1024, .f32⟩
  | 1 => ⟨S16384x1024, .f32⟩
  | 2 => ⟨S32768x1024, .bf16⟩
  | 3 => ⟨S1024x1024, .f32⟩
  | 4 => ⟨S1024, .f32⟩
  | 5 => ⟨S1024x1024, .f32⟩
  | 6 => ⟨S3072x2048, .bf16⟩
  | 7 => ⟨S1024x1024, .f32⟩
  | 8 => ⟨S1024, .f32⟩
  | 9 => ⟨S1024x4, .f32⟩
  | 10 => ⟨S4, .f32⟩
  | 11 => ⟨S1024x4x8, .f32⟩
  | 12 => ⟨S4x8, .f32⟩
  | 13 => ⟨S32768x1024, .f32⟩
  | 14 => ⟨S3072x2048, .f32⟩
  | 15 => ⟨S8x2048x1024, .f32⟩
  | 16 => ⟨S16384x1024, .f32⟩
  | 17 => ⟨S8x2048x1024, .f32⟩
  | 18 => ⟨S2048x2048, .f32⟩
  | 19 => ⟨S8x256x2048, .f32⟩
  | 20 => ⟨S8x2048x1024, .f32⟩
  | 21 => ⟨S8x2048x1024, .f32⟩
  | 22 => ⟨S8x2048x1024, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x1, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x4x256, .f32⟩
  | 40 => ⟨S8x256x1024, .f32⟩
  | 41 => ⟨S8x256x1024, .f32⟩
  | 42 => ⟨S8x256x4x256, .f32⟩
  | 43 => ⟨S8x256x4x256, .f32⟩
  | 44 => ⟨S8x4x2048x256, .f32⟩
  | 45 => ⟨S_, .f32⟩
  | 46 => ⟨S8x4x2048x256, .f32⟩
  | 47 => ⟨S8x4x2048x256, .f32⟩
  | 48 => ⟨S_, .f32⟩
  | 49 => ⟨S8x4x2048, .f32⟩
  | 50 => ⟨S_, .f32⟩
  | 51 => ⟨S8x4x2048, .f32⟩
  | 52 => ⟨S8x4x2048, .f32⟩
  | 53 => ⟨S8x4x2048x1, .f32⟩
  | 54 => ⟨S8x4x2048x256, .f32⟩
  | 55 => ⟨S8x4x2048x256, .f32⟩
  | 56 => ⟨S8x4x2048x256, .f32⟩
  | 57 => ⟨S_, .f32⟩
  | 58 => ⟨S8x4x2048, .f32⟩
  | 59 => ⟨S8x4x2048x1, .f32⟩
  | 60 => ⟨S8x4x2048x256, .f32⟩
  | 61 => ⟨S8x4x2048x256, .f32⟩
  | 62 => ⟨S8x4x256x2048, .f32⟩
  | 63 => ⟨S8x2048x4x256, .f32⟩
  | 64 => ⟨S8x2048x1024, .f32⟩
  | 65 => ⟨S8x2048x1024, .f32⟩
  | 66 => ⟨S8x2048x1024, .f32⟩
  | 67 => ⟨S8x2048x1024, .f32⟩
  | 68 => ⟨S_, .f32⟩
  | 69 => ⟨S8x2048, .f32⟩
  | 70 => ⟨S8x2048x1, .f32⟩
  | 71 => ⟨S_, .f32⟩
  | 72 => ⟨S8x2048x1, .f32⟩
  | 73 => ⟨S8x2048x1, .f32⟩
  | 74 => ⟨S_, .f32⟩
  | 75 => ⟨S8x2048x1, .f32⟩
  | 76 => ⟨S8x2048x1, .f32⟩
  | 77 => ⟨S8x2048x1, .f32⟩
  | 78 => ⟨S8x2048x1024, .f32⟩
  | 79 => ⟨S8x2048x1024, .f32⟩
  | 80 => ⟨S1x1x1024, .f32⟩
  | 81 => ⟨S8x2048x1024, .f32⟩
  | 82 => ⟨S8x2048x1024, .f32⟩
  | 83 => ⟨S4x4096x1024, .f32⟩
  | 84 => ⟨S16384x1024, .f32⟩
  | 85 => ⟨S4x4096x1024, .f32⟩
  | 86 => ⟨S1024x2048, .f32⟩
  | 87 => ⟨S4x256x2048, .f32⟩
  | 88 => ⟨S4x4096x1024, .f32⟩
  | 89 => ⟨S4x4096x1024, .f32⟩
  | 90 => ⟨S4x4096x1024, .f32⟩
  | 91 => ⟨S_, .f32⟩
  | 92 => ⟨S4x4096, .f32⟩
  | 93 => ⟨S4x4096x1, .f32⟩
  | 94 => ⟨S_, .f32⟩
  | 95 => ⟨S4x4096x1, .f32⟩
  | 96 => ⟨S4x4096x1, .f32⟩
  | 97 => ⟨S_, .f32⟩
  | 98 => ⟨S4x4096x1, .f32⟩
  | 99 => ⟨S4x4096x1, .f32⟩
  | 100 => ⟨S4x4096x1, .f32⟩
  | 101 => ⟨S4x4096x1024, .f32⟩
  | 102 => ⟨S4x4096x1024, .f32⟩
  | 103 => ⟨S1x1x1024, .f32⟩
  | 104 => ⟨S4x4096x1024, .f32⟩
  | 105 => ⟨S4x4096x1024, .f32⟩
  | 106 => ⟨S4x4096x1024, .f32⟩
  | 107 => ⟨S4x4096x4x256, .f32⟩
  | 108 => ⟨S4x256x1024, .f32⟩
  | 109 => ⟨S4x256x1024, .f32⟩
  | 110 => ⟨S4x256x4x256, .f32⟩
  | 111 => ⟨S4x256x4x256, .f32⟩
  | 112 => ⟨S4x4x4096x256, .f32⟩
  | 113 => ⟨S_, .f32⟩
  | 114 => ⟨S4x4x4096x256, .f32⟩
  | 115 => ⟨S4x4x4096x256, .f32⟩
  | 116 => ⟨S_, .f32⟩
  | 117 => ⟨S4x4x4096, .f32⟩
  | 118 => ⟨S_, .f32⟩
  | 119 => ⟨S4x4x4096, .f32⟩
  | 120 => ⟨S4x4x4096, .f32⟩
  | 121 => ⟨S4x4x4096x1, .f32⟩
  | 122 => ⟨S4x4x4096x256, .f32⟩
  | 123 => ⟨S4x4x4096x256, .f32⟩
  | 124 => ⟨S4x4x4096x256, .f32⟩
  | 125 => ⟨S_, .f32⟩
  | 126 => ⟨S4x4x4096, .f32⟩
  | 127 => ⟨S4x4x4096x1, .f32⟩
  | _ => ⟨S16384x1024, .f32⟩

abbrev hbmTy0_1 (i : Nat) : BufTy := match i % 128 with
  | 0 => ⟨S4x4x4096x256, .f32⟩
  | 1 => ⟨S4x4x4096x256, .f32⟩
  | 2 => ⟨S4x4x256x4096, .f32⟩
  | 3 => ⟨S4x4096x4x256, .f32⟩
  | 4 => ⟨S4x4096x1024, .f32⟩
  | 5 => ⟨S4x4096x1024, .f32⟩
  | 6 => ⟨S4x4096x1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S16384x1024, .f32⟩
  | 24 => ⟨S16384x1024, .f32⟩
  | 25 => ⟨S32768x1024, .f32⟩
  | 26 => ⟨S16384x1024, .f32⟩
  | 27 => ⟨S16384x1024, .f32⟩
  | 28 => ⟨S32768x1024, .f32⟩
  | 29 => ⟨S32768x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_12 : Ref sig .tc := ⟨.hbm, 113, rfl⟩
abbrev main_v87 : Ref sig .tc := ⟨.hbm, 114, rfl⟩
abbrev main_v88 : Ref sig .tc := ⟨.hbm, 115, rfl⟩
abbrev main_cst_13 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_16 : Ref sig .tc := ⟨.hbm, 136, rfl⟩
abbrev main_v106 : Ref sig .tc := ⟨.hbm, 137, rfl⟩
abbrev main_v107 : Ref sig .tc := ⟨.hbm, 138, rfl⟩
abbrev main_cst_17 : Ref sig .tc := ⟨.hbm, 139, rfl⟩
abbrev main_v108 : Ref sig .tc := ⟨.hbm, 140, rfl⟩
abbrev main_v109 : Ref sig .tc := ⟨.hbm, 141, rfl⟩
abbrev main_cst_18 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]
-- ==== Memory.lean ====
abbrev S2048x1024 : Shape := ⟨2, ![2048, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S3072x2048 : Shape := ⟨2, ![3072, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S3072x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryReferenceIdeal.lean ====
abbrev S2048x1024 : Shape := ⟨2, ![2048, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩
abbrev S1024x1 : Shape := ⟨2, ![1024, 1]⟩
abbrev S3072x2048 : Shape := ⟨2, ![3072, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x2048, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1024x2048, .f32⟩
  | .hbm, ⟨38, _⟩ => ⟨S3072x2048, .f32⟩
  | .hbm, ⟨39, _⟩ => ⟨S3072x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Math.lean ====
/- The mathematics of the layer, one token's row at a time, on the extended reals. Nothing here mentions a program:
   the kernel's blocks and the reference's arrays are both read as these functions of their argument arrays. -/
module

public import Idealize.ShloMosaic.PureOps.Ideal.Laws
public import Mathlib.Data.EReal.Inv

@[expose] public section

noncomputable section

namespace Layer

open Idealize.ShloMosaic
open scoped BigOperators

/-- A token's row of 1024 features. -/
abbrev Row := Fin 1024 → EReal

/-- The root-mean-square norm of a row, scaled feature by feature. -/
def rms (x g : Row) : Row := fun k =>
  x k * Ideal.rsqrt (Ideal.div (∑ a, x a * x a) (Ideal.ofBits .f32 1149239296#32) + Ideal.ofBits .f32 897988541#32) * g k

/-- A row times a matrix. -/
def lin {K N : ℕ} (x : Fin K → EReal) (w : Fin K → Fin N → EReal) : Fin N → EReal := fun j => ∑ k, x k * w k j

/-- The input projection of the convolution mixer: gate, and the two factors whose product is convolved. -/
def proj (x gmix : Row) (win : Fin 1024 → Fin 3072 → EReal) : Fin 3072 → EReal := lin (rms x gmix) win

/-- The output gate: the first third of the projection. -/
def gate (x gmix : Row) (win : Fin 1024 → Fin 3072 → EReal) : Row := fun k => proj x gmix win ⟨k.val, by omega⟩

/-- The convolved signal: the product of the projection's second and last thirds. -/
def signal (x gmix : Row) (win : Fin 1024 → Fin 3072 → EReal) : Row := fun k =>
  proj x gmix win ⟨1024 + k.val, by omega⟩ * proj x gmix win ⟨2048 + k.val, by omega⟩

/-- The gated three-tap convolution at a token whose neighbours' signals are `zp` and `zn`. -/
def conv (b zp zc zn : Row) (cw : Fin 3 → Row) : Row := fun k =>
  b k * (zp k * cw 0 k + zc k * cw 1 k + zn k * cw 2 k)

/-- The mixer's result: the token plus the projected convolution. -/
def mixed (x gmix : Row) (win : Fin 1024 → Fin 3072 → EReal) (cw : Fin 3 → Row) (wout : Fin 1024 → Row) (zp zn : Row) : Row :=
  fun j => x j + lin (conv (gate x gmix win) zp (signal x gmix win) zn cw) wout j

/-- A token's row after the projected mixer's row is added. -/
def added (x y : Row) (w : Fin 1024 → Row) : Row := fun j => x j + lin y w j

/-- The feature `256 h + d`. -/
def feat (h : Fin 4) (d : Fin 256) : Fin 1024 := ⟨256 * h.val + d.val, by omega⟩

/-- A softmax over a row of scores, the maximum subtracted first. -/
def softmax {n : ℕ} (s : Fin n → EReal) : Fin n → EReal := fun c =>
  Ideal.div (Ideal.exp (s c - Finset.fold max (Ideal.ofBits .f32 4286578688#32) s Finset.univ))
    (∑ c', Ideal.exp (s c' - Finset.fold max (Ideal.ofBits .f32 4286578688#32) s Finset.univ))

/-- A head's scaled scores of a query against the memory's 256 keys. -/
def scores (q : Row) (kv : Fin 256 → Fin 2048 → EReal) (h : Fin 4) : Fin 256 → EReal := fun c =>
  (∑ d, q (feat h d) * kv c ⟨256 * h.val + d.val, by omega⟩) * Ideal.ofBits .f32 1031798784#32

/-- The memory's values weighed by the softmax of the scores. -/
def attend (q : Row) (kv : Fin 256 → Fin 2048 → EReal) (h : Fin 4) : Fin 256 → EReal := fun d =>
  ∑ c, softmax (scores q kv h) c * kv c ⟨1024 + (256 * h.val + d.val), by omega⟩

/-- The four heads side by side. -/
def attended (q : Row) (kv : Fin 256 → Fin 2048 → EReal) : Row := fun j =>
  attend q kv ⟨j.val / 256, by omega⟩ ⟨j.val % 256, by omega⟩

/-- The cross attention's result: the mixed token plus the projected attention. -/
def crossed (mix g : Row) (wq : Fin 1024 → Row) (kv : Fin 256 → Fin 2048 → EReal) (wo : Fin 1024 → Row) : Row := fun j =>
  mix j + lin (attended (lin (rms mix g) wq) kv) wo j

/-- The length of the sequence a token lies in: the first 16384 tokens are eight sequences, the rest four. -/
def seq (R : Fin 32768) : ℕ := if R.val < 16384 then 2048 else 4096

/-- The memory of a token's sequence: 256 rows of the joined memories. -/
def memory (kv : Fin 3072 → Fin 2048 → EReal) (R : Fin 32768) : Fin 256 → Fin 2048 → EReal := fun c n =>
  kv ⟨256 * (if R.val < 16384 then R.val / 2048 else 8 + (R.val - 16384) / 4096) + c.val, by split <;> omega⟩ n

/-- The mixer's result for every token: a token at its sequence's edge has a zero neighbour. -/
def mixedToken (X : Fin 32768 → Row) (gmix : Row) (win : Fin 1024 → Fin 3072 → EReal) (cw : Fin 3 → Row) (wout : Fin 1024 → Row)
    (R : Fin 32768) : Row :=
  mixed (X R) gmix win cw wout
    (fun k => if R.val % seq R = 0 then 0 else signal (X ⟨R.val - 1, by omega⟩) gmix win k)
    (fun k => if (R.val + 1) % seq R = 0 then 0 else signal (X ⟨(R.val + 1) % 32768, by omega⟩) gmix win k)

/-- The layer's result for every token: the mixer, then the attention to the sequence's memory. -/
def token (X : Fin 32768 → Row) (gmix : Row) (win : Fin 1024 → Fin 3072 → EReal) (cw : Fin 3 → Row) (wout : Fin 1024 → Row)
    (gx : Row) (wq : Fin 1024 → Row) (kv : Fin 3072 → Fin 2048 → EReal) (wo : Fin 1024 → Row) (R : Fin 32768) : Row :=
  crossed (mixedToken X gmix win cw wout R) gx wq (memory kv R) wo

/-- The fold's start may be joined once more. -/
theorem max_fold {n : ℕ} (b : EReal) (f : Fin n → EReal) : max b (Finset.fold max b f Finset.univ) = Finset.fold max b f Finset.univ :=
  max_eq_right ((Finset.le_fold_max _).mpr (Or.inl le_rfl))

/-- The scale of the scores as a real number. -/
theorem scale_eq : Ideal.ofBits .f32 1031798784#32 = ((1 / 16 : ℝ) : EReal) := by
  simp [Ideal.ofBits, Ideal.ieee, -EReal.coe_mul]; norm_num

/-- The scale may be put on the query before the product with the keys. -/
theorem sum_scale {n : ℕ} (a b : Fin n → EReal) :
    ∑ d, a d * Ideal.ofBits .f32 1031798784#32 * b d = (∑ d, a d * b d) * Ideal.ofBits .f32 1031798784#32 := by
  rw [scale_eq]
  have key : ∀ s : Finset (Fin n), ∑ d ∈ s, a d * ((1 / 16 : ℝ) : EReal) * b d = (∑ d ∈ s, a d * b d) * ((1 / 16 : ℝ) : EReal) := by
    intro s
    induction s using Finset.induction_on with
    | empty => simp
    | insert x s hx ih =>
      rw [Finset.sum_insert hx, Finset.sum_insert hx, ih,
        EReal.right_distrib_of_nonneg_of_ne_top (by exact_mod_cast (by norm_num : (0:ℝ) ≤ 1 / 16)) (EReal.coe_ne_top _),
        mul_right_comm]
  exact key Finset.univ

end Layer

end
-- ==== Proof.Block.lean ====
/- What the kernel's body computes for one block of 512 tokens, element by element: each payload of the body read at an
   index as one of the layer's row functions (`Proof.Math`). -/
module

public import proofs.«01_k».proof.Proof.Math
public import proofs.«01_k».proof.Proof.Gen.KernelIdeal.Skeleton
public import Idealize.ShloMosaic.Lib.Pointwise

@[expose] public section

noncomputable section

namespace Cert.KernelIdeal.Block

open Cert.KernelIdeal Cert.KernelIdeal.Gen Idealize.ShloMosaic Layer
open scoped BigOperators

/-- The input projection at row `r` of the extended block. -/
theorem pay6_apply (x : FVec Ideal S528x1024 .f32) (g : FVec Ideal S1x1024 .f32) (w : Vec Ideal S1024x3072 .bf16)
    (r : Fin 528) (j : Fin 3072) :
    k0_pay6 x g (mulf x x) w (ix2 r j) = proj (fun k => x (ix2 r k)) (fun k => g (ix2 0 k)) (fun k n => w (ix2 k n)) j := by
  unfold k0_pay6 proj lin rms
  pointwise [dot_S528x1024_S1024x3072_S528x3072_1_0_0_1_n_n]

/-- The convolved signal at row `r` of the extended block. -/
theorem pay7_apply (x : FVec Ideal S528x1024 .f32) (g : FVec Ideal S1x1024 .f32) (w : Vec Ideal S1024x3072 .bf16)
    (r : Fin 528) (j : Fin 1024) :
    k0_pay7 x g (mulf x x) w (ix2 r j) = signal (fun k => x (ix2 r k)) (fun k => g (ix2 0 k)) (fun k n => w (ix2 k n)) j := by
  unfold k0_pay7 signal
  pointwise [pay6_apply]

/-- The boundary mask: set exactly at row `a` when the neighbour's flag is off. -/
theorem mask_eq (f : BitVec 1) (a b : ℕ) (h : ∀ r : Fin 512, IntOp.cmpi .eq (BitVec.ofNat 32 (8 + r.val)) (BitVec.ofNat 32 b) = if r.val = a then 1#1 else 0#1)
    (r : Fin 512) :
    IntOp.andi (IntOp.cmpi .eq (BitVec.ofNat 32 (8 + r.val)) (BitVec.ofNat 32 b)) (Scalar.xori f 1#1)
      = if r.val = a ∧ f = 0#1 then 1#1 else 0#1 := by
  rw [h r]
  rcases BitVec.eq_zero_or_eq_one f with rfl | rfl <;> by_cases hr : r.val = a <;> simp [hr] <;> decide

/-- The signal of the row after, or zero at row 519 when the block's last token ends its sequence. -/
theorem pay8_apply (f : BitVec 1) (x : FVec Ideal S528x1024 .f32) (g : FVec Ideal S1x1024 .f32) (w : Vec Ideal S1024x3072 .bf16)
    (r : Fin 512) (j : Fin 1024) :
    k0_pay8 f x g (mulf x x) w (ix2 ⟨8 + r.val, by omega⟩ j)
      = if r.val = 511 ∧ f = 0#1 then 0
        else signal (fun k => x (ix2 ⟨9 + r.val, by omega⟩ k)) (fun k => g (ix2 0 k)) (fun k n => w (ix2 k n)) j := by
  unfold k0_pay8
  pointwise [pay7_apply]
  rw [mask_eq f 511 519 (by decide +kernel) r]
  have e : (⟨(8 + r.val + 528 - 527) % 528, Nat.mod_lt _ (by decide)⟩ : Fin 528) = ⟨9 + r.val, by omega⟩ :=
    Fin.ext (by show (8 + r.val + 528 - 527) % 528 = 9 + r.val; omega)
  rw [e]
  by_cases h : r.val = 511 ∧ f = 0#1
  · rw [if_pos h, if_pos h]; rfl
  · rw [if_neg h, if_neg h]; rfl

/-- The signal of the row before, or zero at row 8 when the block's first token begins its sequence, times the first tap. -/
theorem pay9_apply (f : BitVec 1) (x : FVec Ideal S528x1024 .f32) (g : FVec Ideal S1x1024 .f32) (w : Vec Ideal S1024x3072 .bf16)
    (cw : Vec Ideal S3x1024 .f32) (r : Fin 512) (j : Fin 1024) :
    k0_pay9 f x g (mulf x x) w cw (ix2 ⟨8 + r.val, by omega⟩ j)
      = (if r.val = 0 ∧ f = 0#1 then 0
        else signal (fun k => x (ix2 ⟨7 + r.val, by omega⟩ k)) (fun k => g (ix2 0 k)) (fun k n => w (ix2 k n)) j) * cw (ix2 0 j) := by
  unfold k0_pay9
  pointwise [pay7_apply]
  rw [mask_eq f 0 8 (by decide +kernel) r]
  have e : (⟨(8 + r.val + 528 - 1) % 528, Nat.mod_lt _ (by decide)⟩ : Fin 528) = ⟨7 + r.val, by omega⟩ :=
    Fin.ext (by show (8 + r.val + 528 - 1) % 528 = 7 + r.val; omega)
  rw [e]
  by_cases h : r.val = 0 ∧ f = 0#1
  · rw [if_pos h, if_pos h, zero_mul]; rfl
  · rw [if_neg h, if_neg h]; rfl

/-- The mixer's result at row `r`, from the extended block's projection and the two neighbours' signals. -/
theorem pay11_apply (x : Vec Ideal S512x1024 .f32) (p : FVec Ideal S528x3072 .f32) (z zn : FVec Ideal S528x1024 .f32)
    (cw : Vec Ideal S3x1024 .f32) (zp1 : FVec Ideal S528x1024 .f32) (w : Vec Ideal S1024x1024 .bf16) (r : Fin 512) (j : Fin 1024) :
    k0_pay11 x p z zn cw zp1 (k0_pay10 cw) w (ix2 r j)
      = x (ix2 r j) + ∑ k : Fin 1024, p (ix2 ⟨8 + r.val, by omega⟩ ⟨k.val, by omega⟩)
          * (zp1 (ix2 ⟨8 + r.val, by omega⟩ k) + z (ix2 ⟨8 + r.val, by omega⟩ k) * cw (ix2 1 k) + zn (ix2 ⟨8 + r.val, by omega⟩ k) * cw (ix2 2 k))
          * w (ix2 k j) := by
  unfold k0_pay11 k0_pay10
  pointwise [dot_S512x1024_S1024x1024_S512x1024_1_0_0_1_n_n]

/-- The scaled query at row `r`. -/
theorem pay12_apply (x : Vec Ideal S512x1024 .f32) (p : FVec Ideal S528x3072 .f32) (z zn : FVec Ideal S528x1024 .f32)
    (cw : Vec Ideal S3x1024 .f32) (zp1 cw1 : FVec Ideal S528x1024 .f32) (w : Vec Ideal S1024x1024 .bf16)
    (g : Vec Ideal S1x1024 .f32) (wq : Vec Ideal S1024x1024 .bf16) (r : Fin 512) (j : Fin 1024) :
    k0_pay12 x p z zn cw zp1 cw1 w g wq (ix2 r j)
      = lin (rms (fun k => k0_pay11 x p z zn cw zp1 cw1 w (ix2 r k)) (fun k => g (ix2 0 k))) (fun k n => wq (ix2 k n)) j
          * Ideal.ofBits .f32 1031798784#32 := by
  unfold k0_pay12 lin rms
  pointwise [dot_S512x1024_S1024x1024_S512x1024_1_0_0_1_n_n]

/-- The second head's attention at row `r`. -/
theorem pay15_apply (q : FVec Ideal S512x1024 .bf16) (k v : Vec Ideal S256x256 .bf16) (r : Fin 512) (d : Fin 256) :
    k0_pay15 q k v (ix2 r d)
      = ∑ c, softmax (fun c => ∑ e : Fin 256, q (ix2 r ⟨256 + e.val, by omega⟩) * k (ix2 c e)) c * v (ix2 c d) := by
  unfold k0_pay15 softmax
  pointwise [dot_S512x256_S256x256_S512x256_1_1_0_0_n_n, dot_S512x256_S256x256_S512x256_1_0_0_1_n_n]

/-- The third head's attention at row `r`. -/
theorem pay16_apply (q : FVec Ideal S512x1024 .bf16) (k v : Vec Ideal S256x256 .bf16) (r : Fin 512) (d : Fin 256) :
    k0_pay16 q k v (ix2 r d)
      = ∑ c, softmax (fun c => ∑ e : Fin 256, q (ix2 r ⟨512 + e.val, by omega⟩) * k (ix2 c e)) c * v (ix2 c d) := by
  unfold k0_pay16 softmax
  pointwise [dot_S512x256_S256x256_S512x256_1_1_0_0_n_n, dot_S512x256_S256x256_S512x256_1_0_0_1_n_n]

/-- The first head's attention at row `r`. -/
theorem pay14_apply (x : Vec Ideal S512x1024 .f32) (p : FVec Ideal S528x3072 .f32) (z zn : FVec Ideal S528x1024 .f32)
    (cw : Vec Ideal S3x1024 .f32) (zp1 cw1 : FVec Ideal S528x1024 .f32) (w : Vec Ideal S1024x1024 .bf16)
    (g : Vec Ideal S1x1024 .f32) (wq : Vec Ideal S1024x1024 .bf16) (k v : Vec Ideal S256x256 .bf16) (r : Fin 512) (d : Fin 256) :
    k0_pay14 (k0_pay13 x p z zn cw zp1 cw1 w g wq k) v (ix2 r d)
      = ∑ c, softmax (fun c => ∑ e : Fin 256, k0_pay12 x p z zn cw zp1 cw1 w g wq (ix2 r ⟨e.val, by omega⟩) * k (ix2 c e)) c
          * v (ix2 c d) := by
  unfold k0_pay14 k0_pay13 softmax
  pointwise [dot_S512x256_S256x256_S512x256_1_1_0_0_n_n, dot_S512x256_S256x256_S512x256_1_0_0_1_n_n]

/-- The token's result: the mixed token plus the four heads' attention side by side, projected. -/
theorem pay18_apply (y : FVec Ideal S512x1024 .f32) (h0 h1 h2 : FVec Ideal S512x256 .f32) (q : FVec Ideal S512x1024 .bf16)
    (k v : Vec Ideal S256x256 .bf16) (wo : Vec Ideal S1024x1024 .bf16) (r : Fin 512) (j : Fin 1024) :
    k0_pay18 y h0 h1 h2 (k0_pay17 q) k v wo (ix2 r j)
      = y (ix2 r j) + ∑ n : Fin 1024,
          (if h : n.val < 256 then h0 (ix2 r ⟨n.val, h⟩)
           else if h : n.val - 256 < 256 then h1 (ix2 r ⟨n.val - 256, h⟩)
           else if h : n.val - 256 - 256 < 256 then h2 (ix2 r ⟨n.val - 256 - 256, h⟩)
           else ∑ c, softmax (fun c => ∑ e : Fin 256, q (ix2 r ⟨768 + e.val, by omega⟩) * k (ix2 c e)) c
            * v (ix2 c ⟨n.val - 256 - 256 - 256, by omega⟩)) * wo (ix2 n j) := by
  unfold k0_pay18 k0_pay17 softmax
  pointwise [dot_S512x1024_S1024x1024_S512x1024_1_0_0_1_n_n, dot_S512x256_S256x256_S512x256_1_1_0_0_n_n, dot_S512x256_S256x256_S512x256_1_0_0_1_n_n]

/-- The normalised result at row `r`. -/
theorem pay20_apply (y : FVec Ideal S512x1024 .f32) (h0 h1 h2 : FVec Ideal S512x256 .f32) (q : FVec Ideal S512x256 .bf16)
    (k v : Vec Ideal S256x256 .bf16) (wo : Vec Ideal S1024x1024 .bf16) (g : Vec Ideal S1x1024 .f32) (r : Fin 512) (j : Fin 1024) :
    k0_pay20 y h0 h1 h2 q k v wo g (ix2 r j)
      = rms (fun n => k0_pay18 y h0 h1 h2 q k v wo (ix2 r n)) (fun n => g (ix2 0 n)) j := by
  unfold k0_pay20 k0_pay19 rms
  pointwise

end Cert.KernelIdeal.Block

end
-- ==== Proof.Point.lean ====
/- What one grid point of the kernel writes: the block's two results at row `r`, from the point's input blocks, as the
   layer's row functions. -/
module

public import proofs.«01_k».proof.Proof.Block
public import proofs.«01_k».proof.Proof.Gen.KernelIdeal.Frame

@[expose] public section

noncomputable section

namespace Cert.KernelIdeal.Block

open Cert.KernelIdeal Cert.KernelIdeal.Gen Idealize.ShloMosaic Layer
open scoped BigOperators

/-- The tokens of a point's group in one sequence. -/
def seqLen (i : grid0.Coords) : ℕ := if (i 0).val < 32 then 2048 else 4096

/-- Whether the token after the block belongs to the block's sequence. -/
def nextFlag (i : grid0.Coords) : BitVec 1 := if ((i 0).val * 512 + 512) % seqLen i = 0 then 0#1 else 1#1

/-- Whether the token before the block belongs to the block's sequence. -/
def prevFlag (i : grid0.Coords) : BitVec 1 := if ((i 0).val * 512) % seqLen i = 0 then 0#1 else 1#1

variable (i : grid0.Coords) (x0 : Vec Ideal S8x1024 .f32) (x1 : Vec Ideal S512x1024 .f32) (x2 : Vec Ideal S8x1024 .f32)
  (x3 : Vec Ideal S1x1024 .f32) (x4 : Vec Ideal S1024x3072 .bf16) (x5 : Vec Ideal S3x1024 .f32) (x6 : Vec Ideal S1024x1024 .bf16)
  (x7 : Vec Ideal S1x1024 .f32) (x8 : Vec Ideal S1024x1024 .bf16) (x9 : Vec Ideal S256x2048 .bf16) (x10 : Vec Ideal S1024x1024 .bf16)
  (x11 : Vec Ideal S1x1024 .f32) (x12 : Vec Ideal S40x1024 .bf16) (x13 : Vec Ideal S40x1024 .bf16) (x14 : Vec Ideal S40x512 .f32)
  (x15 : Vec Ideal S512x512 .bf16) (x16 : Vec Ideal S32x32 .bf16)

/-- The shifted-up signal is masked by the next block's flag. -/
theorem pay50_eq : k0_pay50 i x0 x1 x2 x3 x4 x5 x6 x7 x8 x9 x10 x11 x12 x13 x14 x15 x16
    = k0_pay8 (nextFlag i) (k0_pay3 x1 x0 x2) x3 (mulf (k0_pay3 x1 x0 x2) (k0_pay3 x1 x0 x2)) x4 := by
  unfold k0_pay50 k0_pay45 k0_pay46 k0_pay47 k0_pay4 k0_pay5
  rw [View.ld_unit_zero (S := S512x1024) (by decide), View.ld_unit_zero (S := S8x1024) (by decide), View.ld_unit_zero (S := S8x1024) (by decide),
    View.ld_unit_zero (S := S1x1024) (by decide), View.ld_unit_zero (S := S1024x3072) (by decide), shapeCast_self]
  congr 1
  unfold nextFlag seqLen
  generalize i 0 = n
  revert n
  decide +kernel

/-- The shifted-down signal is masked by the previous block's flag. -/
theorem pay51_eq : k0_pay51 i x0 x1 x2 x3 x4 x5 x6 x7 x8 x9 x10 x11 x12 x13 x14 x15 x16
    = k0_pay9 (prevFlag i) (k0_pay3 x1 x0 x2) x3 (mulf (k0_pay3 x1 x0 x2) (k0_pay3 x1 x0 x2)) x4 x5 := by
  unfold k0_pay51 k0_pay45 k0_pay46 k0_pay47 k0_pay4 k0_pay5
  rw [View.ld_unit_zero (S := S512x1024) (by decide), View.ld_unit_zero (S := S8x1024) (by decide), View.ld_unit_zero (S := S8x1024) (by decide),
    View.ld_unit_zero (S := S1x1024) (by decide), View.ld_unit_zero (S := S1024x3072) (by decide), View.ld_unit_zero (S := S3x1024) (by decide), shapeCast_self]
  congr 1
  unfold prevFlag seqLen
  generalize i 0 = n
  revert n
  decide +kernel

/-- The row before row `r` of the block. -/
def rowBefore (r : Fin 512) : Row := fun k =>
  if h : r.val = 0 then x0 (ix2 7 k) else x1 (ix2 ⟨r.val - 1, by omega⟩ k)

/-- The row after row `r` of the block. -/
def rowAfter (r : Fin 512) : Row := fun k =>
  if h : r.val = 511 then x2 (ix2 0 k) else x1 (ix2 ⟨r.val + 1, by omega⟩ k)

/-- The extended block's row 8 + r is the block's row r. -/
theorem ext_mid (r : Fin 512) (k : Fin 1024) : k0_pay3 x1 x0 x2 (ix2 ⟨8 + r.val, by omega⟩ k) = x1 (ix2 r k) := by
  unfold k0_pay3
  pointwise

/-- The extended block's row 7 + r is the row before the block's row r. -/
theorem ext_before (r : Fin 512) (k : Fin 1024) : k0_pay3 x1 x0 x2 (ix2 ⟨7 + r.val, by omega⟩ k) = rowBefore x0 x1 r k := by
  unfold k0_pay3 rowBefore
  pointwise
  by_cases h : r.val = 0
  · rw [dif_pos (by omega), dif_pos h]
    exact congrArg (fun a => x0 (ix2 a k)) (Fin.ext (by show 7 + r.val = 7; omega))
  · rw [dif_neg (by omega), dif_pos (by omega), dif_neg h]
    exact congrArg (fun a => x1 (ix2 a k)) (Fin.ext (by show 7 + r.val - 8 = r.val - 1; omega))

/-- The extended block's row 9 + r is the row after the block's row r. -/
theorem ext_after (r : Fin 512) (k : Fin 1024) : k0_pay3 x1 x0 x2 (ix2 ⟨9 + r.val, by omega⟩ k) = rowAfter x1 x2 r k := by
  unfold k0_pay3 rowAfter
  pointwise
  by_cases h : r.val = 511
  · rw [dif_neg (by omega), dif_neg (by omega), dif_pos h]
    exact congrArg (fun a => x2 (ix2 a k)) (Fin.ext (by show 9 + r.val - 8 - 512 = 0; omega))
  · rw [dif_neg (by omega), dif_pos (by omega), dif_neg h]
    exact congrArg (fun a => x1 (ix2 a k)) (Fin.ext (by show 9 + r.val - 8 = r.val + 1; omega))

/-- The mixer's result at row `r` of the point's block. -/
def mixedAt (r : Fin 512) : Row :=
  mixed (fun k => x1 (ix2 r k)) (fun k => x3 (ix2 0 k)) (fun k n => x4 (ix2 k n)) (fun a k => x5 (ix2 a k)) (fun k n => x6 (ix2 k n))
    (fun k => if r.val = 0 ∧ prevFlag i = 0#1 then 0
      else signal (rowBefore x0 x1 r) (fun k => x3 (ix2 0 k)) (fun k n => x4 (ix2 k n)) k)
    (fun k => if r.val = 511 ∧ nextFlag i = 0#1 then 0
      else signal (rowAfter x1 x2 r) (fun k => x3 (ix2 0 k)) (fun k n => x4 (ix2 k n)) k)

/-- The body's mixer computes it. -/
theorem pay53_apply (r : Fin 512) (j : Fin 1024) :
    k0_pay53 i x0 x1 x2 x3 x4 x5 x6 x7 x8 x9 x10 x11 x12 x13 x14 x15 x16 (ix2 r j) = mixedAt i x0 x1 x2 x3 x4 x5 x6 r j := by
  unfold k0_pay53 k0_pay52 k0_pay48 k0_pay49 k0_pay45 k0_pay46 k0_pay47 k0_pay4 k0_pay5
  rw [pay50_eq, pay51_eq, View.ld_unit_zero (S := S512x1024) (by decide), View.ld_unit_zero (S := S8x1024) (by decide), View.ld_unit_zero (S := S8x1024) (by decide),
    View.ld_unit_zero (S := S1x1024) (by decide), View.ld_unit_zero (S := S1024x3072) (by decide), View.ld_unit_zero (S := S3x1024) (by decide),
    View.ld_unit_zero (S := S1024x1024) (by decide), shapeCast_self, pay11_apply]
  unfold mixedAt mixed
  refine congrArg (_ + ·) (Finset.sum_congr rfl fun k _ => congrArg (· * _) ?_)
  unfold conv gate
  rw [pay6_apply, pay7_apply, pay8_apply, pay9_apply]
  simp only [ext_mid, ext_before, ext_after]

/-- A head's attention over scaled queries is the attention over the scaled scores. -/
theorem head_eq (q : Row) (kv : Fin 256 → Fin 2048 → EReal) (h : Fin 4) (d : Fin 256) (s : Fin 256 → EReal) (v : Fin 256 → EReal)
    (hs : ∀ c, s c = ∑ e : Fin 256, q (feat h e) * Ideal.ofBits .f32 1031798784#32 * kv c ⟨256 * h.val + e.val, by omega⟩)
    (hv : ∀ c, v c = kv c ⟨1024 + (256 * h.val + d.val), by omega⟩) :
    ∑ c, softmax s c * v c = attend q kv h d := by
  obtain rfl : s = scores q kv h := by
    funext c
    rw [hs, sum_scale]
    rfl
  exact Finset.sum_congr rfl fun c _ => congrArg (_ * ·) (hv c)

/-- The point's queries at row `r`, before the scale. -/
def queryAt (r : Fin 512) : Row :=
  lin (rms (mixedAt i x0 x1 x2 x3 x4 x5 x6 r) (fun k => x7 (ix2 0 k))) (fun k n => x8 (ix2 k n))

/-- The body's queries are those times the scale. -/
theorem pay54_apply (r : Fin 512) (n : Fin 1024) :
    k0_pay54 i x0 x1 x2 x3 x4 x5 x6 x7 x8 x9 x10 x11 x12 x13 x14 x15 x16 (ix2 r n)
      = queryAt i x0 x1 x2 x3 x4 x5 x6 x7 x8 r n * Ideal.ofBits .f32 1031798784#32 := by
  unfold k0_pay54
  rw [pay12_apply, View.ld_unit_zero (S := S1x1024) (by decide), View.ld_unit_zero (X := x8) (by decide)]
  show lin (rms (fun k => k0_pay53 i x0 x1 x2 x3 x4 x5 x6 x7 x8 x9 x10 x11 x12 x13 x14 x15 x16 (ix2 r k)) _) _ n * _ = _
  simp only [pay53_apply]
  rfl

/-- A 256-column window of the memory starting at column `o`. -/
theorem memory_cols (o : ℕ) (inb) (c e : Fin 256) (h : o + e.val < 2048) :
    View.ld x9 (Rect.unit (s := S256x2048) ![0, o] S256x256.size inb) (ix2 c e) = x9 (ix2 c ⟨o + e.val, h⟩) := by
  refine congrArg x9 (funext fun a => ?_)
  refine Fin.ext ?_
  match a with
  | 0 => show 0 + 1 * c.val = c.val; omega
  | 1 => show o + 1 * e.val = o + e.val; omega

/-- The first head. -/
theorem pay55_apply (r : Fin 512) (d : Fin 256) :
    k0_pay55 i x0 x1 x2 x3 x4 x5 x6 x7 x8 x9 x10 x11 x12 x13 x14 x15 x16 (ix2 r d)
      = attend (queryAt i x0 x1 x2 x3 x4 x5 x6 x7 x8 r) (fun c n => x9 (ix2 c n)) 0 d := by
  unfold k0_pay55
  rw [pay14_apply]
  refine head_eq _ _ _ _ _ _ (fun c => Finset.sum_congr rfl fun e _ => ?_) (fun c => ?_)
  · refine congrArg₂ (· * ·) ((pay54_apply i x0 x1 x2 x3 x4 x5 x6 x7 x8 x9 x10 x11 x12 x13 x14 x15 x16 r _).trans (congrArg (fun n => queryAt i x0 x1 x2 x3 x4 x5 x6 x7 x8 r n * _) (Fin.ext ?_))) ?_
    · show e.val = 256 * 0 + e.val; omega
    · exact (memory_cols x9 0 _ c e (by omega)).trans (congrArg (fun n => x9 (ix2 c n)) (Fin.ext (by show 0 + e.val = 256 * 0 + e.val; omega)))
  · exact (memory_cols x9 1024 _ c d (by omega)).trans (congrArg (fun n => x9 (ix2 c n)) (Fin.ext (by show 1024 + d.val = 1024 + (256 * 0 + d.val); omega)))

/-- The second head. -/
theorem pay56_apply (r : Fin 512) (d : Fin 256) :
    k0_pay56 i x0 x1 x2 x3 x4 x5 x6 x7 x8 x9 x10 x11 x12 x13 x14 x15 x16 (ix2 r d)
      = attend (queryAt i x0 x1 x2 x3 x4 x5 x6 x7 x8 r) (fun c n => x9 (ix2 c n)) 1 d := by
  unfold k0_pay56
  rw [pay15_apply]
  refine head_eq _ _ _ _ _ _ (fun c => Finset.sum_congr rfl fun e _ => ?_) (fun c => ?_)
  · refine congrArg₂ (· * ·) (pay54_apply i x0 x1 x2 x3 x4 x5 x6 x7 x8 x9 x10 x11 x12 x13 x14 x15 x16 r _) ?_
    exact memory_cols x9 256 _ c e (by omega)
  · exact (memory_cols x9 1280 _ c d (by omega)).trans (congrArg (fun n => x9 (ix2 c n)) (Fin.ext (by show 1280 + d.val = 1024 + (256 * 1 + d.val); omega)))

/-- The third head. -/
theorem pay57_apply (r : Fin 512) (d : Fin 256) :
    k0_pay57 i x0 x1 x2 x3 x4 x5 x6 x7 x8 x9 x10 x11 x12 x13 x14 x15 x16 (ix2 r d)
      = attend (queryAt i x0 x1 x2 x3 x4 x5 x6 x7 x8 r) (fun c n => x9 (ix2 c n)) 2 d := by
  unfold k0_pay57
  rw [pay16_apply]
  refine head_eq _ _ _ _ _ _ (fun c => Finset.sum_congr rfl fun e _ => ?_) (fun c => ?_)
  · refine congrArg₂ (· * ·) (pay54_apply i x0 x1 x2 x3 x4 x5 x6 x7 x8 x9 x10 x11 x12 x13 x14 x15 x16 r _) ?_
    exact memory_cols x9 512 _ c e (by omega)
  · exact (memory_cols x9 1536 _ c d (by omega)).trans (congrArg (fun n => x9 (ix2 c n)) (Fin.ext (by show 1536 + d.val = 1024 + (256 * 2 + d.val); omega)))

/-- The block's result at row `r`, as a payload. -/
theorem result_apply (r : Fin 512) (j : Fin 1024) :
    k0_pay18 (k0_pay53 i x0 x1 x2 x3 x4 x5 x6 x7 x8 x9 x10 x11 x12 x13 x14 x15 x16) (k0_pay55 i x0 x1 x2 x3 x4 x5 x6 x7 x8 x9 x10 x11 x12 x13 x14 x15 x16) (k0_pay56 i x0 x1 x2 x3 x4 x5 x6 x7 x8 x9 x10 x11 x12 x13 x14 x15 x16) (k0_pay57 i x0 x1 x2 x3 x4 x5 x6 x7 x8 x9 x10 x11 x12 x13 x14 x15 x16) (k0_pay58 i x0 x1 x2 x3 x4 x5 x6 x7 x8 x9 x10 x11 x12 x13 x14 x15 x16) (View.ld x9 r0_12) (View.ld x9 r0_13) (View.ld x10 r0_5) (ix2 r j)
      = crossed (mixedAt i x0 x1 x2 x3 x4 x5 x6 r) (fun k => x7 (ix2 0 k)) (fun k n => x8 (ix2 k n)) (fun c n => x9 (ix2 c n))
          (fun k n => x10 (ix2 k n)) j := by
  unfold k0_pay58
  rw [pay18_apply, pay53_apply, View.ld_unit_zero (X := x10) (by decide)]
  refine congrArg (HAdd.hAdd _) (Finset.sum_congr rfl fun n _ => congrArg (· * x10 (ix2 n j)) ?_)
  have hn := n.isLt
  have key : ∀ (h : Fin 4) (d : Fin 256), n.val = 256 * h.val + d.val →
      attend (queryAt i x0 x1 x2 x3 x4 x5 x6 x7 x8 r) (fun c n => x9 (ix2 c n)) h d
        = attended (queryAt i x0 x1 x2 x3 x4 x5 x6 x7 x8 r) (fun c n => x9 (ix2 c n)) n := by
    intro h d e
    exact congrArg₂ (attend _ _) (Fin.ext (by show h.val = n.val / 256; omega)) (Fin.ext (by show d.val = n.val % 256; omega))
  by_cases h0 : n.val < 256
  · rw [dif_pos h0, pay55_apply]
    exact key 0 ⟨n.val, h0⟩ (by show n.val = 256 * 0 + n.val; omega)
  rw [dif_neg h0]
  by_cases h1 : n.val - 256 < 256
  · rw [dif_pos h1, pay56_apply]
    exact key 1 ⟨n.val - 256, h1⟩ (by show n.val = 256 * 1 + (n.val - 256); omega)
  rw [dif_neg h1]
  by_cases h2 : n.val - 256 - 256 < 256
  · rw [dif_pos h2, pay57_apply]
    exact key 2 ⟨n.val - 256 - 256, h2⟩ (by show n.val = 256 * 2 + (n.val - 256 - 256); omega)
  rw [dif_neg h2]
  refine Eq.trans ?_ (key 3 ⟨n.val - 256 - 256 - 256, by omega⟩ (by show n.val = 256 * 3 + (n.val - 256 - 256 - 256); omega))
  refine head_eq _ _ _ _ _ _ (fun c => Finset.sum_congr rfl fun e _ => ?_) (fun c => ?_)
  · refine congrArg₂ (· * ·) (pay54_apply i x0 x1 x2 x3 x4 x5 x6 x7 x8 x9 x10 x11 x12 x13 x14 x15 x16 r _) ?_
    exact memory_cols x9 768 _ c e (by omega)
  · exact (memory_cols x9 1792 _ c _ (by show 1792 + (n.val - 256 - 256 - 256) < 2048; omega)).trans (congrArg (fun n => x9 (ix2 c n))
      (Fin.ext (by show 1792 + (n.val - 256 - 256 - 256) = 1024 + (256 * 3 + (n.val - 256 - 256 - 256)); omega)))

/-- What the point leaves in the first result's block. -/
theorem out17_apply (r : Fin 512) (j : Fin 1024) :
    out0_17 i x0 x1 x2 x3 x4 x5 x6 x7 x8 x9 x10 x11 x12 x13 x14 x15 x16 (ix2 r j)
      = crossed (mixedAt i x0 x1 x2 x3 x4 x5 x6 r) (fun k => x7 (ix2 0 k)) (fun k n => x8 (ix2 k n)) (fun c n => x9 (ix2 c n))
          (fun k n => x10 (ix2 k n)) j := by
  unfold out0_17
  rw [View.canon_unit_zero (by decide)]
  exact result_apply i x0 x1 x2 x3 x4 x5 x6 x7 x8 x9 x10 x11 x12 x13 x14 x15 x16 r j

/-- What the point leaves in the second result's block. -/
theorem out18_apply (r : Fin 512) (j : Fin 1024) :
    out0_18 i x0 x1 x2 x3 x4 x5 x6 x7 x8 x9 x10 x11 x12 x13 x14 x15 x16 (ix2 r j)
      = rms (crossed (mixedAt i x0 x1 x2 x3 x4 x5 x6 r) (fun k => x7 (ix2 0 k)) (fun k n => x8 (ix2 k n)) (fun c n => x9 (ix2 c n))
          (fun k n => x10 (ix2 k n))) (fun k => x11 (ix2 0 k)) j := by
  unfold out0_18
  rw [View.canon_unit_zero (by decide)]
  unfold k0_pay60
  rw [pay20_apply, View.ld_unit_zero (X := x11) (by decide)]
  exact congrFun (congrArg₂ rms (funext fun n => result_apply i x0 x1 x2 x3 x4 x5 x6 x7 x8 x9 x10 x11 x12 x13 x14 x15 x16 r n) rfl) j

end Cert.KernelIdeal.Block

end
-- ==== Proof.Array.lean ====
/- The kernel's two result arrays after the run, entry by entry, as the layer's function of the argument arrays. -/
module

public import proofs.«01_k».proof.Proof.Point
public import proofs.«01_k».proof.Proof.Gen.KernelIdeal.Value
public import Idealize.ShloMosaic.Lib.Pipeline.ValueKit
public import Idealize.ShloMosaic.Lib.Pointwise

@[expose] public section

noncomputable section

namespace Cert.KernelIdeal.Array

open Cert.KernelIdeal Cert.KernelIdeal.Gen Cert.KernelIdeal.Block Idealize.ShloMosaic Idealize.ShloMosaic.TcCoe Layer
open Idealize.ShloMosaic.Pipeline (Dat)
open scoped BigOperators

variable (m : (ℓ : Loc nD τ sig) → Buf (Elt Ideal) ℓ) (c : Dev nD)

/-! ## The arrays prepared before the launch -/

/-- The mixer's input weights are only cast. -/
theorem V_main_v0 : (V m c main_v0 : S1024x3072.Idx → EReal) = m ((c : Thread nD τ).loc main_arg2) := by
  unfold V
  simp only [hostOps0, hostOps0_1, hostOps0_2, hostOps0_3, hostOps0_4, List.flatten_cons, List.flatten_nil, List.append_nil, List.cons_append, List.nil_append]
  after_results
  rfl

/-- The mixer's output weights are only cast. -/
theorem V_main_v1 : (V m c main_v1 : S1024x1024.Idx → EReal) = m ((c : Thread nD τ).loc main_arg4) := by
  unfold V
  simp only [hostOps0, hostOps0_1, hostOps0_2, hostOps0_3, hostOps0_4, List.flatten_cons, List.flatten_nil, List.append_nil, List.cons_append, List.nil_append]
  after_results
  rfl

/-- The query weights are only cast. -/
theorem V_main_v2 : (V m c main_v2 : S1024x1024.Idx → EReal) = m ((c : Thread nD τ).loc main_arg6) := by
  unfold V
  simp only [hostOps0, hostOps0_1, hostOps0_2, hostOps0_3, hostOps0_4, List.flatten_cons, List.flatten_nil, List.append_nil, List.cons_append, List.nil_append]
  after_results
  rfl

/-- The attention's output weights are only cast. -/
theorem V_main_v3 : (V m c main_v3 : S1024x1024.Idx → EReal) = m ((c : Thread nD τ).loc main_arg8) := by
  unfold V
  simp only [hostOps0, hostOps0_1, hostOps0_2, hostOps0_3, hostOps0_4, List.flatten_cons, List.flatten_nil, List.append_nil, List.cons_append, List.nil_append]
  after_results
  rfl

/-- The first norm's weights as a one-row matrix. -/
theorem V_main_v30 (k : Fin 1024) : (V m c main_v30 : S1x1024.Idx → EReal) (ix2 0 k) = m ((c : Thread nD τ).loc main_arg1) (ix1 k) := by
  unfold V
  simp only [hostOps0, hostOps0_1, hostOps0_2, hostOps0_3, hostOps0_4, List.flatten_cons, List.flatten_nil, List.append_nil, List.cons_append, List.nil_append]
  after_results
  pointwise

/-- The second norm's weights as a one-row matrix. -/
theorem V_main_v31 (k : Fin 1024) : (V m c main_v31 : S1x1024.Idx → EReal) (ix2 0 k) = m ((c : Thread nD τ).loc main_arg5) (ix1 k) := by
  unfold V
  simp only [hostOps0, hostOps0_1, hostOps0_2, hostOps0_3, hostOps0_4, List.flatten_cons, List.flatten_nil, List.append_nil, List.cons_append, List.nil_append]
  after_results
  pointwise

/-- The third norm's weights as a one-row matrix. -/
theorem V_main_v32 (k : Fin 1024) : (V m c main_v32 : S1x1024.Idx → EReal) (ix2 0 k) = m ((c : Thread nD τ).loc main_arg9) (ix1 k) := by
  unfold V
  simp only [hostOps0, hostOps0_1, hostOps0_2, hostOps0_3, hostOps0_4, List.flatten_cons, List.flatten_nil, List.append_nil, List.cons_append, List.nil_append]
  after_results
  pointwise

/-! ## The windows' blocks -/

/-- A grid point's coordinate is its number. -/
theorem coord_eq : ∀ t : Fin cfg0.N, (grid0.coords t 0).val = t.val := (by decide +kernel : ∀ t : Fin grid0.N, _)

/-- There are 64 grid points. -/
theorem lt_points (t : Fin cfg0.N) : t.val < 64 := t.isLt

/-- The eight rows before a point's tile; before the first tile, the first eight. -/
theorem index0 : ∀ t : Fin cfg0.N, win0_0.index t = ![64 * t.val - 1, 0] := (by decide +kernel : ∀ t : Fin grid0.N, _)

/-- A point's tile is its own. -/
theorem index1 : ∀ t : Fin cfg0.N, win0_1.index t = ![t.val, 0] := (by decide +kernel : ∀ t : Fin grid0.N, _)

/-- The eight rows after a point's tile; after the last tile, the last eight. -/
theorem index2 : ∀ t : Fin cfg0.N, win0_2.index t = ![min (64 * (t.val + 1)) 4095, 0] := (by decide +kernel : ∀ t : Fin grid0.N, _)

/-- The mixer's norm weights are one block. -/
theorem index3 : ∀ t : Fin cfg0.N, win0_3.index t = ![0, 0] := (by decide +kernel : ∀ t : Fin grid0.N, _)

/-- The mixer's input weights are one block. -/
theorem index4 : ∀ t : Fin cfg0.N, win0_4.index t = ![0, 0] := (by decide +kernel : ∀ t : Fin grid0.N, _)

/-- The convolution's weights are one block. -/
theorem index5 : ∀ t : Fin cfg0.N, win0_5.index t = ![0, 0] := (by decide +kernel : ∀ t : Fin grid0.N, _)

/-- The mixer's output weights are one block. -/
theorem index6 : ∀ t : Fin cfg0.N, win0_6.index t = ![0, 0] := (by decide +kernel : ∀ t : Fin grid0.N, _)

/-- The attention's norm weights are one block. -/
theorem index7 : ∀ t : Fin cfg0.N, win0_7.index t = ![0, 0] := (by decide +kernel : ∀ t : Fin grid0.N, _)

/-- The query weights are one block. -/
theorem index8 : ∀ t : Fin cfg0.N, win0_8.index t = ![0, 0] := (by decide +kernel : ∀ t : Fin grid0.N, _)

/-- The memory a point reads is its sequence's. -/
theorem index9 : ∀ t : Fin cfg0.N, win0_9.index t = ![if t.val < 32 then t.val / 4 else 8 + (t.val - 32) / 8, 0] := (by decide +kernel : ∀ t : Fin grid0.N, _)

/-- The attention's output weights are one block. -/
theorem index10 : ∀ t : Fin cfg0.N, win0_10.index t = ![0, 0] := (by decide +kernel : ∀ t : Fin grid0.N, _)

/-- The last norm's weights are one block. -/
theorem index11 : ∀ t : Fin cfg0.N, win0_11.index t = ![0, 0] := (by decide +kernel : ∀ t : Fin grid0.N, _)

/-- A point writes its own tile of the first result. -/
theorem index17 : ∀ t : Fin cfg0.N, win0_17.index t = ![t.val, 0] := (by decide +kernel : ∀ t : Fin grid0.N, _)

/-- A point writes its own tile of the second result. -/
theorem index18 : ∀ t : Fin cfg0.N, win0_18.index t = ![t.val, 0] := (by decide +kernel : ∀ t : Fin grid0.N, _)

/-- The token that row `r` of point `t`'s block holds. -/
def tok (t : Fin cfg0.N) (r : Fin 512) : Fin 32768 := ⟨t.val * 512 + r.val, by have := lt_points t; omega⟩

/-- The token rows of the point's block. -/
theorem iblk1_apply (t : Fin cfg0.N) (r : Fin 512) (k : Fin 1024) :
    (iblk m c 1 t : S512x1024.Idx → EReal) (ix2 r k) = m ((c : Thread nD τ).loc main_arg0) (ix2 (tok t r) k) := by
  blk_simp [iblk]
  rw [V_main_arg0]
  refine congrArg _ ?_
  blk_ext [index1 t, tok]

/-- The token before the point's block, if there is one, is the last of the eight rows read before it. -/
theorem iblk0_apply (t : Fin cfg0.N) (h : t.val ≠ 0) (k : Fin 1024) :
    (iblk m c 0 t : S8x1024.Idx → EReal) (ix2 7 k) = m ((c : Thread nD τ).loc main_arg0) (ix2 ⟨t.val * 512 - 1, by have := lt_points t; omega⟩ k) := by
  blk_simp [iblk]
  rw [V_main_arg0]
  refine congrArg _ ?_
  blk_ext [index0 t]

/-- The token after the point's block, if there is one, is the first of the eight rows read after it. -/
theorem iblk2_apply (t : Fin cfg0.N) (h : t.val ≠ 63) (k : Fin 1024) :
    (iblk m c 2 t : S8x1024.Idx → EReal) (ix2 0 k)
      = m ((c : Thread nD τ).loc main_arg0) (ix2 ⟨(t.val * 512 + 512) % 32768, by omega⟩ k) := by
  have := lt_points t
  blk_simp [iblk]
  rw [V_main_arg0]
  refine congrArg _ ?_
  blk_ext [index2 t]

/-- Window 3's block is its whole array. -/
theorem iblk3_eq (t : Fin cfg0.N) : (iblk m c 3 t : S1x1024.Idx → EReal) = V m c main_v30 := by
  refine Eq.trans (b := (V m c main_v30 : S1x1024.Idx → EReal)) ?_ rfl
  funext y
  blk_simp [iblk]
  refine congrArg _ ?_
  blk_ext [index3 t]

/-- Window 4's block is its whole array. -/
theorem iblk4_eq (t : Fin cfg0.N) : (iblk m c 4 t : S1024x3072.Idx → EReal) = m ((c : Thread nD τ).loc main_arg2) := by
  refine Eq.trans (b := (V m c main_v0 : S1024x3072.Idx → EReal)) ?_ (V_main_v0 m c)
  funext y
  blk_simp [iblk]
  refine congrArg _ ?_
  blk_ext [index4 t]

/-- Window 5's block is its whole array. -/
theorem iblk5_eq (t : Fin cfg0.N) : (iblk m c 5 t : S3x1024.Idx → EReal) = m ((c : Thread nD τ).loc main_arg3) := by
  refine Eq.trans (b := (V m c main_arg3 : S3x1024.Idx → EReal)) ?_ (V_main_arg3 m c)
  funext y
  blk_simp [iblk]
  refine congrArg _ ?_
  blk_ext [index5 t]

/-- Window 6's block is its whole array. -/
theorem iblk6_eq (t : Fin cfg0.N) : (iblk m c 6 t : S1024x1024.Idx → EReal) = m ((c : Thread nD τ).loc main_arg4) := by
  refine Eq.trans (b := (V m c main_v1 : S1024x1024.Idx → EReal)) ?_ (V_main_v1 m c)
  funext y
  blk_simp [iblk]
  refine congrArg _ ?_
  blk_ext [index6 t]

/-- Window 7's block is its whole array. -/
theorem iblk7_eq (t : Fin cfg0.N) : (iblk m c 7 t : S1x1024.Idx → EReal) = V m c main_v31 := by
  refine Eq.trans (b := (V m c main_v31 : S1x1024.Idx → EReal)) ?_ rfl
  funext y
  blk_simp [iblk]
  refine congrArg _ ?_
  blk_ext [index7 t]

/-- Window 8's block is its whole array. -/
theorem iblk8_eq (t : Fin cfg0.N) : (iblk m c 8 t : S1024x1024.Idx → EReal) = m ((c : Thread nD τ).loc main_arg6) := by
  refine Eq.trans (b := (V m c main_v2 : S1024x1024.Idx → EReal)) ?_ (V_main_v2 m c)
  funext y
  blk_simp [iblk]
  refine congrArg _ ?_
  blk_ext [index8 t]

/-- Window 10's block is its whole array. -/
theorem iblk10_eq (t : Fin cfg0.N) : (iblk m c 10 t : S1024x1024.Idx → EReal) = m ((c : Thread nD τ).loc main_arg8) := by
  refine Eq.trans (b := (V m c main_v3 : S1024x1024.Idx → EReal)) ?_ (V_main_v3 m c)
  funext y
  blk_simp [iblk]
  refine congrArg _ ?_
  blk_ext [index10 t]

/-- Window 11's block is its whole array. -/
theorem iblk11_eq (t : Fin cfg0.N) : (iblk m c 11 t : S1x1024.Idx → EReal) = V m c main_v32 := by
  refine Eq.trans (b := (V m c main_v32 : S1x1024.Idx → EReal)) ?_ rfl
  funext y
  blk_simp [iblk]
  refine congrArg _ ?_
  blk_ext [index11 t]

/-- The memory of the point's sequence. -/
theorem iblk9_apply (t : Fin cfg0.N) (r : Fin 512) (a : Fin 256) (n : Fin 2048) :
    (iblk m c 9 t : S256x2048.Idx → EReal) (ix2 a n)
      = memory (fun a n => m ((c : Thread nD τ).loc main_arg7) (ix2 a n)) (tok t r) a n := by
  have := lt_points t
  have hr := r.isLt
  have ha := a.isLt
  have hv : (tok t r).val = t.val * 512 + r.val := rfl
  unfold memory
  blk_simp [iblk]
  rw [V_main_arg7]
  refine congrArg _ ?_
  by_cases h : t.val < 32
  · have h' : (tok t r).val < 16384 := by omega
    blk_ext [index9 t, if_pos h, if_pos h']
  · have h' : ¬ (tok t r).val < 16384 := by omega
    blk_ext [index9 t, if_neg h, if_neg h']

/-- The token's row of the argument. -/
abbrev X (R : Fin 32768) : Row := fun k => m ((c : Thread nD τ).loc main_arg0) (ix2 R k)

/-- The row before, wherever there is one. -/
theorem rowBefore_eq (t : Fin cfg0.N) (r : Fin 512) (h : (tok t r).val ≠ 0) :
    rowBefore (iblk m c 0 t) (iblk m c 1 t) r = X m c ⟨(tok t r).val - 1, by have := (tok t r).isLt; omega⟩ := by
  funext k
  unfold rowBefore X
  have hv : (tok t r).val = t.val * 512 + r.val := rfl
  by_cases hr : r.val = 0
  · rw [dif_pos hr, iblk0_apply m c t (by omega)]
    exact congrArg (fun a => m ((c : Thread nD τ).loc main_arg0) (ix2 a k)) (Fin.ext (by show t.val * 512 - 1 = (tok t r).val - 1; omega))
  · rw [dif_neg hr, iblk1_apply]
    exact congrArg (fun a => m ((c : Thread nD τ).loc main_arg0) (ix2 a k)) (Fin.ext (by show t.val * 512 + (r.val - 1) = (tok t r).val - 1; omega))

/-- The row after, wherever there is one. -/
theorem rowAfter_eq (t : Fin cfg0.N) (r : Fin 512) (h : (tok t r).val ≠ 32767) :
    rowAfter (iblk m c 1 t) (iblk m c 2 t) r = X m c ⟨((tok t r).val + 1) % 32768, by omega⟩ := by
  funext k
  have := lt_points t
  unfold rowAfter X
  have hv : (tok t r).val = t.val * 512 + r.val := rfl
  by_cases hr : r.val = 511
  · rw [dif_pos hr, iblk2_apply m c t (by omega)]
    exact congrArg (fun a => m ((c : Thread nD τ).loc main_arg0) (ix2 a k)) (Fin.ext (by show (t.val * 512 + 512) % 32768 = ((tok t r).val + 1) % 32768; omega))
  · rw [dif_neg hr, iblk1_apply]
    exact congrArg (fun a => m ((c : Thread nD τ).loc main_arg0) (ix2 a k)) (Fin.ext (by show t.val * 512 + (r.val + 1) = ((tok t r).val + 1) % 32768; omega))

/-- The body's sequence length is the token's. -/
theorem seq_eq (t : Fin cfg0.N) (r : Fin 512) :
    seqLen (grid0.coords t) = seq (tok t r) ∧ (seq (tok t r) = 2048 ∨ seq (tok t r) = 4096) := by
  have := lt_points t
  have hr := r.isLt
  have hv : (tok t r).val = t.val * 512 + r.val := rfl
  unfold seqLen seq
  rw [coord_eq, hv]
  by_cases h : t.val < 32
  · rw [if_pos h, if_pos (by omega)]; simp
  · rw [if_neg h, if_neg (by omega)]; simp

/-- The body's test for a block's first token: the token begins its sequence. -/
theorem begins_iff (t : Fin cfg0.N) (r : Fin 512) :
    (r.val = 0 ∧ prevFlag (grid0.coords t) = 0#1) ↔ (tok t r).val % seq (tok t r) = 0 := by
  have := lt_points t
  have hr := r.isLt
  have hv : (tok t r).val = t.val * 512 + r.val := rfl
  obtain ⟨e, h⟩ := seq_eq t r
  rw [prevFlag, coord_eq, e, hv]
  rcases h with h | h <;> rw [h] <;> split <;> simp <;> omega

/-- The body's test for a block's last token: the token ends its sequence. -/
theorem ends_iff (t : Fin cfg0.N) (r : Fin 512) :
    (r.val = 511 ∧ nextFlag (grid0.coords t) = 0#1) ↔ ((tok t r).val + 1) % seq (tok t r) = 0 := by
  have := lt_points t
  have hr := r.isLt
  have hv : (tok t r).val = t.val * 512 + r.val := rfl
  obtain ⟨e, h⟩ := seq_eq t r
  rw [nextFlag, coord_eq, e, hv]
  rcases h with h | h <;> rw [h] <;> split <;> simp <;> omega

/-! ## The results -/

/-- The mixer's result for a token of the argument arrays. -/
abbrev mixedArg (R : Fin 32768) : Row :=
  mixedToken (X m c) (fun k => m ((c : Thread nD τ).loc main_arg1) (ix1 k)) (fun k n => m ((c : Thread nD τ).loc main_arg2) (ix2 k n))
    (fun a k => m ((c : Thread nD τ).loc main_arg3) (ix2 a k)) (fun k n => m ((c : Thread nD τ).loc main_arg4) (ix2 k n)) R

/-- The layer's result for a token of the argument arrays. -/
abbrev tokenArg (R : Fin 32768) : Row :=
  token (X m c) (fun k => m ((c : Thread nD τ).loc main_arg1) (ix1 k)) (fun k n => m ((c : Thread nD τ).loc main_arg2) (ix2 k n))
    (fun a k => m ((c : Thread nD τ).loc main_arg3) (ix2 a k)) (fun k n => m ((c : Thread nD τ).loc main_arg4) (ix2 k n))
    (fun k => m ((c : Thread nD τ).loc main_arg5) (ix1 k)) (fun k n => m ((c : Thread nD τ).loc main_arg6) (ix2 k n))
    (fun a n => m ((c : Thread nD τ).loc main_arg7) (ix2 a n)) (fun k n => m ((c : Thread nD τ).loc main_arg8) (ix2 k n)) R

/-- The point's mixer result is the token's. -/
theorem mixedAt_eq (t : Fin cfg0.N) (r : Fin 512) :
    mixedAt (grid0.coords t) (iblk m c 0 t) (iblk m c 1 t) (iblk m c 2 t) (iblk m c 3 t) (iblk m c 4 t) (iblk m c 5 t) (iblk m c 6 t) r
      = mixedArg m c (tok t r) := by
  unfold mixedAt mixedArg mixedToken
  have h3 : (fun k => (iblk m c 3 t : S1x1024.Idx → EReal) (ix2 0 k)) = fun k => m ((c : Thread nD τ).loc main_arg1) (ix1 k) := by
    funext k; rw [iblk3_eq, V_main_v30]
  rw [h3, iblk4_eq, iblk5_eq, iblk6_eq]
  have h1 : (fun k => (iblk m c 1 t : S512x1024.Idx → EReal) (ix2 r k)) = X m c (tok t r) := funext fun k => iblk1_apply m c t r k
  rw [h1]
  congr 1
  · funext k
    by_cases hb : (tok t r).val % seq (tok t r) = 0
    · rw [if_pos ((begins_iff t r).mpr hb), if_pos hb]
    · rw [if_neg (fun h => hb ((begins_iff t r).mp h)), if_neg hb,
        rowBefore_eq m c t r (fun h => hb (by rw [h]; exact Nat.zero_mod _))]
  · funext k
    by_cases hb : ((tok t r).val + 1) % seq (tok t r) = 0
    · rw [if_pos ((ends_iff t r).mpr hb), if_pos hb]
    · rw [if_neg (fun h => hb ((ends_iff t r).mp h)), if_neg hb,
        rowAfter_eq m c t r (fun h => hb (by unfold seq; rw [h]; rfl))]

/-- The point's result is the token's. -/
theorem crossedAt_eq (t : Fin cfg0.N) (r : Fin 512) :
    crossed (mixedAt (grid0.coords t) (iblk m c 0 t) (iblk m c 1 t) (iblk m c 2 t) (iblk m c 3 t) (iblk m c 4 t) (iblk m c 5 t) (iblk m c 6 t) r)
        (fun k => (iblk m c 7 t : S1x1024.Idx → EReal) (ix2 0 k)) (fun k n => (iblk m c 8 t : S1024x1024.Idx → EReal) (ix2 k n))
        (fun a n => (iblk m c 9 t : S256x2048.Idx → EReal) (ix2 a n)) (fun k n => (iblk m c 10 t : S1024x1024.Idx → EReal) (ix2 k n))
      = tokenArg m c (tok t r) := by
  have h7 : (fun k => (iblk m c 7 t : S1x1024.Idx → EReal) (ix2 0 k)) = fun k => m ((c : Thread nD τ).loc main_arg5) (ix1 k) := by
    funext k; rw [iblk7_eq, V_main_v31]
  rw [mixedAt_eq, h7, iblk8_eq, iblk10_eq, funext fun a => funext fun n => iblk9_apply m c t r a n]
  rfl

/-- The first result array. -/
def first : S32768x1024.Idx → EReal := fun i => tokenArg m c (i 0) (i 1)

/-- The second result array: the first one's rows normalised. -/
def second : S32768x1024.Idx → EReal := fun i =>
  rms (tokenArg m c (i 0)) (fun k => m ((c : Thread nD τ).loc main_arg9) (ix1 k)) (i 1)

/-- Where row `r` of point `t`'s block lies in a result array. -/
theorem emb17 (t : Fin cfg0.N) (r : Fin 512) (j : Fin 1024) :
    ((win0_17.blk t).view.emb (ix2 r j) : S32768x1024.Idx) = ix2 (tok t r) j := by
  blk_ext [index17 t, tok]

/-- Likewise for the second result. -/
theorem emb18 (t : Fin cfg0.N) (r : Fin 512) (j : Fin 1024) :
    ((win0_18.blk t).view.emb (ix2 r j) : S32768x1024.Idx) = ix2 (tok t r) j := by
  blk_ext [index18 t, tok]

/-- The kernel leaves the layer's result in its first array. -/
theorem final17 : (dats m 0 c).arrAt 17 cfg0.N = first m c := by
  refine (dats m 0 c).arrAt_eq_of_covers 17 _ (by decide +kernel) fun t hf y => ?_
  blk_simp
  rw [after0_17]
  obtain ⟨r, j, rfl⟩ : ∃ (r : Fin 512) (j : Fin 1024), y = ix2 r j := ⟨y 0, y 1, ix2_eta y |>.symm⟩
  rw [out17_apply, crossedAt_eq, emb17]
  rfl

/-- The kernel leaves the normalised result in its second array. -/
theorem final18 : (dats m 0 c).arrAt 18 cfg0.N = second m c := by
  refine (dats m 0 c).arrAt_eq_of_covers 18 _ (by decide +kernel) fun t hf y => ?_
  blk_simp
  rw [after0_18]
  obtain ⟨r, j, rfl⟩ : ∃ (r : Fin 512) (j : Fin 1024), y = ix2 r j := ⟨y 0, y 1, ix2_eta y |>.symm⟩
  have h11 : (fun k => (iblk m c 11 t : S1x1024.Idx → EReal) (ix2 0 k)) = fun k => m ((c : Thread nD τ).loc main_arg9) (ix1 k) := by
    funext k; rw [iblk11_eq, V_main_v32]
  rw [out18_apply, crossedAt_eq, h11, emb18]
  rfl

end Cert.KernelIdeal.Array

end
-- ==== Proof.Prompt.lean ====
/- The reference's eight prompt sequences, one token's row at a time, as the layer's row functions. -/
module

public import proofs.«01_k».proof.Proof.Math
public import proofs.«01_k».proof.Proof.Gen.ReferenceIdeal.Read
public import Idealize.ShloMosaic.Lib.Pointwise

@[expose] public section

noncomputable section

namespace Cert.ReferenceIdeal.Prompt

open Cert.ReferenceIdeal Cert.ReferenceIdeal.Read Idealize.ShloMosaic Layer
open scoped BigOperators

variable (x0 : (⟨S32768x1024, .f32⟩ : BufTy).Contents (Elt Ideal)) (x1 : (⟨S1024, .f32⟩ : BufTy).Contents (Elt Ideal))
  (x2 : (⟨S1024x3072, .f32⟩ : BufTy).Contents (Elt Ideal)) (x3 : (⟨S3x1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S3072x2048, .bf16⟩ : BufTy).Contents (Elt Ideal))
  (x8 : (⟨S1024x1024, .f32⟩ : BufTy).Contents (Elt Ideal)) (x9 : (⟨S1024, .f32⟩ : BufTy).Contents (Elt Ideal))

/-- Token `s` of sequence `b` among all the tokens. -/
abbrev tok (b : Fin 8) (s : Fin 2048) : Fin 32768 := ⟨2048 * b.val + s.val, by omega⟩

/-- The tokens, regrouped by sequence. -/
theorem tokens (b : Fin 8) (s : Fin 2048) (k : Fin 1024) : val_main_v2 (F := Ideal) x0 (ix3 b s k) = x0 (ix2 (tok b s) k) := by
  unfold val_main_v2 val_main_v1
  pointwise
  exact congrArg (fun a => x0 (ix2 a k)) (Fin.ext (by show b.val * 2048 + s.val = 2048 * b.val + s.val; omega))

/-- The memories, regrouped by sequence. -/
theorem memories (b : Fin 8) (a : Fin 256) (n : Fin 2048) :
    val_main_v4 (F := Ideal) x7 (ix3 b a n) = x7 (ix2 ⟨256 * b.val + a.val, by omega⟩ n) := by
  unfold val_main_v4 val_main_v3 val_main_v0
  pointwise
  exact congrArg (fun a => x7 (ix2 a n)) (Fin.ext (by show b.val * 256 + a.val = 256 * b.val + a.val; omega))

/-- The projection of a normalised token. -/
theorem projected (b : Fin 8) (s : Fin 2048) (n : Fin 3072) : val_main_v18 (F := Ideal) x0 x1 x2 (ix3 b s n)
    = proj (fun k => x0 (ix2 (tok b s) k)) (fun k => x1 (ix1 k)) (fun k n => x2 (ix2 k n)) n := by
  unfold val_main_v18 val_main_v17 val_main_v14 val_main_v16 val_main_v15 val_main_v13 val_main_v12 val_main_v11 val_main_v10 val_main_v9 val_main_v8
    val_main_v7 val_main_v6 val_main_v5 val_main_cst val_main_cst_0 val_main_cst_1 proj lin rms
  pointwise
  simp only [tokens]

/-- The convolved signal of a token. -/
theorem signal_apply (b : Fin 8) (s : Fin 2048) (k : Fin 1024) : val_main_v22 (F := Ideal) x0 x1 x2 (ix3 b s k)
    = signal (fun k => x0 (ix2 (tok b s) k)) (fun k => x1 (ix1 k)) (fun k n => x2 (ix2 k n)) k := by
  unfold val_main_v22 val_main_v20 val_main_v21 signal
  pointwise
  rw [projected, projected]

/-- The pad's value. -/
theorem zero_word : (FloatOps.sitofp FTy.f32 0#32 : Ideal .f32) = 0 := by
  show (((0#32).toInt : ℝ) : EReal) = 0
  simp

/-- The signal before token `s`: zero at the sequence's first token. -/
def before (b : Fin 8) (s : Fin 2048) : Row := fun k =>
  if h : s.val = 0 then 0
  else signal (fun k => x0 (ix2 (tok b ⟨s.val - 1, by omega⟩) k)) (fun k => x1 (ix1 k)) (fun k n => x2 (ix2 k n)) k

/-- The signal after token `s`: zero at the sequence's last token. -/
def after (b : Fin 8) (s : Fin 2048) : Row := fun k =>
  if h : s.val = 2047 then 0
  else signal (fun k => x0 (ix2 (tok b ⟨s.val + 1, by omega⟩) k)) (fun k => x1 (ix1 k)) (fun k n => x2 (ix2 k n)) k

/-- The mixer's result for a token. -/
theorem mixer (b : Fin 8) (s : Fin 2048) (j : Fin 1024) : val_main_v46 (F := Ideal) x0 x1 x2 x3 x4 (ix3 b s j)
    = mixed (fun k => x0 (ix2 (tok b s) k)) (fun k => x1 (ix1 k)) (fun k n => x2 (ix2 k n)) (fun a k => x3 (ix2 a k)) (fun k n => x4 (ix2 k n))
        (before x0 x1 x2 b s) (after x0 x1 x2 b s) j := by
  unfold val_main_v46 val_main_v45 val_main_v44 val_main_v43 val_main_v36 val_main_v29 val_main_v35 val_main_v42 val_main_v41 val_main_v40 val_main_v39
    val_main_v38 val_main_v37 val_main_v34 val_main_v33 val_main_v32 val_main_v31 val_main_v30 val_main_v28 val_main_v27 val_main_v26 val_main_v25 val_main_v24
    val_main_v23 val_main_v19 val_main_call0_v0 val_main_c mixed lin conv gate
  pointwise
  rw [tokens]
  refine congrArg (HAdd.hAdd _) (Finset.sum_congr rfl fun x _ => congrArg (· * x4 (ix2 x j)) ?_)
  rw [projected, signal_apply]
  refine congrArg (HMul.hMul _) (congrArg₂ HAdd.hAdd (congrArg (· + _) (congrArg (· * x3 (ix2 0 x)) ?_)) (congrArg (· * x3 (ix2 2 x)) ?_))
  · unfold before
    by_cases h : s.val = 0
    · rw [dif_neg (by omega), dif_pos h]
      exact zero_word
    · rw [dif_pos (by omega), dif_neg h, signal_apply]
  · unfold after
    by_cases h : s.val = 2047
    · rw [dif_neg (by omega), dif_pos h]
      exact zero_word
    · rw [dif_pos (by omega), dif_neg h, signal_apply]
      exact congrArg (fun a => signal (fun k => x0 (ix2 (tok b a) k)) (fun k => x1 (ix1 k)) (fun k n => x2 (ix2 k n)) x)
        (Fin.ext (by show 2 + s.val - 1 = s.val + 1; omega))

/-- The norm's result for a token's mixed row, projected to a query. -/
theorem query (b : Fin 8) (s : Fin 2048) (n : Fin 1024) : val_main_v60 (F := Ideal) x0 x1 x2 x3 x4 x5 x6 (ix3 b s n)
    = lin (rms (fun k => val_main_v46 (F := Ideal) x0 x1 x2 x3 x4 (ix3 b s k)) (fun k => x5 (ix1 k))) (fun k n => x6 (ix2 k n)) n := by
  unfold val_main_v60 val_main_v59 val_main_v58 val_main_v57 val_main_v56 val_main_v55 val_main_v54 val_main_v53 val_main_v52 val_main_v51 val_main_v50
    val_main_v49 val_main_v48 val_main_v47 val_main_cst_2 val_main_cst_3 val_main_cst_4 lin rms
  pointwise

/-- A head's scaled scores. -/
theorem score (b : Fin 8) (h : Fin 4) (s : Fin 2048) (a : Fin 256) : val_main_v68 (F := Ideal) x0 x1 x2 x3 x4 x5 x6 x7 (ix4 b h s a)
    = scores (fun n => val_main_v60 (F := Ideal) x0 x1 x2 x3 x4 x5 x6 (ix3 b s n)) (fun a n => x7 (ix2 ⟨256 * b.val + a.val, by omega⟩ n)) h a := by
  unfold val_main_v68 val_main_v67 val_main_v66 val_main_v64 val_main_v62 val_main_v61 val_main_cst_5 scores feat
  pointwise
  simp only [memories, Nat.mul_comm h.val 256]

/-- The maximum over the memory, from minus infinity. -/
theorem maximum (b : Fin 8) (h : Fin 4) (s : Fin 2048) : val_main_v69 (F := Ideal) x0 x1 x2 x3 x4 x5 x6 x7 (ix3 b h s)
    = Finset.fold max (Ideal.ofBits .f32 4286578688#32) (fun a => val_main_v68 (F := Ideal) x0 x1 x2 x3 x4 x5 x6 x7 (ix4 b h s a)) Finset.univ := by
  unfold val_main_v69
  pointwise
  have start : val_main_cst_6 (F := Ideal) (Shape.Idx.first Gen.h_S_) = Ideal.ofBits .f32 4286578688#32 := rfl
  rw [start]

/-- The largest score. -/
theorem largest (b : Fin 8) (h : Fin 4) (s : Fin 2048) : val_main_v71 (F := Ideal) x0 x1 x2 x3 x4 x5 x6 x7 (ix3 b h s)
    = Finset.fold max (Ideal.ofBits .f32 4286578688#32) (fun a => val_main_v68 (F := Ideal) x0 x1 x2 x3 x4 x5 x6 x7 (ix4 b h s a)) Finset.univ := by
  have step : val_main_v71 (F := Ideal) x0 x1 x2 x3 x4 x5 x6 x7 (ix3 b h s)
      = max (Ideal.ofBits .f32 4286578688#32) (val_main_v69 (F := Ideal) x0 x1 x2 x3 x4 x5 x6 x7 (ix3 b h s)) := by
    rw [val_main_v71_apply, val_main_v70_apply]
    rfl
  rw [step, maximum]
  exact max_fold _ _

/-- The exponential of a score less the largest. -/
theorem exponential (b : Fin 8) (h : Fin 4) (s : Fin 2048) (a : Fin 256) : val_main_v75 (F := Ideal) x0 x1 x2 x3 x4 x5 x6 x7 (ix4 b h s a)
    = Ideal.exp (val_main_v68 (F := Ideal) x0 x1 x2 x3 x4 x5 x6 x7 (ix4 b h s a) - val_main_v71 (F := Ideal) x0 x1 x2 x3 x4 x5 x6 x7 (ix3 b h s)) := by
  unfold val_main_v75 val_main_v74 val_main_v73 val_main_v72
  generalize val_main_v68 (F := Ideal) x0 x1 x2 x3 x4 x5 x6 x7 = y
  generalize val_main_v71 (F := Ideal) x0 x1 x2 x3 x4 x5 x6 x7 = z
  pointwise

/-- The softmax over the memory. -/
theorem weight (b : Fin 8) (h : Fin 4) (s : Fin 2048) (a : Fin 256) : val_main_v79 (F := Ideal) x0 x1 x2 x3 x4 x5 x6 x7 (ix4 b h s a)
    = softmax (fun a => val_main_v68 (F := Ideal) x0 x1 x2 x3 x4 x5 x6 x7 (ix4 b h s a)) a := by
  have step : val_main_v79 (F := Ideal) x0 x1 x2 x3 x4 x5 x6 x7 (ix4 b h s a)
      = Ideal.div (val_main_v75 (F := Ideal) x0 x1 x2 x3 x4 x5 x6 x7 (ix4 b h s a)) (∑ a', val_main_v75 (F := Ideal) x0 x1 x2 x3 x4 x5 x6 x7 (ix4 b h s a')) := by
    unfold val_main_v79 val_main_v78 val_main_v77 val_main_v76 val_main_cst_8
    generalize val_main_v75 (F := Ideal) x0 x1 x2 x3 x4 x5 x6 x7 = y
    pointwise
  rw [step]
  simp only [exponential, largest]
  rfl

/-- The four heads' attention side by side. -/
theorem attention (b : Fin 8) (s : Fin 2048) (j : Fin 1024) : val_main_v82 (F := Ideal) x0 x1 x2 x3 x4 x5 x6 x7 (ix3 b s j)
    = attended (fun n => val_main_v60 (F := Ideal) x0 x1 x2 x3 x4 x5 x6 (ix3 b s n)) (fun a n => x7 (ix2 ⟨256 * b.val + a.val, by omega⟩ n)) j := by
  unfold val_main_v82 val_main_v81 val_main_v80 val_main_v65 val_main_v63 attended attend
  pointwise
  simp only [weight, score, memories]
  refine Finset.sum_congr rfl fun a _ => (mul_comm _ _).trans (congrArg (fun n => _ * x7 (ix2 _ n)) (Fin.ext ?_))
  show 1024 + j.val = 1024 + (256 * (j.val / 256) + j.val % 256)
  omega

/-- The group's result for a token. -/
theorem result (b : Fin 8) (s : Fin 2048) (j : Fin 1024) : val_main_v84 (F := Ideal) x0 x1 x2 x3 x4 x5 x6 x7 x8 (ix3 b s j)
    = crossed (fun k => val_main_v46 (F := Ideal) x0 x1 x2 x3 x4 (ix3 b s k)) (fun k => x5 (ix1 k)) (fun k n => x6 (ix2 k n))
        (fun a n => x7 (ix2 ⟨256 * b.val + a.val, by omega⟩ n)) (fun k n => x8 (ix2 k n)) j := by
  unfold val_main_v84 val_main_v83 crossed lin
  pointwise
  simp only [attention, query]
  rfl

/-- The group's normalised result for a token. -/
theorem normalised (b : Fin 8) (s : Fin 2048) (j : Fin 1024) : val_main_v97 (F := Ideal) x0 x1 x2 x3 x4 x5 x6 x7 x8 x9 (ix3 b s j)
    = rms (fun k => val_main_v84 (F := Ideal) x0 x1 x2 x3 x4 x5 x6 x7 x8 (ix3 b s k)) (fun k => x9 (ix1 k)) j := by
  unfold val_main_v97 val_main_v96 val_main_v95 val_main_v94 val_main_v93 val_main_v92 val_main_v91 val_main_v90 val_main_v89 val_main_v88
    val_main_v87 val_main_v86 val_main_v85 val_main_cst_9 val_main_cst_10 val_main_cst_11 rms
  pointwise

end Cert.ReferenceIdeal.Prompt

end
-- ==== Proof.Sample.lean ====
/- The reference's four sample sequences, one token's row at a time, as the layer's row functions. -/
module

public import proofs.«01_k».proof.Proof.Math
public import proofs.«01_k».proof.Proof.Gen.ReferenceIdeal.Read
public import Idealize.ShloMosaic.Lib.Pointwise

@[expose] public section

noncomputable section

namespace Cert.ReferenceIdeal.Sample

open Cert.ReferenceIdeal Cert.ReferenceIdeal.Read Idealize.ShloMosaic Layer
open scoped BigOperators

variable (x0 : (⟨S32768x1024, .f32⟩ : BufTy).Contents (Elt Ideal)) (x1 : (⟨S1024, .f32⟩ : BufTy).Contents (Elt Ideal))
  (x2 : (⟨S1024x3072, .f32⟩ : BufTy).Contents (Elt Ideal)) (x3 : (⟨S3x1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S3072x2048, .bf16⟩ : BufTy).Contents (Elt Ideal))
  (x8 : (⟨S1024x1024, .f32⟩ : BufTy).Contents (Elt Ideal)) (x9 : (⟨S1024, .f32⟩ : BufTy).Contents (Elt Ideal))

/-- Token `s` of sequence `b` among all the tokens. -/
abbrev tok (b : Fin 4) (s : Fin 4096) : Fin 32768 := ⟨16384 + 4096 * b.val + s.val, by omega⟩

/-- The tokens, regrouped by sequence. -/
theorem tokens (b : Fin 4) (s : Fin 4096) (k : Fin 1024) : val_main_v99 (F := Ideal) x0 (ix3 b s k) = x0 (ix2 (tok b s) k) := by
  unfold val_main_v99 val_main_v98
  pointwise
  exact congrArg (fun a => x0 (ix2 a k)) (Fin.ext (by show 16384 + (b.val * 4096 + s.val) = 16384 + 4096 * b.val + s.val; omega))

/-- The memories, regrouped by sequence. -/
theorem memories (b : Fin 4) (a : Fin 256) (n : Fin 2048) :
    val_main_v101 (F := Ideal) x7 (ix3 b a n) = x7 (ix2 ⟨2048 + 256 * b.val + a.val, by omega⟩ n) := by
  unfold val_main_v101 val_main_v100 val_main_v0
  pointwise
  exact congrArg (fun a => x7 (ix2 a n)) (Fin.ext (by show 2048 + (b.val * 256 + a.val) = 2048 + 256 * b.val + a.val; omega))

/-- The projection of a normalised token. -/
theorem projected (b : Fin 4) (s : Fin 4096) (n : Fin 3072) : val_main_v115 (F := Ideal) x0 x1 x2 (ix3 b s n)
    = proj (fun k => x0 (ix2 (tok b s) k)) (fun k => x1 (ix1 k)) (fun k n => x2 (ix2 k n)) n := by
  unfold val_main_v115 val_main_v114 val_main_v111 val_main_v113 val_main_v112 val_main_v110 val_main_v109 val_main_v108 val_main_v107 val_main_v106 val_main_v105
    val_main_v104 val_main_v103 val_main_v102 val_main_cst_12 val_main_cst_13 val_main_cst_14 proj lin rms
  pointwise
  simp only [tokens]

/-- The convolved signal of a token. -/
theorem signal_apply (b : Fin 4) (s : Fin 4096) (k : Fin 1024) : val_main_v119 (F := Ideal) x0 x1 x2 (ix3 b s k)
    = signal (fun k => x0 (ix2 (tok b s) k)) (fun k => x1 (ix1 k)) (fun k n => x2 (ix2 k n)) k := by
  unfold val_main_v119 val_main_v117 val_main_v118 signal
  pointwise
  rw [projected, projected]

/-- The pad's value. -/
theorem zero_word : (FloatOps.sitofp FTy.f32 0#32 : Ideal .f32) = 0 := by
  show (((0#32).toInt : ℝ) : EReal) = 0
  simp

/-- The signal before token `s`: zero at the sequence's first token. -/
def before (b : Fin 4) (s : Fin 4096) : Row := fun k =>
  if h : s.val = 0 then 0
  else signal (fun k => x0 (ix2 (tok b ⟨s.val - 1, by omega⟩) k)) (fun k => x1 (ix1 k)) (fun k n => x2 (ix2 k n)) k

/-- The signal after token `s`: zero at the sequence's last token. -/
def after (b : Fin 4) (s : Fin 4096) : Row := fun k =>
  if h : s.val = 4095 then 0
  else signal (fun k => x0 (ix2 (tok b ⟨s.val + 1, by omega⟩) k)) (fun k => x1 (ix1 k)) (fun k n => x2 (ix2 k n)) k

/-- The mixer's result for a token. -/
theorem mixer (b : Fin 4) (s : Fin 4096) (j : Fin 1024) : val_main_v143 (F := Ideal) x0 x1 x2 x3 x4 (ix3 b s j)
    = mixed (fun k => x0 (ix2 (tok b s) k)) (fun k => x1 (ix1 k)) (fun k n => x2 (ix2 k n)) (fun a k => x3 (ix2 a k)) (fun k n => x4 (ix2 k n))
        (before x0 x1 x2 b s) (after x0 x1 x2 b s) j := by
  unfold val_main_v143 val_main_v142 val_main_v141 val_main_v140 val_main_v133 val_main_v126 val_main_v132 val_main_v139 val_main_v138 val_main_v137 val_main_v136
    val_main_v135 val_main_v134 val_main_v131 val_main_v130 val_main_v129 val_main_v128 val_main_v127 val_main_v125 val_main_v124 val_main_v123 val_main_v122 val_main_v121
    val_main_v120 val_main_v116 val_main_call1_v0 val_main_c_15 mixed lin conv gate
  pointwise
  rw [tokens]
  refine congrArg (HAdd.hAdd _) (Finset.sum_congr rfl fun x _ => congrArg (· * x4 (ix2 x j)) ?_)
  rw [projected, signal_apply]
  refine congrArg (HMul.hMul _) (congrArg₂ HAdd.hAdd (congrArg (· + _) (congrArg (· * x3 (ix2 0 x)) ?_)) (congrArg (· * x3 (ix2 2 x)) ?_))
  · unfold before
    by_cases h : s.val = 0
    · rw [dif_neg (by omega), dif_pos h]
      exact zero_word
    · rw [dif_pos (by omega), dif_neg h, signal_apply]
  · unfold after
    by_cases h : s.val = 4095
    · rw [dif_neg (by omega), dif_pos h]
      exact zero_word
    · rw [dif_pos (by omega), dif_neg h, signal_apply]
      exact congrArg (fun a => signal (fun k => x0 (ix2 (tok b a) k)) (fun k => x1 (ix1 k)) (fun k n => x2 (ix2 k n)) x)
        (Fin.ext (by show 2 + s.val - 1 = s.val + 1; omega))

/-- The norm's result for a token's mixed row, projected to a query. -/
theorem query (b : Fin 4) (s : Fin 4096) (n : Fin 1024) : val_main_v157 (F := Ideal) x0 x1 x2 x3 x4 x5 x6 (ix3 b s n)
    = lin (rms (fun k => val_main_v143 (F := Ideal) x0 x1 x2 x3 x4 (ix3 b s k)) (fun k => x5 (ix1 k))) (fun k n => x6 (ix2 k n)) n := by
  unfold val_main_v157 val_main_v156 val_main_v155 val_main_v154 val_main_v153 val_main_v152 val_main_v151 val_main_v150 val_main_v149 val_main_v148 val_main_v147
    val_main_v146 val_main_v145 val_main_v144 val_main_cst_16 val_main_cst_17 val_main_cst_18 lin rms
  pointwise

/-- A head's scaled scores. -/
theorem score (b : Fin 4) (h : Fin 4) (s : Fin 4096) (a : Fin 256) : val_main_v165 (F := Ideal) x0 x1 x2 x3 x4 x5 x6 x7 (ix4 b h s a)
    = scores (fun n => val_main_v157 (F := Ideal) x0 x1 x2 x3 x4 x5 x6 (ix3 b s n)) (fun a n => x7 (ix2 ⟨2048 + 256 * b.val + a.val, by omega⟩ n)) h a := by
  unfold val_main_v165 val_main_v164 val_main_v163 val_main_v161 val_main_v159 val_main_v158 val_main_cst_19 scores feat
  pointwise
  simp only [memories, Nat.mul_comm h.val 256]

/-- The maximum over the memory, from minus infinity. -/
theorem maximum (b : Fin 4) (h : Fin 4) (s : Fin 4096) : val_main_v166 (F := Ideal) x0 x1 x2 x3 x4 x5 x6 x7 (ix3 b h s)
    = Finset.fold max (Ideal.ofBits .f32 4286578688#32) (fun a => val_main_v165 (F := Ideal) x0 x1 x2 x3 x4 x5 x6 x7 (ix4 b h s a)) Finset.univ := by
  unfold val_main_v166
  pointwise
  have start : val_main_cst_20 (F := Ideal) (Shape.Idx.first Gen.h_S_) = Ideal.ofBits .f32 4286578688#32 := rfl
  rw [start]

/-- The largest score. -/
theorem largest (b : Fin 4) (h : Fin 4) (s : Fin 4096) : val_main_v168 (F := Ideal) x0 x1 x2 x3 x4 x5 x6 x7 (ix3 b h s)
    = Finset.fold max (Ideal.ofBits .f32 4286578688#32) (fun a => val_main_v165 (F := Ideal) x0 x1 x2 x3 x4 x5 x6 x7 (ix4 b h s a)) Finset.univ := by
  have step : val_main_v168 (F := Ideal) x0 x1 x2 x3 x4 x5 x6 x7 (ix3 b h s)
      = max (Ideal.ofBits .f32 4286578688#32) (val_main_v166 (F := Ideal) x0 x1 x2 x3 x4 x5 x6 x7 (ix3 b h s)) := by
    rw [val_main_v168_apply, val_main_v167_apply]
    rfl
  rw [step, maximum]
  exact max_fold _ _

/-- The exponential of a score less the largest. -/
theorem exponential (b : Fin 4) (h : Fin 4) (s : Fin 4096) (a : Fin 256) : val_main_v172 (F := Ideal) x0 x1 x2 x3 x4 x5 x6 x7 (ix4 b h s a)
    = Ideal.exp (val_main_v165 (F := Ideal) x0 x1 x2 x3 x4 x5 x6 x7 (ix4 b h s a) - val_main_v168 (F := Ideal) x0 x1 x2 x3 x4 x5 x6 x7 (ix3 b h s)) := by
  unfold val_main_v172 val_main_v171 val_main_v170 val_main_v169
  generalize val_main_v165 (F := Ideal) x0 x1 x2 x3 x4 x5 x6 x7 = y
  generalize val_main_v168 (F := Ideal) x0 x1 x2 x3 x4 x5 x6 x7 = z
  pointwise

/-- The softmax over the memory. -/
theorem weight (b : Fin 4) (h : Fin 4) (s : Fin 4096) (a : Fin 256) : val_main_v176 (F := Ideal) x0 x1 x2 x3 x4 x5 x6 x7 (ix4 b h s a)
    = softmax (fun a => val_main_v165 (F := Ideal) x0 x1 x2 x3 x4 x5 x6 x7 (ix4 b h s a)) a := by
  have step : val_main_v176 (F := Ideal) x0 x1 x2 x3 x4 x5 x6 x7 (ix4 b h s a)
      = Ideal.div (val_main_v172 (F := Ideal) x0 x1 x2 x3 x4 x5 x6 x7 (ix4 b h s a)) (∑ a', val_main_v172 (F := Ideal) x0 x1 x2 x3 x4 x5 x6 x7 (ix4 b h s a')) := by
    unfold val_main_v176 val_main_v175 val_main_v174 val_main_v173 val_main_cst_22
    generalize val_main_v172 (F := Ideal) x0 x1 x2 x3 x4 x5 x6 x7 = y
    pointwise
  rw [step]
  simp only [exponential, largest]
  rfl

/-- The four heads' attention side by side. -/
theorem attention (b : Fin 4) (s : Fin 4096) (j : Fin 1024) : val_main_v179 (F := Ideal) x0 x1 x2 x3 x4 x5 x6 x7 (ix3 b s j)
    = attended (fun n => val_main_v157 (F := Ideal) x0 x1 x2 x3 x4 x5 x6 (ix3 b s n)) (fun a n => x7 (ix2 ⟨2048 + 256 * b.val + a.val, by omega⟩ n)) j := by
  unfold val_main_v179 val_main_v178 val_main_v177 val_main_v162 val_main_v160 attended attend
  pointwise
  simp only [weight, score, memories]
  refine Finset.sum_congr rfl fun a _ => (mul_comm _ _).trans (congrArg (fun n => _ * x7 (ix2 _ n)) (Fin.ext ?_))
  show 1024 + j.val = 1024 + (256 * (j.val / 256) + j.val % 256)
  omega

/-- The group's result for a token. -/
theorem result (b : Fin 4) (s : Fin 4096) (j : Fin 1024) : val_main_v181 (F := Ideal) x0 x1 x2 x3 x4 x5 x6 x7 x8 (ix3 b s j)
    = crossed (fun k => val_main_v143 (F := Ideal) x0 x1 x2 x3 x4 (ix3 b s k)) (fun k => x5 (ix1 k)) (fun k n => x6 (ix2 k n))
        (fun a n => x7 (ix2 ⟨2048 + 256 * b.val + a.val, by omega⟩ n)) (fun k n => x8 (ix2 k n)) j := by
  unfold val_main_v181 val_main_v180 crossed lin
  pointwise
  simp only [attention, query]
  rfl

/-- The group's normalised result for a token. -/
theorem normalised (b : Fin 4) (s : Fin 4096) (j : Fin 1024) : val_main_v194 (F := Ideal) x0 x1 x2 x3 x4 x5 x6 x7 x8 x9 (ix3 b s j)
    = rms (fun k => val_main_v181 (F := Ideal) x0 x1 x2 x3 x4 x5 x6 x7 x8 (ix3 b s k)) (fun k => x9 (ix1 k)) j := by
  unfold val_main_v194 val_main_v193 val_main_v192 val_main_v191 val_main_v190 val_main_v189 val_main_v188 val_main_v187 val_main_v186 val_main_v185
    val_main_v184 val_main_v183 val_main_v182 val_main_cst_23 val_main_cst_24 val_main_cst_25 rms
  pointwise

end Cert.ReferenceIdeal.Sample

end
-- ==== Proof.Whole.lean ====
/- The reference's two results, one token's row at a time: the prompt group and the sample group joined. -/
module

public import proofs.«01_k».proof.Proof.Prompt
public import proofs.«01_k».proof.Proof.Sample

@[expose] public section

noncomputable section

namespace Cert.ReferenceIdeal.Whole

open Cert.ReferenceIdeal Cert.ReferenceIdeal.Read Idealize.ShloMosaic Layer
open scoped BigOperators

variable (x0 : (⟨S32768x1024, .f32⟩ : BufTy).Contents (Elt Ideal)) (x1 : (⟨S1024, .f32⟩ : BufTy).Contents (Elt Ideal))
  (x2 : (⟨S1024x3072, .f32⟩ : BufTy).Contents (Elt Ideal)) (x3 : (⟨S3x1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S3072x2048, .bf16⟩ : BufTy).Contents (Elt Ideal))
  (x8 : (⟨S1024x1024, .f32⟩ : BufTy).Contents (Elt Ideal)) (x9 : (⟨S1024, .f32⟩ : BufTy).Contents (Elt Ideal))

/-- The layer's row for token `R`, of the reference's arguments. -/
abbrev tokenOf (R : Fin 32768) : Row :=
  token (fun R k => x0 (ix2 R k)) (fun k => x1 (ix1 k)) (fun k n => x2 (ix2 k n)) (fun k n => x3 (ix2 k n)) (fun k n => x4 (ix2 k n))
    (fun k => x5 (ix1 k)) (fun k n => x6 (ix2 k n)) (fun a n => x7 (ix2 a n)) (fun k n => x8 (ix2 k n)) R

/-- A prompt token's row in the reference. -/
theorem prompt_token (b : Fin 8) (s : Fin 2048) :
    (fun k => val_main_v84 (F := Ideal) x0 x1 x2 x3 x4 x5 x6 x7 x8 (ix3 b s k)) = tokenOf x0 x1 x2 x3 x4 x5 x6 x7 x8 (Prompt.tok b s) := by
  have short : (Prompt.tok b s).val < 16384 := by show 2048 * b.val + s.val < 16384; omega
  have length : seq (Prompt.tok b s) = 2048 := if_pos short
  have hbefore : Prompt.before x0 x1 x2 b s = fun k => if (Prompt.tok b s).val % seq (Prompt.tok b s) = 0 then 0
      else signal (fun k => x0 (ix2 ⟨(Prompt.tok b s).val - 1, by omega⟩ k)) (fun k => x1 (ix1 k)) (fun k n => x2 (ix2 k n)) k := by
    rw [length]
    funext k
    unfold Prompt.before
    by_cases h : s.val = 0
    · rw [dif_pos h, if_pos (by show (2048 * b.val + s.val) % 2048 = 0; omega)]
    · rw [dif_neg h, if_neg (by show ¬(2048 * b.val + s.val) % 2048 = 0; omega)]
      congr 4
      funext k
      exact congrArg (fun a => x0 (ix2 a k)) (Fin.ext (by show 2048 * b.val + (s.val - 1) = 2048 * b.val + s.val - 1; omega))
  have hafter : Prompt.after x0 x1 x2 b s = fun k => if ((Prompt.tok b s).val + 1) % seq (Prompt.tok b s) = 0 then 0
      else signal (fun k => x0 (ix2 ⟨((Prompt.tok b s).val + 1) % 32768, by omega⟩ k)) (fun k => x1 (ix1 k)) (fun k n => x2 (ix2 k n)) k := by
    rw [length]
    funext k
    unfold Prompt.after
    by_cases h : s.val = 2047
    · rw [dif_pos h, if_pos (by show (2048 * b.val + s.val + 1) % 2048 = 0; omega)]
    · rw [dif_neg h, if_neg (by show ¬(2048 * b.val + s.val + 1) % 2048 = 0; omega)]
      congr 4
      funext k
      exact congrArg (fun a => x0 (ix2 a k)) (Fin.ext (by show 2048 * b.val + (s.val + 1) = (2048 * b.val + s.val + 1) % 32768; omega))
  have hmixed : (fun k => val_main_v46 (F := Ideal) x0 x1 x2 x3 x4 (ix3 b s k)) = mixedToken (fun R k => x0 (ix2 R k)) (fun k => x1 (ix1 k))
      (fun k n => x2 (ix2 k n)) (fun k n => x3 (ix2 k n)) (fun k n => x4 (ix2 k n)) (Prompt.tok b s) := by
    funext k
    rw [Prompt.mixer, hbefore, hafter]
    rfl
  have hmemory : (fun (a : Fin 256) (n : Fin 2048) => x7 (ix2 ⟨256 * b.val + a.val, by omega⟩ n)) = memory (fun a n => x7 (ix2 a n)) (Prompt.tok b s) := by
    funext a n
    unfold memory
    refine congrArg (fun a => x7 (ix2 a n)) (Fin.ext ?_)
    show 256 * b.val + a.val = 256 * (if (Prompt.tok b s).val < 16384 then (Prompt.tok b s).val / 2048 else _) + a.val
    rw [if_pos short]
    show 256 * b.val + a.val = 256 * ((2048 * b.val + s.val) / 2048) + a.val
    omega
  funext k
  rw [Prompt.result, hmixed, hmemory]
  rfl

/-- A sample token's row in the reference. -/
theorem sample_token (b : Fin 4) (s : Fin 4096) :
    (fun k => val_main_v181 (F := Ideal) x0 x1 x2 x3 x4 x5 x6 x7 x8 (ix3 b s k)) = tokenOf x0 x1 x2 x3 x4 x5 x6 x7 x8 (Sample.tok b s) := by
  have long : ¬(Sample.tok b s).val < 16384 := by show ¬16384 + 4096 * b.val + s.val < 16384; omega
  have length : seq (Sample.tok b s) = 4096 := if_neg long
  have hbefore : Sample.before x0 x1 x2 b s = fun k => if (Sample.tok b s).val % seq (Sample.tok b s) = 0 then 0
      else signal (fun k => x0 (ix2 ⟨(Sample.tok b s).val - 1, by omega⟩ k)) (fun k => x1 (ix1 k)) (fun k n => x2 (ix2 k n)) k := by
    rw [length]
    funext k
    unfold Sample.before
    by_cases h : s.val = 0
    · rw [dif_pos h, if_pos (by show (16384 + 4096 * b.val + s.val) % 4096 = 0; omega)]
    · rw [dif_neg h, if_neg (by show ¬(16384 + 4096 * b.val + s.val) % 4096 = 0; omega)]
      congr 4
      funext k
      exact congrArg (fun a => x0 (ix2 a k))
        (Fin.ext (by show 16384 + 4096 * b.val + (s.val - 1) = 16384 + 4096 * b.val + s.val - 1; omega))
  have hafter : Sample.after x0 x1 x2 b s = fun k => if ((Sample.tok b s).val + 1) % seq (Sample.tok b s) = 0 then 0
      else signal (fun k => x0 (ix2 ⟨((Sample.tok b s).val + 1) % 32768, by omega⟩ k)) (fun k => x1 (ix1 k)) (fun k n => x2 (ix2 k n)) k := by
    rw [length]
    funext k
    unfold Sample.after
    by_cases h : s.val = 4095
    · rw [dif_pos h, if_pos (by show (16384 + 4096 * b.val + s.val + 1) % 4096 = 0; omega)]
    · rw [dif_neg h, if_neg (by show ¬(16384 + 4096 * b.val + s.val + 1) % 4096 = 0; omega)]
      congr 4
      funext k
      exact congrArg (fun a => x0 (ix2 a k))
        (Fin.ext (by show 16384 + 4096 * b.val + (s.val + 1) = (16384 + 4096 * b.val + s.val + 1) % 32768; omega))
  have hmixed : (fun k => val_main_v143 (F := Ideal) x0 x1 x2 x3 x4 (ix3 b s k)) = mixedToken (fun R k => x0 (ix2 R k)) (fun k => x1 (ix1 k))
      (fun k n => x2 (ix2 k n)) (fun k n => x3 (ix2 k n)) (fun k n => x4 (ix2 k n)) (Sample.tok b s) := by
    funext k
    rw [Sample.mixer, hbefore, hafter]
    rfl
  have hmemory : (fun (a : Fin 256) (n : Fin 2048) => x7 (ix2 ⟨2048 + 256 * b.val + a.val, by omega⟩ n)) = memory (fun a n => x7 (ix2 a n)) (Sample.tok b s) := by
    funext a n
    unfold memory
    refine congrArg (fun a => x7 (ix2 a n)) (Fin.ext ?_)
    show 2048 + 256 * b.val + a.val = 256 * (if (Sample.tok b s).val < 16384 then _ else 8 + ((Sample.tok b s).val - 16384) / 4096) + a.val
    rw [if_neg long]
    show 2048 + 256 * b.val + a.val = 256 * (8 + (16384 + 4096 * b.val + s.val - 16384) / 4096) + a.val
    omega
  funext k
  rw [Sample.result, hmixed, hmemory]
  rfl

/-- Every token is a prompt token or a sample token. -/
theorem tok_cases (R : Fin 32768) : (∃ b s, R = Prompt.tok b s) ∨ (∃ b s, R = Sample.tok b s) := by
  by_cases h : R.val < 16384
  · exact Or.inl ⟨⟨R.val / 2048, by omega⟩, ⟨R.val % 2048, by omega⟩, Fin.ext (by show R.val = 2048 * (R.val / 2048) + R.val % 2048; omega)⟩
  · exact Or.inr ⟨⟨(R.val - 16384) / 4096, by omega⟩, ⟨(R.val - 16384) % 4096, by omega⟩,
      Fin.ext (by show R.val = 16384 + 4096 * ((R.val - 16384) / 4096) + (R.val - 16384) % 4096; omega)⟩

/-- The two groups' rows joined: every token's row. -/
theorem joined (f : Fin 32768 → EReal) (p : Fin 8 → Fin 2048 → EReal) (q : Fin 4 → Fin 4096 → EReal)
    (hp : ∀ b s, p b s = f (Prompt.tok b s)) (hq : ∀ b s, q b s = f (Sample.tok b s)) (R : Fin 32768) :
    (if h : R.val < 16384 then p ⟨R.val / 2048, by omega⟩ ⟨R.val % 2048, by omega⟩
      else q ⟨(R.val - 16384) / 4096, by omega⟩ ⟨(R.val - 16384) % 4096, by omega⟩) = f R := by
  by_cases h : R.val < 16384
  · rw [dif_pos h, hp]
    exact congrArg f (Fin.ext (by show 2048 * (R.val / 2048) + R.val % 2048 = R.val; omega))
  · rw [dif_neg h, hq]
    exact congrArg f (Fin.ext (by show 16384 + 4096 * ((R.val - 16384) / 4096) + (R.val - 16384) % 4096 = R.val; omega))

/-- The reference's first result is the layer's row of each token. -/
theorem first_apply (R : Fin 32768) (j : Fin 1024) :
    val_main_v197 (F := Ideal) x0 x1 x2 x3 x4 x5 x6 x7 x8 (ix2 R j) = tokenOf x0 x1 x2 x3 x4 x5 x6 x7 x8 R j := by
  have hp := fun b s => congrFun (prompt_token x0 x1 x2 x3 x4 x5 x6 x7 x8 b s) j
  have hq := fun b s => congrFun (sample_token x0 x1 x2 x3 x4 x5 x6 x7 x8 b s) j
  unfold val_main_v197 val_main_v195 val_main_v196
  generalize val_main_v84 (F := Ideal) x0 x1 x2 x3 x4 x5 x6 x7 x8 = p at hp ⊢
  generalize val_main_v181 (F := Ideal) x0 x1 x2 x3 x4 x5 x6 x7 x8 = q at hq ⊢
  pointwise
  exact joined (fun R => tokenOf x0 x1 x2 x3 x4 x5 x6 x7 x8 R j) (fun b s => p (ix3 b s j)) (fun b s => q (ix3 b s j)) hp hq R

/-- The reference's second result is that row normalised. -/
theorem second_apply (R : Fin 32768) (j : Fin 1024) : val_main_v201 (F := Ideal) x0 x1 x2 x3 x4 x5 x6 x7 x8 x9 (ix2 R j)
    = rms (tokenOf x0 x1 x2 x3 x4 x5 x6 x7 x8 R) (fun k => x9 (ix1 k)) j := by
  have hp : ∀ b s, val_main_v97 (F := Ideal) x0 x1 x2 x3 x4 x5 x6 x7 x8 x9 (ix3 b s j)
      = rms (tokenOf x0 x1 x2 x3 x4 x5 x6 x7 x8 (Prompt.tok b s)) (fun k => x9 (ix1 k)) j := fun b s => by
    rw [Prompt.normalised, prompt_token]
  have hq : ∀ b s, val_main_v194 (F := Ideal) x0 x1 x2 x3 x4 x5 x6 x7 x8 x9 (ix3 b s j)
      = rms (tokenOf x0 x1 x2 x3 x4 x5 x6 x7 x8 (Sample.tok b s)) (fun k => x9 (ix1 k)) j := fun b s => by
    rw [Sample.normalised, sample_token]
  unfold val_main_v201 val_main_v200 val_main_v198 val_main_v199
  generalize val_main_v97 (F := Ideal) x0 x1 x2 x3 x4 x5 x6 x7 x8 x9 = p at hp ⊢
  generalize val_main_v194 (F := Ideal) x0 x1 x2 x3 x4 x5 x6 x7 x8 x9 = q at hq ⊢
  pointwise
  exact joined (fun R => rms (tokenOf x0 x1 x2 x3 x4 x5 x6 x7 x8 R) (fun k => x9 (ix1 k)) j)
    (fun b s => p (ix3 b s j)) (fun b s => q (ix3 b s j)) hp hq R

end Cert.ReferenceIdeal.Whole

end
-- ==== Proof.Layer.lean ====
/- The claims about the layer's first part: the short convolution, the attention to the memory and the norm of its result. -/
module

public import proofs.«01_k».proof.Defs
public import proofs.«01_k».proof.Proof.Array
public import proofs.«01_k».proof.Proof.Whole
public import proofs.«01_k».proof.Proof.Gen.Kernel.Frame
public import proofs.«01_k».proof.Proof.Gen.ReferenceIdeal.Run

@[expose] public section

noncomputable section

namespace Cert.Proof.LayerClaims

open Idealize.ShloMosaic Idealize.SL.Sem Layer

/-- The kernel's words: every run ends, the arguments are kept and every counter is zero. -/
theorem kernel_frame : Cert.quiescent_Kernel := fun m ρ _ => Cert.Kernel.Gen.frame m ρ

/-- Likewise over the extended reals. -/
theorem ideal_frame : Cert.quiescent_KernelIdeal := fun m ρ _ => Cert.KernelIdeal.Gen.frame m ρ

/-- Likewise for the reference, which has no semaphore. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Kernel and reference compute the same two arrays: every token's row, and that row normalised. -/
theorem equal : Cert.algebraic_KernelIdeal_ReferenceIdeal := fun m ρ m' ρ' _ agree => by
  refine ⟨fun c => Cert.KernelIdeal.Array.first m c, fun c => Cert.KernelIdeal.Array.second m c, ?_, ?_⟩
  · exact (θ_run Cert.KernelIdeal.defs _ _).mono
      (fun r h c => ⟨(h c).1.trans (Cert.KernelIdeal.Array.final17 m c), (h c).2.1.trans (Cert.KernelIdeal.Array.final18 m c),
        (h c).2.2.2.2.2⟩)
      (Cert.KernelIdeal.Value.run_blocks m ρ)
  · refine (θ_run Cert.ReferenceIdeal.defs _ _).mono (fun r h c => ⟨(h c).1.trans (?_ : _ = Cert.KernelIdeal.Array.first m c),
      (h c).2.1.trans (?_ : _ = Cert.KernelIdeal.Array.second m c), (h c).2.2⟩)
      (Cert.ReferenceIdeal.Value.run m' ρ')
    · clear h
      rw [Cert.ReferenceIdeal.Read.val_main_v197_eq]
      obtain ⟨e0, e1, e2, e3, e4, e5, e6, e7, e8, -⟩ := agree c
      change Cert.ReferenceIdeal.Read.val_main_v197 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
      rw [e0, e1, e2, e3, e4, e5, e6, e7, e8]
      funext i
      obtain ⟨R, j, rfl⟩ : ∃ (R : Fin 32768) (j : Fin 1024), i = ix2 R j := ⟨i 0, i 1, ix2_eta i |>.symm⟩
      exact Cert.ReferenceIdeal.Whole.first_apply _ _ _ _ _ _ _ _ _ R j
    · clear h
      rw [Cert.ReferenceIdeal.Read.val_main_v201_eq]
      obtain ⟨e0, e1, e2, e3, e4, e5, e6, e7, e8, e9, -⟩ := agree c
      change Cert.ReferenceIdeal.Read.val_main_v201 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) = _
      rw [e0, e1, e2, e3, e4, e5, e6, e7, e8, e9]
      funext i
      obtain ⟨R, j, rfl⟩ : ∃ (R : Fin 32768) (j : Fin 1024), i = ix2 R j := ⟨i 0, i 1, ix2_eta i |>.symm⟩
      exact Cert.ReferenceIdeal.Whole.second_apply _ _ _ _ _ _ _ _ _ _ R j

end Cert.Proof.LayerClaims

end
-- ==== Proof.Experts.Tables.lean ====
/- The two tables that steer the expert blocks: the expert of each block of rows and the number of blocks in use.
   Any tables in range are admissible, and the blocks that each grid point reads and writes are read off them. -/
module

public import proofs.«01_k».proof.Proof.Gen.ExpertsIdeal.Launch
public import proofs.«01_k».proof.Proof.Gen.ExpertsIdeal.Skeleton
public import Idealize.ShloMosaic.Lib.Affine
public import Idealize.ShloMosaic.Lib.Pipeline.AliasedRuns
public import Idealize.ShloMosaic.Lib.Pipeline.TableIdle
public import Idealize.ShloMosaic.Lib.Pointwise

@[expose] public section

set_option maxRecDepth 16384

noncomputable section

namespace Cert.Proof.Experts

open Cert.ExpertsIdeal Cert.ExpertsIdeal.Gen
open Idealize.ShloMosaic
open Idealize.ShloMosaic.Pointwise

variable {F : FTy → Type} [FloatOps F]
variable (T0 : S219.Idx → BitVec 32) (T1 : S1.Idx → BitVec 32)

/-- Every block names one of the 32 experts, and between one and 219 blocks are in use. -/
structure InRange : Prop where
  expert : ∀ i, (T0 i).toNat < 32
  pos : ∀ i, 1 ≤ (T1 i).toNat
  le : ∀ i, (T1 i).toNat ≤ 219

/-- The number of blocks in use. -/
def used : ℕ := (T1 (ix1 0)).toNat

/-- The expert of block `b`. -/
def expertAt (b : Fin 219) : ℕ := (T0 (ix1 b)).toNat

/-- The tables as the pipeline holds them. -/
def tables : pre0.Contents (Elt F) := fun | ⟨0, _⟩ => T0 | ⟨1, _⟩ => T1 | ⟨_ + 2, h⟩ => absurd h (by simp)

variable {T0 T1}

/-- A coordinate below 219 as a word, compared with a word that is at most 219. -/
theorem slt_word {b : ℕ} {x : BitVec 32} (hb : b < 219) (hx : x.toNat ≤ 219) :
    (BitVec.ofNat 32 b).slt x = decide (b < x.toNat) := by
  have e : (BitVec.ofNat 32 b).toNat = b := by simp; omega
  rw [BitVec.slt_eq_decide, BitVec.toInt_eq_toNat_of_lt (by omega), BitVec.toInt_eq_toNat_of_lt (by omega), e]
  simp

/-- The block index of the rows read and written at a point: its own block, or the last one in use. -/
theorem rows_index (h : InRange T0 T1) (i : grid0.Coords) :
    cc0_transform_0 inb_S1_S1_0 numel1_S1 (tables (F := F) T0 T1) i = ![min (i 0).val (used T1 - 1), 0] := by
  have hw : (tables (F := F) T0 T1).at 1 (Rect.unit (s := S1) ![0] S1.size inb_S1_S1_0) numel1_S1 = T1 (ix1 0) := by
    change T1 _ = T1 _
    congr 1
    funext a; fin_cases a; rfl
  have h1 := h.pos (ix1 0)
  have h2 := h.le (ix1 0)
  have h3 : (i 0).val < 219 := (i 0).isLt
  unfold cc0_transform_0
  rw [hw]
  have : (Scalar.minsi (BitVec.ofNat 32 (i 0).val) (Scalar.subi (T1 (ix1 0)) 1#32)).toNat = min (i 0).val (used T1 - 1) := by
    have e : (T1 (ix1 0) - 1#32).toNat = used T1 - 1 := by
      rw [BitVec.toNat_sub_of_le (by rw [BitVec.le_def]; simpa using h1)]; rfl
    unfold Scalar.minsi Scalar.subi IntOp.minsi IntOp.subi
    rw [slt_word h3 (by rw [e]; unfold used; omega), e]
    by_cases hlt : (i 0).val < used T1 - 1
    · rw [decide_eq_true hlt, if_pos rfl, BitVec.toNat_ofNat, Nat.min_eq_left (by omega)]; exact Nat.mod_eq_of_lt (by omega)
    · rw [decide_eq_false hlt, if_neg (by simp), e, Nat.min_eq_right (by omega)]
  simp only [this]
  rfl

/-- The block index of the weights read at a point. -/
theorem expert_index (i : grid0.Coords) :
    cc0_transform_1 k0_off1_inb numel1_S1 (tables (F := F) T0 T1) i = ![0, expertAt T0 (i 0), 0, 0] := by
  have h3 : (i 0).val < 219 := (i 0).isLt
  unfold cc0_transform_1 expertAt
  have hw : (tables (F := F) T0 T1).at 0 (Rect.unit (s := S219) ![(Scalar.indexCast (BitVec.ofNat 32 (i 0).val)).toNat] S1.size (k0_off1_inb i)) numel1_S1
      = T0 (ix1 (i 0)) := by
    change T0 _ = T0 _
    congr 1
    funext a; fin_cases a
    apply Fin.ext
    change (BitVec.ofNat 32 (i 0).val).toNat + 1 * _ = (i 0).val
    rw [BitVec.toNat_ofNat, Nat.mod_eq_of_lt (by omega)]
    rfl
  exact congrArg (fun w : BitVec 32 => ![0, w.toNat, 0, 0]) hw

/-- The last block read is one of the array's 219. -/
theorem min_lt (h : InRange T0 T1) (b : ℕ) : min b (used T1 - 1) + 1 ≤ 219 := by
  have := h.le (ix1 0); have := h.pos (ix1 0); unfold used; omega

/-- The rows' block lies inside its array. -/
theorem rows_inside (h : InRange T0 T1) (i : grid0.Coords) :
    ∀ a, (cc0_transform_0 inb_S1_S1_0 numel1_S1 (tables (F := F) T0 T1) i a + 1) * S512x1024.size a ≤ S112128x1024.size a := by
  rw [rows_index h]
  have := min_lt h (i 0).val
  intro a
  fin_cases a
  · change (min (i 0).val (used T1 - 1) + 1) * 512 ≤ 112128; omega
  · exact (by decide : (0 + 1) * 1024 ≤ 1024)

/-- The gate and up weights' block lies inside its array. -/
theorem weights_inside (h : InRange T0 T1) (i : grid0.Coords) :
    ∀ a, (cc0_transform_1 k0_off1_inb numel1_S1 (tables (F := F) T0 T1) i a + 1) * S1x1x1024x512.size a ≤ S2x32x1024x512.size a := by
  rw [expert_index]
  have := h.expert (ix1 (i 0))
  intro a
  fin_cases a
  · exact (by decide : (0 + 1) * 1 ≤ 2)
  · change (expertAt T0 (i 0) + 1) * 1 ≤ 32; unfold expertAt; omega
  · exact (by decide : (0 + 1) * 1024 ≤ 1024)
  · exact (by decide : (0 + 1) * 512 ≤ 512)

/-- The down weights' block lies inside its array. -/
theorem down_inside (h : InRange T0 T1) (i : grid0.Coords) :
    ∀ a, (cc0_transform_3 k0_off1_inb numel1_S1 (tables (F := F) T0 T1) i a + 1) * S1x1x512x1024.size a ≤ S2x32x512x1024.size a := by
  change ∀ a, (cc0_transform_1 k0_off1_inb numel1_S1 (tables (F := F) T0 T1) i a + 1) * S1x1x512x1024.size a ≤ S2x32x512x1024.size a
  rw [expert_index]
  have := h.expert (ix1 (i 0))
  intro a
  fin_cases a
  · exact (by decide : (0 + 1) * 1 ≤ 2)
  · change (expertAt T0 (i 0) + 1) * 1 ≤ 32; unfold expertAt; omega
  · exact (by decide : (0 + 1) * 512 ≤ 512)
  · exact (by decide : (0 + 1) * 1024 ≤ 1024)

/-- The coordinate of a grid point. -/
theorem coord_val (t : Fin grid0.N) : ((grid0.coords t) 0).val = t.val := by
  rw [Pipeline.Grid.coords_val t 0 (S := 1) (B := 219) (by decide) (by decide), Nat.div_one]
  exact Nat.mod_eq_of_lt (N_0 ▸ t.isLt)

/-- The rows are read where no earlier point wrote: the block index grows by one until the last block in use. -/
theorem aliased (h : InRange T0 T1) : Pipeline.WinSpec.Aliased (G := grid0) spec0 (ix0 (tables (F := F) T0 T1)) 0 4 where
  isIn := by decide
  isOut := by decide
  rank := by decide
  size := by decide
  index := by intro x a a' h; cases (Fin.ext h : a = a'); rfl
  ordered := by
    intro u u' hlt hfe _ heq
    change cc0_transform_0 inb_S1_S1_0 numel1_S1 (tables (F := F) T0 T1) _ = cc0_transform_0 inb_S1_S1_0 numel1_S1 (tables (F := F) T0 T1) _ at heq
    rw [rows_index h, rows_index h, coord_val, coord_val] at heq
    have e := congrFun heq 0
    change min u'.val (used T1 - 1) = min u.val (used T1 - 1) at e
    simp only [Pipeline.WinSpec.fetchAt, Bool.and_eq_true, Bool.or_eq_true, decide_eq_true_eq] at hfe
    rcases hfe.2 with h0 | ⟨h0, hne⟩
    · omega
    · apply hne
      change cc0_transform_0 inb_S1_S1_0 numel1_S1 (tables (F := F) T0 T1) _ = cc0_transform_0 inb_S1_S1_0 numel1_S1 (tables (F := F) T0 T1) _
      rw [rows_index h, rows_index h, coord_val, coord_val]
      congr 1
      simp only
      omega

/-- Tables in range meet the pipeline's side condition. -/
theorem tables_ok (h : InRange T0 T1) : ok0 (F := F) (tables T0 T1) :=
  ⟨fun i => ⟨rows_inside h i, .inr (Affine.block_words_dvd (s := S112128x1024) (size := S512x1024.size) (p := EltTy.packing .bf16) (by decide) (by decide))⟩,
    fun i => ⟨weights_inside h i, .inl rfl⟩, fun i => ⟨weights_inside h i, .inl rfl⟩, fun i => ⟨down_inside h i, .inl rfl⟩,
    fun i => ⟨rows_inside h i, .inr (Affine.block_words_dvd (s := S112128x1024) (size := S512x1024.size) (p := EltTy.packing .bf16) (by decide) (by decide))⟩,
    aliased h⟩

end Cert.Proof.Experts

end
-- ==== Proof.Experts.Runs.lean ====
/- The kernel's body at one grid point, on any staging buffers, along the three ways that its two conditions allow: it loads an
   expert's weights and computes, it computes with the weights already loaded, or it does nothing. -/
module

public import proofs.«01_k».proof.Proof.Experts.Tables
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, whole. -/
abbrev tab0 : Memref sig .tc .smem S219 .i32 := Memref.whole main_arg0
/-- The number of blocks in use, whole. -/
abbrev tab1 : Memref sig .tc .smem S1 .i32 := Memref.whole main_arg1
/-- The first scratch buffer, whole. -/
abbrev scr0 : Memref sig .tc .vmem S1024x1024 .bf16 := Memref.whole cc0_scratch0
/-- The second scratch buffer, whole. -/
abbrev scr1 : Memref sig .tc .vmem S512x1024 .bf16 := Memref.whole cc0_scratch1

/-- The number of blocks in use, as the body reads it. -/
abbrev readUsed (T1 : S1.Idx → Elt F .i32) : Elt F .i32 :=
  View.readAt (Elt F) (tab1).view (Rect.unit (s := S1) ![0] S1.size inb_S1_S1_0).toLoadRect T1 (Shape.Idx.first (numel1_S1.symm ▸ Nat.one_pos))
/-- The word of the point's expert, as the body reads it. -/
abbrev readExpert (T0 : S219.Idx → Elt F .i32) (i : grid0.Coords) : Elt F .i32 :=
  View.readAt (Elt F) (tab0).view (Rect.unit (s := S219) (k0_off1 i) S1.size (k0_off1_inb i)).toLoadRect T0 (Shape.Idx.first (numel1_S1.symm ▸ Nat.one_pos))
/-- The word of the expert of the block before, as the body reads it. -/
abbrev readPrevious (T0 : S219.Idx → Elt F .i32) (i : grid0.Coords) : Elt F .i32 :=
  View.readAt (Elt F) (tab0).view (Rect.unit (s := S219) (k0_off2 i) S1.size (k0_off2_inb i)).toLoadRect T0 (Shape.Idx.first (numel1_S1.symm ▸ Nat.one_pos))

/-- The body's first condition: the block is in use, and it is the first or its expert is not the block's before it. -/
abbrev Loads (T0 : S219.Idx → Elt F .i32) (T1 : S1.Idx → Elt F .i32) (i : grid0.Coords) : Prop :=
  (Scalar.cmpi .ne (Scalar.extui (Scalar.andi (Scalar.cmpi .slt (BitVec.ofNat 32 (i 0).val) (readUsed T1)) (Scalar.ori (Scalar.cmpi .eq (BitVec.ofNat 32 (i 0).val) 0#32) (Scalar.cmpi .ne (readExpert T0 i) (readPrevious T0 i))))) 0#32) = 1#1

/-- The body's second condition: the block is in use. -/
abbrev Live (T1 : S1.Idx → Elt F .i32) (i : grid0.Coords) : Prop := k0_cond2 i (readUsed T1) = 1#1

/-- What the body holds besides its output's buffer and the scratch buffers: the four input blocks and the tables. -/
abbrev held (c : Dev nD) (arg3 : Memref sig .tc .vmem S512x1024 .bf16) (arg4 arg5 : Memref sig .tc .vmem S1x1x1024x512 .f32) (arg6 : Memref sig .tc .vmem S1x1x512x1024 .f32)
    (T0 : S219.Idx → Elt F .i32) (T1 : S1.Idx → Elt F .i32) (x0 : S512x1024.Idx → Elt F .bf16) (x1 x2 : S1x1x1024x512.Idx → Elt F .f32) (x3 : S1x1x512x1024.Idx → Elt F .f32)
    (R : sProp 𝕄) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tab0.view.loc (c : Thread nD τ) ↦{fullShare.right} T0)
    ∗ (tab1.view.loc (c : Thread nD τ) ↦{fullShare.right} T1)
    ∗ R)

set_option backward.proofsInPublic true in
set_option maxHeartbeats 8000000 in
/-- The body where it loads: what it leaves in the output's buffer and in the scratch buffers, with the proof that it does. -/
noncomputable def runLoad (c : Dev nD) (i : grid0.Coords) (arg3 : Memref sig .tc .vmem S512x1024 .bf16) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S512x1024 .bf16) (harg7 : arg7.IsWhole)
    (T0 : S219.Idx → Elt F .i32) (T1 : S1.Idx → Elt F .i32) (x0 : S512x1024.Idx → Elt F .bf16) (x1 x2 : S1x1x1024x512.Idx → Elt F .f32)
    (x3 : S1x1x512x1024.Idx → Elt F .f32) (hc0 : Loads T0 T1 i) (k0_h2 : Live T1 i) :
    Σ' (out0 : List (View.Piece (Elt F) S512x1024 .bf16)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        held c arg3 arg4 arg5 arg6 T0 T1 x0 x1 x2 x3 iprop((∃ d, owns (c : Thread nD τ) arg7 fullShare d)
          ∗ (scr0.view.loc (c : Thread nD τ) ↦{fullShare} xa0)
          ∗ (scr1.view.loc (c : Thread nD τ) ↦{fullShare} xa1)
          ∗ (held c arg3 arg4 arg5 arg6 T0 T1 x0 x1 x2 x3 iprop((∃ f, arg7.view.loc (c : Thread nD τ) ↦[arg7.view.set]{fullShare} arg7.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ
            (cc0_moe_experts i tab0 (Memref.isWhole_whole _) tab1 (Memref.isWhole_whole _) arg3 harg3 arg4 harg4 arg5 harg5 arg6 harg6 arg7 harg7 scr0 (Memref.isWhole_whole _) scr1 (Memref.isWhole_whole _)) K } :=
  ⟨_, _, _, fun (xa0 : Buf (Elt F) ((c : Thread nD τ).loc cc0_scratch0)) (xa1 : Buf (Elt F) ((c : Thread nD τ).loc cc0_scratch1)) K => by
    unfold held owns
    rw [cc0_moe_experts_eq_skeleton]; unfold cc0_moe_experts_skel
    iintro ⟨H0, H1, H2, H3, HT0, HT1, ⟨%d4, %f4, -, HO4⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
/-- The body where the weights are already loaded: what it leaves in the output's buffer, with the proof that it does. -/
noncomputable def runKeep (c : Dev nD) (i : grid0.Coords) (arg3 : Memref sig .tc .vmem S512x1024 .bf16) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S512x1024 .bf16) (harg7 : arg7.IsWhole)
    (T0 : S219.Idx → Elt F .i32) (T1 : S1.Idx → Elt F .i32) (x0 : S512x1024.Idx → Elt F .bf16) (x1 x2 : S1x1x1024x512.Idx → Elt F .f32)
    (x3 : S1x1x512x1024.Idx → Elt F .f32)
    (xa0 : Buf (Elt F) ((c : Thread nD τ).loc cc0_scratch0)) (xa1 : Buf (Elt F) ((c : Thread nD τ).loc cc0_scratch1)) (hc0 : ¬Loads T0 T1 i) (k0_h2 : Live T1 i) :
    { out0 : List (View.Piece (Elt F) S512x1024 .bf16) //
      ∀ (K : PUnit → sProp 𝕄),
        held c arg3 arg4 arg5 arg6 T0 T1 x0 x1 x2 x3 iprop((∃ d, owns (c : Thread nD τ) arg7 fullShare d)
          ∗ (scr0.view.loc (c : Thread nD τ) ↦{fullShare} xa0)
          ∗ (scr1.view.loc (c : Thread nD τ) ↦{fullShare} xa1)
          ∗ (held c arg3 arg4 arg5 arg6 T0 T1 x0 x1 x2 x3 iprop((∃ f, arg7.view.loc (c : Thread nD τ) ↦[arg7.view.set]{fullShare} arg7.view.writes (Elt F) f out0)
              ∗ (scr0.view.loc (c : Thread nD τ) ↦{fullShare} xa0)
              ∗ (scr1.view.loc (c : Thread nD τ) ↦{fullShare} xa1)) -∗ K ⟨⟩))
          ⊢ wp frame (wpE (defs₀ (F := F)) Variants.none c none) Set.univ
            (cc0_moe_experts i tab0 (Memref.isWhole_whole _) tab1 (Memref.isWhole_whole _) arg3 harg3 arg4 harg4 arg5 harg5 arg6 harg6 arg7 harg7 scr0 (Memref.isWhole_whole _) scr1 (Memref.isWhole_whole _)) K } :=
  ⟨_, fun K => by
    unfold held owns
    rw [cc0_moe_experts_eq_skeleton]; unfold cc0_moe_experts_skel
    iintro ⟨H0, H1, H2, H3, HT0, HT1, ⟨%d4, %f4, -, HO4⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option maxHeartbeats 8000000 in
/-- The body where the block is not in use: it changes nothing. -/
theorem runIdle (c : Dev nD) (i : grid0.Coords) (arg3 : Memref sig .tc .vmem S512x1024 .bf16) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S512x1024 .bf16) (harg7 : arg7.IsWhole)
    (T0 : S219.Idx → Elt F .i32) (T1 : S1.Idx → Elt F .i32) (x0 : S512x1024.Idx → Elt F .bf16) (x1 x2 : S1x1x1024x512.Idx → Elt F .f32)
    (x3 : S1x1x512x1024.Idx → Elt F .f32)
    (xa0 : Buf (Elt F) ((c : Thread nD τ).loc cc0_scratch0)) (xa1 : Buf (Elt F) ((c : Thread nD τ).loc cc0_scratch1)) (hc0 : ¬Loads T0 T1 i) (k0_h2 : ¬Live T1 i)
    (y : S512x1024.Idx → Elt F .bf16) (K : PUnit → sProp 𝕄) :
    held c arg3 arg4 arg5 arg6 T0 T1 x0 x1 x2 x3 iprop(owns (c : Thread nD τ) arg7 fullShare y
        ∗ (scr0.view.loc (c : Thread nD τ) ↦{fullShare} xa0)
        ∗ (scr1.view.loc (c : Thread nD τ) ↦{fullShare} xa1)
        ∗ (held c arg3 arg4 arg5 arg6 T0 T1 x0 x1 x2 x3 iprop(owns (c : Thread nD τ) arg7 fullShare y
            ∗ (scr0.view.loc (c : Thread nD τ) ↦{fullShare} xa0)
            ∗ (scr1.view.loc (c : Thread nD τ) ↦{fullShare} xa1)) -∗ K ⟨⟩))
        ⊢ wp frame (wpE (defs₀ (F := F)) Variants.none c none) Set.univ
            (cc0_moe_experts i tab0 (Memref.isWhole_whole _) tab1 (Memref.isWhole_whole _) arg3 harg3 arg4 harg4 arg5 harg5 arg6 harg6 arg7 harg7 scr0 (Memref.isWhole_whole _) scr1 (Memref.isWhole_whole _)) K := by
    unfold held owns
    rw [cc0_moe_experts_eq_skeleton]; unfold cc0_moe_experts_skel
    iintro ⟨H0, H1, H2, H3, HT0, HT1, ⟨%f4, %hf4, HO4⟩, HS0, HS1, Hk⟩
    obtain rfl := harg7.eq_unread hf4
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    iexact HS1

end Cert.Proof.Experts

end
-- ==== Proof.Experts.Contents.lean ====
/- What the body leaves in its output's buffer and in the two scratch buffers, told by the blocks it read. -/
module

public import proofs.«01_k».proof.Proof.Experts.Runs
public import Idealize.ShloMosaic.Lib.VecWindow

@[expose] public section

set_option maxRecDepth 16384
set_option Elab.async false

noncomputable section

namespace Cert.Proof.Experts

open Cert.ExpertsIdeal Cert.ExpertsIdeal.Gen
open Idealize.ShloMosaic
open Idealize.ShloMosaic.TcCoe

variable {F : FTy → Type} [FloatOps F]

/-- The first scratch buffer once it holds an expert: its gate's weights on the left, its other weights on the right. -/
def gateUp (x1 x2 : S1x1x1024x512.Idx → Elt F .f32) : S1024x1024.Idx → Elt F .bf16 :=
  (View.whole cc0_scratch0).writes (Elt F) (View.whole cc0_scratch0).junk
    [⟨Rect.unit ![0, 512] S1024x512.size inb_S1024x1024_S1024x512_0_512, k0_pay2 x2⟩,
      ⟨Rect.unit ![0, 0] S1024x512.size inb_S1024x1024_S1024x512_0_0, k0_pay1 x1⟩]

/-- The second scratch buffer once it holds an expert. -/
def down (x3 : S1x1x512x1024.Idx → Elt F .f32) : S512x1024.Idx → Elt F .bf16 := k0_pay3 x3

/-- The expert's result on a block of rows. -/
def result (x0 : S512x1024.Idx → Elt F .bf16) (x1 x2 : S1x1x1024x512.Idx → Elt F .f32) (x3 : S1x1x512x1024.Idx → Elt F .f32) :
    S512x1024.Idx → Elt F .bf16 := k0_pay4 x0 (gateUp x1 x2) (down x3)

/-- A store over the whole of the second scratch buffer leaves what was stored. -/
theorem stored_whole (f : S512x1024.Idx → Elt F .bf16) (y : S512x1024.Idx → Elt F .bf16) :
    (View.whole cc0_scratch1).writes (Elt F) f [⟨Rect.unit ![0, 0] S512x1024.size inb_S512x1024_S512x1024_0_0, y⟩] = y := by
  have e := View.read_writes_full (s := S512x1024) (e := .bf16) (Val := Elt F) (View.whole cc0_scratch1) f inb_S512x1024_S512x1024_0_0 y []
  rw [View.read_whole] at e
  exact e

/-- The one store that covers the output's buffer. -/
abbrev whole (y : S512x1024.Idx → Elt F .bf16) : List (View.Piece (Elt F) S512x1024 .bf16) :=
  [⟨Rect.unit ![0, 0] S512x1024.size inb_S512x1024_S512x1024_0_0, y⟩]

section
variable (c : Dev nD) (i : grid0.Coords) (arg3 : Memref sig .tc .vmem S512x1024 .bf16) (harg3 : arg3.IsWhole)
  (arg4 : Memref sig .tc .vmem S1x1x1024x512 .f32) (harg4 : arg4.IsWhole) (arg5 : Memref sig .tc .vmem S1x1x1024x512 .f32) (harg5 : arg5.IsWhole)
  (arg6 : Memref sig .tc .vmem S1x1x512x1024 .f32) (harg6 : arg6.IsWhole) (arg7 : Memref sig .tc .vmem S512x1024 .bf16) (harg7 : arg7.IsWhole)
  (T0 : S219.Idx → Elt F .i32) (T1 : S1.Idx → Elt F .i32) (x0 : S512x1024.Idx → Elt F .bf16) (x1 x2 : S1x1x1024x512.Idx → Elt F .f32)
  (x3 : S1x1x512x1024.Idx → Elt F .f32)

/-- Where the body loads, it leaves the expert's first weights in the first scratch buffer, -/
theorem load_first (hc0 : Loads T0 T1 i) (hl : Live T1 i) :
    (runLoad c i arg3 harg3 arg4 harg4 arg5 harg5 arg6 harg6 arg7 harg7 T0 T1 x0 x1 x2 x3 hc0 hl).2.1 = gateUp x1 x2 := by
  unfold runLoad
  dsimp only
  unfold runLoad.sl.HS0_2 gateUp
  rw [View.readAt_rep_full (s := S1x1x1024x512), View.readAt_rep_full (s := S1x1x1024x512)]

/-- the expert's second weights in the second scratch buffer, -/
theorem load_second (hc0 : Loads T0 T1 i) (hl : Live T1 i) :
    (runLoad c i arg3 harg3 arg4 harg4 arg5 harg5 arg6 harg6 arg7 harg7 T0 T1 x0 x1 x2 x3 hc0 hl).2.2.1 = down x3 := by
  unfold runLoad
  dsimp only
  unfold runLoad.sl.HS1_1 down
  rw [View.readAt_rep_full (s := S1x1x512x1024)]
  exact stored_whole _ _

/-- What the body then reads of the first scratch buffer is what it stored there in two pieces. -/
theorem first_read : runLoad.sl.v17 arg4 arg5 x1 x2 = gateUp x1 x2 := by
  have e : runLoad.sl.HS0_2 arg4 arg5 x1 x2 = [⟨Rect.unit ![0, 512] S1024x512.size inb_S1024x1024_S1024x512_0_512, k0_pay2 x2⟩,
      ⟨Rect.unit ![0, 0] S1024x512.size inb_S1024x1024_S1024x512_0_0, k0_pay1 x1⟩] := by
    unfold runLoad.sl.HS0_2
    rw [View.readAt_rep_full (s := S1x1x1024x512), View.readAt_rep_full (s := S1x1x1024x512)]
  unfold runLoad.sl.v17
  rw [e]
  unfold View.readCov
  refine (View.readAt_full _ _ _).trans ?_
  exact View.read_whole _ _

/-- What it reads of the second scratch buffer is what it stored there. -/
theorem second_read : runLoad.sl.v25 arg6 x3 = down x3 := by
  have e : runLoad.sl.HS1_1 arg6 x3 = [⟨Rect.unit ![0, 0] S512x1024.size inb_S512x1024_S512x1024_0_0, k0_pay3 x3⟩] := by
    unfold runLoad.sl.HS1_1
    rw [View.readAt_rep_full (s := S1x1x512x1024)]
  unfold runLoad.sl.v25 down
  rw [e]
  exact View.readCov_full (s := S512x1024) (e := .bf16) (Val := Elt F) (View.whole cc0_scratch1) inb_S512x1024_S512x1024_0_0 inb_S512x1024_S512x1024_0_0 (k0_pay3 x3) []

/-- Where the body loads, it leaves the expert's result in the output's buffer. -/
theorem load_out (hc0 : Loads T0 T1 i) (hl : Live T1 i) :
    (runLoad c i arg3 harg3 arg4 harg4 arg5 harg5 arg6 harg6 arg7 harg7 T0 T1 x0 x1 x2 x3 hc0 hl).1 = whole (result x0 x1 x2 x3) := by
  unfold runLoad
  dsimp only
  unfold runLoad.sl.HO4_1 result
  rw [first_read, second_read, View.readAt_rep_full (s := S512x1024)]

/-- Where it does not load, it leaves the result of the weights that the scratch buffers hold. -/
theorem keep_out (xa0 : S1024x1024.Idx → Elt F .bf16) (xa1 : S512x1024.Idx → Elt F .bf16) (hc0 : ¬Loads T0 T1 i) (hl : Live T1 i) :
    (runKeep c i arg3 harg3 arg4 harg4 arg5 harg5 arg6 harg6 arg7 harg7 T0 T1 x0 x1 x2 x3 xa0 xa1 hc0 hl).1 = whole (k0_pay4 x0 xa0 xa1) := by
  unfold runKeep
  dsimp only
  unfold runKeep.sl.HO4_1
  rw [View.readAt_rep_full (s := S512x1024), View.readAt_full (s := S1024x1024), View.readAt_full (s := S512x1024)]
  rfl
end

end Cert.Proof.Experts

end
-- ==== Proof.Experts.Schedule.lean ====
/- What the two tables decide at each grid point: whether the body loads an expert, whether the block is in use, and when the
   result's block is written back. -/
module

public import proofs.«01_k».proof.Proof.Experts.Runs

@[expose] public section

set_option maxRecDepth 16384

noncomputable section

namespace Cert.Proof.Experts

open Cert.ExpertsIdeal Cert.ExpertsIdeal.Gen
open Idealize.ShloMosaic
open Idealize.ShloMosaic.TcCoe
open Idealize.ShloMosaic.Pointwise

variable {F : FTy → Type} [FloatOps F]
variable {T0 : S219.Idx → BitVec 32} {T1 : S1.Idx → BitVec 32}

/-- The body reads the number of blocks in use, -/
theorem readUsed_eq : readUsed (F := F) T1 = T1 (ix1 0) := by
  change T1 _ = T1 _
  congr 1
  funext a; fin_cases a; rfl

/-- and its block's expert. -/
theorem readExpert_eq (i : grid0.Coords) : readExpert (F := F) T0 i = T0 (ix1 (i 0)) := by
  have h3 : (i 0).val < 219 := (i 0).isLt
  change T0 _ = T0 _
  congr 1
  funext a; fin_cases a
  apply Fin.ext
  change (BitVec.ofNat 32 (i 0).val).toNat + 1 * _ = (i 0).val
  rw [BitVec.toNat_ofNat, Nat.mod_eq_of_lt (by omega)]
  rfl

/-- The place of the block before, of the first block itself. -/
theorem previous_at : ∀ i : grid0.Coords, k0_off2 i 0 = (i 0).val - 1 := by decide +kernel

/-- The block before, as a word of the first table. -/
theorem readPrevious_eq (i : grid0.Coords) : readPrevious (F := F) T0 i = T0 (ix1 ⟨(i 0).val - 1, by have : (i 0).val < 219 := (i 0).isLt; omega⟩) := by
  change T0 _ = T0 _
  congr 1
  funext a; fin_cases a
  apply Fin.ext
  change k0_off2 i 0 + 1 * _ = (i 0).val - 1
  rw [previous_at]
  rfl

/-- A bit widened to a word is not zero exactly if it is one. -/
theorem widened_bit : ∀ p : BitVec 1, Scalar.cmpi .ne (Scalar.extui p) 0#32 = 1#1 ↔ p = 1#1 := by decide

/-- The conjunction of two bits. -/
theorem and_bit : ∀ p q : BitVec 1, Scalar.andi p q = 1#1 ↔ p = 1#1 ∧ q = 1#1 := by decide

/-- The disjunction of two bits. -/
theorem or_bit : ∀ p q : BitVec 1, Scalar.ori p q = 1#1 ↔ p = 1#1 ∨ q = 1#1 := by decide

/-- A truth value as a bit. -/
theorem bit_of (b : Bool) : BitVec.ofBool b = 1#1 ↔ b = true := by cases b <;> decide

/-- The body's comparison of its coordinate with the number of blocks in use. -/
theorem less_bit (h : InRange T0 T1) (i : grid0.Coords) :
    Scalar.cmpi .slt (BitVec.ofNat 32 (i 0).val) (T1 (ix1 0)) = 1#1 ↔ (i 0).val < used T1 := by
  unfold Scalar.cmpi IntOp.cmpi
  rw [bit_of]
  simp only
  rw [slt_word (i 0).isLt (h.le (ix1 0)), decide_eq_true_iff]
  rfl

/-- The body's test for the first block. -/
theorem first_bit (i : grid0.Coords) : Scalar.cmpi .eq (BitVec.ofNat 32 (i 0).val) 0#32 = 1#1 ↔ (i 0).val = 0 := by
  have h3 : (i 0).val < 219 := (i 0).isLt
  unfold Scalar.cmpi IntOp.cmpi
  rw [bit_of]
  simp only [beq_iff_eq, ← BitVec.toNat_inj, BitVec.toNat_ofNat]
  omega

/-- The test for two different words. -/
theorem other_bit (x y : BitVec 32) : Scalar.cmpi .ne x y = 1#1 ↔ x ≠ y := by
  unfold Scalar.cmpi IntOp.cmpi
  rw [bit_of]
  simp

/-- A block is in use if it is among the first so many. -/
theorem live_iff (h : InRange T0 T1) (i : grid0.Coords) : Live (F := F) T1 i ↔ (i 0).val < used T1 := by
  unfold Live
  rw [readUsed_eq]
  exact (widened_bit _).trans (less_bit h i)

/-- The body loads an expert where the block is in use and is the first or of another expert than the one before. -/
theorem loads_iff (h : InRange T0 T1) (i : grid0.Coords) :
    Loads (F := F) T0 T1 i ↔ (i 0).val < used T1 ∧ ((i 0).val = 0 ∨ T0 (ix1 (i 0)) ≠ T0 (ix1 ⟨(i 0).val - 1, by have : (i 0).val < 219 := (i 0).isLt; omega⟩)) := by
  unfold Loads
  rw [readUsed_eq, readExpert_eq, readPrevious_eq, widened_bit, and_bit, or_bit, less_bit h, first_bit, other_bit]

variable (F) in
/-- The tables as the pipeline takes them, and the pipeline at them. -/
def adm (h : InRange T0 T1) : (pcfg0 (F := F)).Adm := ⟨tables T0 T1, tables_ok h⟩

variable (F) in
/-- The pipeline at the tables. -/
abbrev cfgA (h : InRange T0 T1) : Pipeline.Cfg sig Λ₀ := cfg0 (F := F) (adm F h)

/-- The output is left alone exactly where the block is not in use. -/
theorem idle_out (h : InRange T0 T1) (i : grid0.Coords) : (cfgA F h).idle (4 : Fin 5) i = !decide ((i 0).val < used T1) := by
  change (!(k0_cond2 i ((tables (F := F) T0 T1).atD 1 ![0]) == 1#1)) = _
  have e : (tables (F := F) T0 T1).atD 1 ![0] = T1 (ix1 0) := by
    unfold Pipeline.Prefetch.Contents.atD
    rw [dif_pos (by decide)]
    change T1 _ = T1 _
    congr 1
    funext a; fin_cases a; rfl
  rw [e]
  congr 1
  have := (widened_bit (Scalar.cmpi .slt (BitVec.ofNat 32 (i 0).val) (T1 (ix1 0)))).trans (less_bit h i)
  rw [Bool.eq_iff_iff, beq_iff_eq, decide_eq_true_iff]
  exact this

/-- The result's block is written back after each block in use but the last, and at the end. -/
theorem flush_out (h : InRange T0 T1) (t : Fin (cfgA F h).N) :
    ((cfgA F h).win (4 : Fin 5)).flush t = decide (t.val + 1 < used T1 ∨ t.val = 218) := by
  have hN : (cfgA F h).N = 219 := N_0
  have ht : t.val < 219 := hN ▸ t.isLt
  have hx : ∀ u : Fin (cfgA F h).N, ((cfgA F h).win (4 : Fin 5)).index u = ![min u.val (used T1 - 1), 0] := fun u => by
    refine (rows_index (F := F) h (grid0.coords u)).trans ?_
    rw [coord_val]
  have hp : 1 ≤ used T1 := h.pos (ix1 0)
  have hq : used T1 ≤ 219 := h.le (ix1 0)
  have hG : (cfgA F h).grid.N = 219 := N_0
  unfold Pipeline.Window.flush
  rw [show ((cfgA F h).win (4 : Fin 5)).isOut = true from rfl, Bool.true_and, Bool.eq_iff_iff, Bool.or_eq_true, decide_eq_true_iff, decide_eq_true_iff,
    decide_eq_true_iff]
  constructor
  · rintro (h1 | ⟨h1, h2⟩)
    · exact .inr (by omega)
    · rw [hx, hx] at h2
      by_contra hc
      apply h2
      congr 1
      simp only
      omega
  · rintro (h1 | h1)
    · refine .inr ⟨by omega, fun e => ?_⟩
      rw [hx, hx] at e
      have := congrFun e 0
      change min (t.val + 1) (used T1 - 1) = min t.val (used T1 - 1) at this
      omega
    · exact .inl (by omega)

/-- Nothing is stored in the output's buffer since it was last written back, up to the last block in use; after it, that
    block's result is. -/
theorem fresh_out (h : InRange T0 T1) (t : Fin (cfgA F h).N) :
    (cfgA F h).fresh (4 : Fin 5) t.val = decide (t.val < used T1) := by
  have hN : (cfgA F h).N = 219 := N_0
  have hp : 1 ≤ used T1 := h.pos (ix1 0)
  have ht : t.val < 219 := hN ▸ t.isLt
  rw [Pipeline.Cfg.fresh_tab (cfgA F h) (4 : Fin 5) (fun n => decide (n < used T1 ∨ n = 219)) (decide_eq_true (by omega)) (fun u => ?_) t.val
    (Nat.le_of_lt t.isLt)]
  · rw [Bool.eq_iff_iff, decide_eq_true_iff, decide_eq_true_iff]
    omega
  · have hu : u.val < 219 := hN ▸ u.isLt
    rw [flush_out, idle_out, show ((cfgA F h).grid.coords u 0).val = u.val from coord_val u, Bool.eq_iff_iff, Bool.or_eq_true, Bool.and_eq_true,
      Bool.not_eq_true', decide_eq_true_iff, decide_eq_true_iff, decide_eq_true_iff, decide_eq_false_iff_not]
    omega

end Cert.Proof.Experts

end
-- ==== Proof.Experts.Data.lean ====
/- The pipeline's proof data: what every buffer holds at every grid point, and the body's triple from it. -/
module

public import proofs.«01_k».proof.Proof.Experts.Contents
public import proofs.«01_k».proof.Proof.Experts.Schedule
public import Idealize.ShloMosaic.Lib.Pipeline.Quiescent
public import Idealize.ShloMosaic.Lib.Claim
public import Idealize.ShloMosaic.Lib.Pipeline.TableIdle
public import Idealize.ShloMosaic.Lib.Affine
public import Idealize.ShloMosaic.Lib.Pipeline.ValueKit
public import Idealize.ShloMosaic.Adequacy
public import Idealize.ShloMosaic.Init

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation BodyObligationLoose cellOf)

variable {F : FTy → Type} [FloatOps F]

local notation "𝕄" => MT nD τ sig Unit (Elt F) ℕ (UR sig nD τ) ℕ

variable {T0 : S219.Idx → BitVec 32} {T1 : S1.Idx → BitVec 32} (h : InRange T0 T1)
variable (m : (ℓ : Loc nD τ sig) → Buf (Elt F) ℓ)

/-- The pipelines of the program at the tables: the one there is. -/
abbrev pcs : Fin 1 → Pipeline.Cfg sig Λ₀ := Pipeline.pin (pcfgs (F := F)) fun _ => adm F h

/-- What the buffers hold when the pipeline starts: the launch memory after the copy of the rows. -/
abbrev V (c : Dev nD) (b : Ref sig .tc) : Buf (Elt F) ((c : Thread nD τ).loc b) := StableHlo.after (hostOps0 (F := F)) (fun b => m (c, b)) b

/-- The copy of the rows needs no fresh buffer. -/
theorem copy_fresh : (hostOps0 (F := F) : List (HloOp τ sig (Elt F))).Forall fun op => op.fresh = ∅ := by
  simp only [List.Forall]; repeat' constructor

/-- The copy of the rows writes its own result only. -/
theorem copy_writes : ((hostOps0 (F := F)) : List (HloOp τ sig (Elt F))).Forall fun op => op.writes ⊆ (([main_v0] : List (Ref sig .tc)).map (Proc.devRef (τ := τ) .tc)).toFinset :=
  StableHlo.forall_writes_sub_of_map rfl

/-- A buffer that the copy does not write is as launched. -/
theorem V_arg (c : Dev nD) (b : Ref sig .tc) (hb : b ∉ ([main_v0] : List (Ref sig .tc))) :
    V m c b = m ((c : Thread nD τ).loc b) :=
  StableHlo.after_of_writes_sub (hostOps0 (F := F)) _ copy_writes hb

section
variable (F)
/-- The coordinates of a grid point. -/
abbrev crd (t : Fin (cfgA F h).N) : (cfgA F h).grid.Coords := (cfgA F h).grid.coords t
/-- The buffer that holds the point's rows. -/
abbrev buf0 (t : Fin (cfgA F h).N) : Memref sig .tc .vmem S512x1024 .bf16 := spec0_0.stage ((cfgA F h).slots t (0 : Fin 5))
/-- That buffer is a whole allocation. -/
abbrev buf0_whole (t : Fin (cfgA F h).N) : (buf0 F h t).IsWhole := hstage0_0 (((cfgA F h).slots t (0 : Fin 5)).cast nbuf0_0)
/-- The buffer that holds the point's gate weights. -/
abbrev buf1 (t : Fin (cfgA F h).N) : Memref sig .tc .vmem S1x1x1024x512 .f32 := spec0_1.stage ((cfgA F h).slots t (1 : Fin 5))
/-- That buffer is a whole allocation. -/
abbrev buf1_whole (t : Fin (cfgA F h).N) : (buf1 F h t).IsWhole := hstage0_1 (((cfgA F h).slots t (1 : Fin 5)).cast nbuf0_1)
/-- The buffer that holds the point's up weights. -/
abbrev buf2 (t : Fin (cfgA F h).N) : Memref sig .tc .vmem S1x1x1024x512 .f32 := spec0_2.stage ((cfgA F h).slots t (2 : Fin 5))
/-- That buffer is a whole allocation. -/
abbrev buf2_whole (t : Fin (cfgA F h).N) : (buf2 F h t).IsWhole := hstage0_2 (((cfgA F h).slots t (2 : Fin 5)).cast nbuf0_2)
/-- The buffer that holds the point's down weights. -/
abbrev buf3 (t : Fin (cfgA F h).N) : Memref sig .tc .vmem S1x1x512x1024 .f32 := spec0_3.stage ((cfgA F h).slots t (3 : Fin 5))
/-- That buffer is a whole allocation. -/
abbrev buf3_whole (t : Fin (cfgA F h).N) : (buf3 F h t).IsWhole := hstage0_3 (((cfgA F h).slots t (3 : Fin 5)).cast nbuf0_3)
/-- The buffer that holds the point's result. -/
abbrev buf4 (t : Fin (cfgA F h).N) : Memref sig .tc .vmem S512x1024 .bf16 := spec0_4.stage ((cfgA F h).slots t (4 : Fin 5))
/-- That buffer is a whole allocation. -/
abbrev buf4_whole (t : Fin (cfgA F h).N) : (buf4 F h t).IsWhole := hstage0_4 (((cfgA F h).slots t (4 : Fin 5)).cast nbuf0_4)

/-- There are 219 grid points. -/
theorem points : (cfgA F h).N = 219 := N_0

/-- The last point at or before the `n`-th whose block is in use. -/
def upTo (n : ℕ) : Fin (cfgA F h).N := ⟨min n (used T1 - 1), by have := h.le (ix1 0); have := points F h; unfold used; omega⟩
end

/-- A window's block at a point, read off its array as the pipeline finds it. -/
def iblk (c : Dev nD) (w : Fin (cfgA F h).W) (t : Fin (cfgA F h).N) : (((cfgA F h).win w).xblock (crd F h t)).Idx → Elt F ((cfgA F h).win w).elt :=
  (((cfgA F h).win w).blk t).view.read (Elt F) (V m c (Pipeline.arrRef spec0 w))

/-! ## The blocks -/

/-- The rows a point fetches: its own block's, or the last block's in use. -/
theorem index_rows (t : Fin (cfgA F h).N) : ((cfgA F h).win (0 : Fin 5)).index t = ![min t.val (used T1 - 1), 0] :=
  (rows_index (F := F) h (grid0.coords t)).trans (by rw [coord_val])

/-- The gate's weights' block at a point is its expert's; -/
theorem index_gate (t : Fin (cfgA F h).N) : ((cfgA F h).win (1 : Fin 5)).index t = ![0, expertAt T0 (crd F h t 0), 0, 0] :=
  expert_index (F := F) (T0 := T0) (T1 := T1) (grid0.coords t)

/-- so is that of the other weights of the first step, -/
theorem index_other (t : Fin (cfgA F h).N) : ((cfgA F h).win (2 : Fin 5)).index t = ![0, expertAt T0 (crd F h t 0), 0, 0] := index_gate h t

/-- and that of the second step's weights. -/
theorem index_down (t : Fin (cfgA F h).N) : ((cfgA F h).win (3 : Fin 5)).index t = ![0, expertAt T0 (crd F h t 0), 0, 0] := index_gate h t

/-- The result's block at a point is the rows'. -/
theorem index_out (t : Fin (cfgA F h).N) : ((cfgA F h).win (4 : Fin 5)).index t = ![min t.val (used T1 - 1), 0] := index_rows h t

/-- A row of the block that the rows' window names at a point. -/
def rowOf (h : InRange T0 T1) (n : ℕ) (r : Fin 512) : Fin 112128 := ⟨512 * min n (used T1 - 1) + r.val, by have := h.le (ix1 0); unfold used; omega⟩

/-- The rows that a point reads. -/
theorem rows_read (c : Dev nD) (t : Fin (cfgA F h).N) (y : S512x1024.Idx) :
    (iblk h m c (0 : Fin 5) t : S512x1024.Idx → Elt F .bf16) y = m ((c : Thread nD τ).loc main_arg2) (ix2 (rowOf h t.val (y 0)) (y 1)) := by
  blk_simp [iblk]
  rw [V_arg m c main_arg2 (by decide)]
  refine congrArg _ ?_
  blk_ext [index_rows h t, rowOf]

/-- The weights that a point reads, of its block's expert: the gate's; -/
theorem gate_read (c : Dev nD) (t : Fin (cfgA F h).N) (y : S1x1x1024x512.Idx) :
    (iblk h m c (1 : Fin 5) t : S1x1x1024x512.Idx → Elt F .f32) y
      = m ((c : Thread nD τ).loc main_arg3) (ix4 0 ⟨expertAt T0 (crd F h t 0), h.expert _⟩ (y 2) (y 3)) := by
  blk_simp [iblk]
  rw [V_arg m c main_arg3 (by decide)]
  refine congrArg _ ?_
  blk_ext [index_gate h t]

/-- the other ones of the first step; -/
theorem other_read (c : Dev nD) (t : Fin (cfgA F h).N) (y : S1x1x1024x512.Idx) :
    (iblk h m c (2 : Fin 5) t : S1x1x1024x512.Idx → Elt F .f32) y
      = m ((c : Thread nD τ).loc main_arg4) (ix4 0 ⟨expertAt T0 (crd F h t 0), h.expert _⟩ (y 2) (y 3)) := by
  blk_simp [iblk]
  rw [V_arg m c main_arg4 (by decide)]
  refine congrArg _ ?_
  blk_ext [index_other h t]

/-- the second step's. -/
theorem down_read (c : Dev nD) (t : Fin (cfgA F h).N) (y : S1x1x512x1024.Idx) :
    (iblk h m c (3 : Fin 5) t : S1x1x512x1024.Idx → Elt F .f32) y
      = m ((c : Thread nD τ).loc main_arg5) (ix4 0 ⟨expertAt T0 (crd F h t 0), h.expert _⟩ (y 2) (y 3)) := by
  blk_simp [iblk]
  rw [V_arg m c main_arg5 (by decide)]
  refine congrArg _ ?_
  blk_ext [index_down h t]

/-! ## What the buffers hold -/

/-- The first scratch buffer once the point's expert is in it. -/
def firstAt (c : Dev nD) (t : Fin (cfgA F h).N) : S1024x1024.Idx → Elt F .bf16 := gateUp (iblk h m c (1 : Fin 5) t) (iblk h m c (2 : Fin 5) t)
/-- The second scratch buffer once the point's expert is in it. -/
def secondAt (c : Dev nD) (t : Fin (cfgA F h).N) : S512x1024.Idx → Elt F .bf16 := down (iblk h m c (3 : Fin 5) t)
/-- The point's result. -/
def resultAt (c : Dev nD) (t : Fin (cfgA F h).N) : S512x1024.Idx → Elt F .bf16 := k0_pay4 (iblk h m c (0 : Fin 5) t) (firstAt h m c t) (secondAt h m c t)

/-- Where two points have the same expert, the scratch buffers are to hold the same. -/
theorem firstAt_congr (c : Dev nD) (t u : Fin (cfgA F h).N) (e : T0 (ix1 (crd F h t 0)) = T0 (ix1 (crd F h u 0))) : firstAt h m c t = firstAt h m c u := by
  have e' : expertAt T0 (crd F h t 0) = expertAt T0 (crd F h u 0) := congrArg BitVec.toNat e
  unfold firstAt
  refine congrArg₂ gateUp (funext fun y => ?_) (funext fun y => ?_)
  · rw [gate_read, gate_read]; simp only [e']
  · rw [other_read, other_read]; simp only [e']

/-- The same of the second scratch buffer. -/
theorem secondAt_congr (c : Dev nD) (t u : Fin (cfgA F h).N) (e : T0 (ix1 (crd F h t 0)) = T0 (ix1 (crd F h u 0))) : secondAt h m c t = secondAt h m c u := by
  have e' : expertAt T0 (crd F h t 0) = expertAt T0 (crd F h u 0) := congrArg BitVec.toNat e
  unfold secondAt
  refine congrArg down (funext fun y => ?_)
  rw [down_read, down_read]; simp only [e']

/-- Between two points: the scratch buffers hold the expert of the last block in use so far, and the tables are as given. -/
def Phi (c : Dev nD) (t : Fin ((cfgA F h).N + 1)) : sProp 𝕄 :=
  iprop((∃ a, ⌜t.val ≠ 0 → a = firstAt h m c (upTo F h (t.val - 1))⌝ ∗ (scr0.view.loc (c : Thread nD τ) ↦{fullShare} a))
    ∗ (∃ a, ⌜t.val ≠ 0 → a = secondAt h m c (upTo F h (t.val - 1))⌝ ∗ (scr1.view.loc (c : Thread nD τ) ↦{fullShare} a))
    ∗ (tab0.view.loc (c : Thread nD τ) ↦{fullShare.right} T0)
    ∗ (tab1.view.loc (c : Thread nD τ) ↦{fullShare.right} T1))

/-- The pipeline's proof data. -/
def dats (_ : Fin 1) (c : Dev nD) : Dat τ (Elt F) Unit ℕ (UR sig nD τ) ℕ (cfgA F h) c where
  A w := V m c (Pipeline.arrRef spec0 w)
  after w t := match w with
    | ⟨0, _⟩ => iblk h m c (0 : Fin 5) t
    | ⟨1, _⟩ => iblk h m c (1 : Fin 5) t
    | ⟨2, _⟩ => iblk h m c (2 : Fin 5) t
    | ⟨3, _⟩ => iblk h m c (3 : Fin 5) t
    | ⟨4, _⟩ => resultAt h m c (upTo F h t.val)
  Φ t := Phi h m c t
  q _ := fullShare
  owed _ := 0

/-- After the body each input's buffer holds its block still: the rows', -/
theorem after_0 (c : Dev nD) (t : Fin (cfgA F h).N) : (dats h m 0 c).after (0 : Fin 5) t = iblk h m c (0 : Fin 5) t := rfl
/-- the gate's weights', -/
theorem after_1 (c : Dev nD) (t : Fin (cfgA F h).N) : (dats h m 0 c).after (1 : Fin 5) t = iblk h m c (1 : Fin 5) t := rfl
/-- the other weights', -/
theorem after_2 (c : Dev nD) (t : Fin (cfgA F h).N) : (dats h m 0 c).after (2 : Fin 5) t = iblk h m c (2 : Fin 5) t := rfl
/-- the second step's weights'. -/
theorem after_3 (c : Dev nD) (t : Fin (cfgA F h).N) : (dats h m 0 c).after (3 : Fin 5) t = iblk h m c (3 : Fin 5) t := rfl
/-- The output's buffer holds the result of the last block in use so far. -/
theorem after_4 (c : Dev nD) (t : Fin (cfgA F h).N) : (dats h m 0 c).after (4 : Fin 5) t = resultAt h m c (upTo F h t.val) := rfl

/-- The rows' buffer holds its block when the body runs. -/
theorem before_0 (c : Dev nD) (t : Fin (cfgA F h).N) (d) : (dats h m 0 c).before (0 : Fin 5) t d = iblk h m c (0 : Fin 5) t :=
  ((dats h m 0 c).before_in_eq_fetched (0 : Fin 5) rfl (fun _ => rfl) (fun _ _ _ => rfl) (fun t => by rw [after_0]; unfold Dat.blockOf iblk; rfl) t d).trans
    (by unfold Dat.fetched Dat.blockOf iblk; rfl)

/-- Likewise for the gate weights. -/
theorem before_1 (c : Dev nD) (t : Fin (cfgA F h).N) (d) : (dats h m 0 c).before (1 : Fin 5) t d = iblk h m c (1 : Fin 5) t :=
  ((dats h m 0 c).before_in_eq_fetched (1 : Fin 5) rfl (fun _ => rfl) (fun _ _ _ => rfl) (fun t => by rw [after_1]; unfold Dat.blockOf iblk; rfl) t d).trans
    (by unfold Dat.fetched Dat.blockOf iblk; rfl)

/-- Likewise for the up weights. -/
theorem before_2 (c : Dev nD) (t : Fin (cfgA F h).N) (d) : (dats h m 0 c).before (2 : Fin 5) t d = iblk h m c (2 : Fin 5) t :=
  ((dats h m 0 c).before_in_eq_fetched (2 : Fin 5) rfl (fun _ => rfl) (fun _ _ _ => rfl) (fun t => by rw [after_2]; unfold Dat.blockOf iblk; rfl) t d).trans
    (by unfold Dat.fetched Dat.blockOf iblk; rfl)

/-- Likewise for the down weights. -/
theorem before_3 (c : Dev nD) (t : Fin (cfgA F h).N) (d) : (dats h m 0 c).before (3 : Fin 5) t d = iblk h m c (3 : Fin 5) t :=
  ((dats h m 0 c).before_in_eq_fetched (3 : Fin 5) rfl (fun _ => rfl) (fun _ _ _ => rfl) (fun t => by rw [after_3]; unfold Dat.blockOf iblk; rfl) t d).trans
    (by unfold Dat.fetched Dat.blockOf iblk; rfl)

/-- A point's coordinate is its number. -/
theorem coord_point (t : Fin (cfgA F h).N) : (crd F h t 0).val = t.val := coord_val t

/-- Past the last block in use, the last point in use stays the same. -/
theorem upTo_idle (t : Fin (cfgA F h).N) (ht : used T1 ≤ t.val) : upTo F h (t.val - 1) = upTo F h t.val := by
  have := h.pos (ix1 0)
  apply Fin.ext
  unfold upTo used at *
  simp only
  omega

/-- A point in use is its own last point in use. -/
theorem upTo_live (t : Fin (cfgA F h).N) (ht : t.val < used T1) : upTo F h t.val = t := by
  apply Fin.ext
  unfold upTo
  simp only
  omega

/-- Where the block is not in use, the output's buffer holds the last result. -/
theorem before_4 (c : Dev nD) (t : Fin (cfgA F h).N) (ht : used T1 ≤ t.val) (d) :
    (dats h m 0 c).before (4 : Fin 5) t d = (dats h m 0 c).after (4 : Fin 5) t := by
  have hp : 1 ≤ used T1 := h.pos (ix1 0)
  rw [(dats h m 0 c).before_out_traj (4 : Fin 5) rfl (fun _ _ => rfl) (fun u hu _ hf => by
    rw [after_4, after_4]
    rw [fresh_out, decide_eq_false_iff_not] at hf
    rw [upTo_idle h u (by omega)]) t.val t rfl d, fresh_out, decide_eq_false (by omega), if_neg Bool.false_ne_true, after_4, after_4]
  rw [upTo_idle h t ht]

end Cert.Proof.Experts

end
-- ==== Proof.Experts.Body.lean ====
/- The body's triple at every grid point, from the proof data. -/
module

public import proofs.«01_k».proof.Proof.Experts.Data

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation BodyObligationLoose cellOf)

variable {F : FTy → Type} [FloatOps F]

local notation "𝕄" => MT nD τ sig Unit (Elt F) ℕ (UR sig nD τ) ℕ

variable {T0 : S219.Idx → BitVec 32} {T1 : S1.Idx → BitVec 32} (h : InRange T0 T1)
variable (m : (ℓ : Loc nD τ sig) → Buf (Elt F) ℓ)

/-- The body at a point, as the pipeline calls it. -/
abbrev bodyAt (t : Fin (cfgA F h).N) : Prog (TpuEff nD τ sig (Elt F) Λ₀ .tc) PUnit :=
  cc0_moe_experts (crd F h t) tab0 (Memref.isWhole_whole _) tab1 (Memref.isWhole_whole _) (buf0 F h t) (buf0_whole F h t) (buf1 F h t) (buf1_whole F h t)
    (buf2 F h t) (buf2_whole F h t) (buf3 F h t) (buf3_whole F h t) (buf4 F h t) (buf4_whole F h t) scr0 (Memref.isWhole_whole _) scr1 (Memref.isWhole_whole _)

/-- Where the body loads, the block is in use. -/
theorem loads_at (t : Fin (cfgA F h).N) : Loads (F := F) T0 T1 (crd F h t) → t.val < used T1 := fun hc => coord_point h t ▸ ((loads_iff h _).1 hc).1

/-- The body's second condition at a point, as a bound on the point's number. -/
theorem live_at (t : Fin (cfgA F h).N) : Live (F := F) T1 (crd F h t) ↔ t.val < used T1 := by rw [live_iff h, coord_point h t]

/-- Where the body does not load, in use, the block before it has the same expert. -/
theorem same_expert (t : Fin (cfgA F h).N) (hc0 : ¬Loads (F := F) T0 T1 (crd F h t)) (hl : t.val < used T1) :
    t.val ≠ 0 ∧ T0 (ix1 (crd F h (upTo F h (t.val - 1)) 0)) = T0 (ix1 (crd F h t 0)) := by
  have hi : (crd F h t 0).val = t.val := coord_point h t
  rw [loads_iff h, not_and_or, not_or, not_not] at hc0
  obtain hc0 | ⟨h0, he⟩ := hc0
  · exact absurd hl (hi ▸ hc0)
  refine ⟨hi ▸ h0, Eq.trans ?_ he.symm⟩
  refine congrArg (fun b => T0 (ix1 b)) (Fin.ext ?_)
  change (crd F h (upTo F h (t.val - 1)) 0).val = (crd F h t 0).val - 1
  rw [coord_point h, hi]
  unfold upTo
  simp only
  omega

/-- The point that comes before the next position is this one. -/
theorem before_next (t : Fin (cfgA F h).N) : (t.succ : Fin ((cfgA F h).N + 1)).val - 1 = t.val := by simp

set_option maxHeartbeats 4000000 in
/-- The body where it loads. -/
theorem body_load (c : Dev nD) (t : Fin (cfgA F h).N) (hc0 : Loads (F := F) T0 T1 (crd F h t)) (hl : Live (F := F) T1 (crd F h t)) :
    iprop(Phi h m c t.castSucc ∗ (dats h m 0 c).owesAt () t.castSucc
        ∗ (∃ d : S512x1024.Idx → Elt F .bf16, owns (c : Thread nD τ) (buf0 F h t) fullShare (iblk h m c (0 : Fin 5) t))
        ∗ (∃ d : S1x1x1024x512.Idx → Elt F .f32, owns (c : Thread nD τ) (buf1 F h t) fullShare (iblk h m c (1 : Fin 5) t))
        ∗ (∃ d : S1x1x1024x512.Idx → Elt F .f32, owns (c : Thread nD τ) (buf2 F h t) fullShare (iblk h m c (2 : Fin 5) t))
        ∗ (∃ d : S1x1x512x1024.Idx → Elt F .f32, owns (c : Thread nD τ) (buf3 F h t) fullShare (iblk h m c (3 : Fin 5) t))
        ∗ (∃ d, owns (c : Thread nD τ) (buf4 F h t) fullShare d))
      ⊢ wp frame (wpE (defs₀ (F := F)) Variants.none c none) Set.univ (bodyAt h t) fun _ =>
          iprop(Phi h m c t.succ ∗ (dats h m 0 c).owesAt () t.castSucc
            ∗ owns (c : Thread nD τ) (buf0 F h t) fullShare (iblk h m c (0 : Fin 5) t)
            ∗ owns (c : Thread nD τ) (buf1 F h t) fullShare (iblk h m c (1 : Fin 5) t)
            ∗ owns (c : Thread nD τ) (buf2 F h t) fullShare (iblk h m c (2 : Fin 5) t)
            ∗ owns (c : Thread nD τ) (buf3 F h t) fullShare (iblk h m c (3 : Fin 5) t)
            ∗ owns (c : Thread nD τ) (buf4 F h t) fullShare (resultAt h m c t)) := by
  have hu := upTo_live h t (loads_at h t hc0)
  unfold Phi
  rw [Fin.val_castSucc, before_next h t, hu]
  iintro ⟨⟨⟨%a0, %ha0, HS0⟩, ⟨%a1, %ha1, HS1⟩, HT0, HT1⟩, Ho, ⟨%d0, H0⟩, ⟨%d1, H1⟩, ⟨%d2, H2⟩, ⟨%d3, H3⟩, H4⟩
  iapply (runLoad c (crd F h t) (buf0 F h t) (buf0_whole F h t) (buf1 F h t) (buf1_whole F h t) (buf2 F h t) (buf2_whole F h t) (buf3 F h t)
      (buf3_whole F h t) (buf4 F h t) (buf4_whole F h t) T0 T1 (iblk h m c (0 : Fin 5) t) (iblk h m c (1 : Fin 5) t) (iblk h m c (2 : Fin 5) t)
      (iblk h m c (3 : Fin 5) t) hc0 hl).2.2.2 a0 a1 _
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; exact fun _ => load_first ..
    isplitl [HS1]
    · iexists _; isplitr; swap
      · iexact HS1
      · ipureintro; exact fun _ => load_second ..
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    rw [load_out]
    exact View.read_writes_full _ _ _ _ _

set_option maxHeartbeats 4000000 in
/-- The body where the weights are already there. -/
theorem body_keep (c : Dev nD) (t : Fin (cfgA F h).N) (hc0 : ¬Loads (F := F) T0 T1 (crd F h t)) (hl : Live (F := F) T1 (crd F h t)) :
    iprop(Phi h m c t.castSucc ∗ (dats h m 0 c).owesAt () t.castSucc
        ∗ (∃ d : S512x1024.Idx → Elt F .bf16, owns (c : Thread nD τ) (buf0 F h t) fullShare (iblk h m c (0 : Fin 5) t))
        ∗ (∃ d : S1x1x1024x512.Idx → Elt F .f32, owns (c : Thread nD τ) (buf1 F h t) fullShare (iblk h m c (1 : Fin 5) t))
        ∗ (∃ d : S1x1x1024x512.Idx → Elt F .f32, owns (c : Thread nD τ) (buf2 F h t) fullShare (iblk h m c (2 : Fin 5) t))
        ∗ (∃ d : S1x1x512x1024.Idx → Elt F .f32, owns (c : Thread nD τ) (buf3 F h t) fullShare (iblk h m c (3 : Fin 5) t))
        ∗ (∃ d, owns (c : Thread nD τ) (buf4 F h t) fullShare d))
      ⊢ wp frame (wpE (defs₀ (F := F)) Variants.none c none) Set.univ (bodyAt h t) fun _ =>
          iprop(Phi h m c t.succ ∗ (dats h m 0 c).owesAt () t.castSucc
            ∗ owns (c : Thread nD τ) (buf0 F h t) fullShare (iblk h m c (0 : Fin 5) t)
            ∗ owns (c : Thread nD τ) (buf1 F h t) fullShare (iblk h m c (1 : Fin 5) t)
            ∗ owns (c : Thread nD τ) (buf2 F h t) fullShare (iblk h m c (2 : Fin 5) t)
            ∗ owns (c : Thread nD τ) (buf3 F h t) fullShare (iblk h m c (3 : Fin 5) t)
            ∗ owns (c : Thread nD τ) (buf4 F h t) fullShare (resultAt h m c t)) := by
  have hu := upTo_live h t ((live_at h t).1 hl)
  obtain ⟨h0, he⟩ := same_expert h t hc0 ((live_at h t).1 hl)
  have e0 := firstAt_congr h m c _ t he
  have e1 := secondAt_congr h m c _ t he
  unfold Phi
  rw [Fin.val_castSucc, before_next h t, hu, e0, e1]
  iintro ⟨⟨⟨%a0, %ha0, HS0⟩, ⟨%a1, %ha1, HS1⟩, HT0, HT1⟩, Ho, ⟨%d0, H0⟩, ⟨%d1, H1⟩, ⟨%d2, H2⟩, ⟨%d3, H3⟩, H4⟩
  obtain rfl := ha0 h0
  obtain rfl := ha1 h0
  iapply (runKeep c (crd F h t) (buf0 F h t) (buf0_whole F h t) (buf1 F h t) (buf1_whole F h t) (buf2 F h t) (buf2_whole F h t) (buf3 F h t)
      (buf3_whole F h t) (buf4 F h t) (buf4_whole F h t) T0 T1 (iblk h m c (0 : Fin 5) t) (iblk h m c (1 : Fin 5) t) (iblk h m c (2 : Fin 5) t)
      (iblk h m c (3 : Fin 5) t) (firstAt h m c t) (secondAt h m c t) hc0 hl).2 _
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; exact fun _ => rfl
    isplitl [HS1]
    · iexists _; isplitr; swap
      · iexact HS1
      · ipureintro; exact fun _ => rfl
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro
    rw [keep_out]
    exact View.read_writes_full _ _ _ _ _

set_option maxHeartbeats 4000000 in
/-- The body where the block is not in use: of what is left of the output's buffer any consequence may be kept. -/
theorem body_idle (c : Dev nD) (t : Fin (cfgA F h).N) (hl : ¬Live (F := F) T1 (crd F h t)) (y : S512x1024.Idx → Elt F .bf16) (R : sProp 𝕄)
    (hR : owns (c : Thread nD τ) (buf4 F h t) fullShare y ⊢ R) :
    iprop(Phi h m c t.castSucc ∗ (dats h m 0 c).owesAt () t.castSucc
        ∗ (∃ d : S512x1024.Idx → Elt F .bf16, owns (c : Thread nD τ) (buf0 F h t) fullShare (iblk h m c (0 : Fin 5) t))
        ∗ (∃ d : S1x1x1024x512.Idx → Elt F .f32, owns (c : Thread nD τ) (buf1 F h t) fullShare (iblk h m c (1 : Fin 5) t))
        ∗ (∃ d : S1x1x1024x512.Idx → Elt F .f32, owns (c : Thread nD τ) (buf2 F h t) fullShare (iblk h m c (2 : Fin 5) t))
        ∗ (∃ d : S1x1x512x1024.Idx → Elt F .f32, owns (c : Thread nD τ) (buf3 F h t) fullShare (iblk h m c (3 : Fin 5) t))
        ∗ owns (c : Thread nD τ) (buf4 F h t) fullShare y)
      ⊢ wp frame (wpE (defs₀ (F := F)) Variants.none c none) Set.univ (bodyAt h t) fun _ =>
          iprop(Phi h m c t.succ ∗ (dats h m 0 c).owesAt () t.castSucc
            ∗ owns (c : Thread nD τ) (buf0 F h t) fullShare (iblk h m c (0 : Fin 5) t)
            ∗ owns (c : Thread nD τ) (buf1 F h t) fullShare (iblk h m c (1 : Fin 5) t)
            ∗ owns (c : Thread nD τ) (buf2 F h t) fullShare (iblk h m c (2 : Fin 5) t)
            ∗ owns (c : Thread nD τ) (buf3 F h t) fullShare (iblk h m c (3 : Fin 5) t)
            ∗ R) := by
  have hn : used T1 ≤ t.val := Nat.le_of_not_lt fun e => hl ((live_at h t).2 e)
  have hp : 1 ≤ used T1 := h.pos (ix1 0)
  have hu := upTo_idle h t hn
  unfold Phi
  rw [Fin.val_castSucc, before_next h t, hu]
  iintro ⟨⟨⟨%a0, %ha0, HS0⟩, ⟨%a1, %ha1, HS1⟩, HT0, HT1⟩, Ho, ⟨%d0, H0⟩, ⟨%d1, H1⟩, ⟨%d2, H2⟩, ⟨%d3, H3⟩, H4⟩
  iapply (runIdle c (crd F h t) (buf0 F h t) (buf0_whole F h t) (buf1 F h t) (buf1_whole F h t) (buf2 F h t) (buf2_whole F h t) (buf3 F h t)
      (buf3_whole F h t) (buf4 F h t) (buf4_whole F h t) T0 T1 (iblk h m c (0 : Fin 5) t) (iblk h m c (1 : Fin 5) t) (iblk h m c (2 : Fin 5) t)
      (iblk h m c (3 : Fin 5) t) a0 a1 (fun e => hl ((live_at h t).2 (loads_at h t e))) hl) y _
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; exact fun _ => ha0 (by omega)
    isplitl [HS1]
    · iexists _; isplitr; swap
      · iexact HS1
      · ipureintro; exact fun _ => ha1 (by omega)
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply hR; iexact H4

end Cert.Proof.Experts

end
-- ==== Proof.Experts.Launch.lean ====
/- The program's run from the body's triple: it terminates, leaves its arguments as they were, and each array as the pipeline
   computes it. -/
module

public import proofs.«01_k».proof.Proof.Experts.Body

@[expose] public section

set_option maxRecDepth 16384
set_option Elab.async false

noncomputable section

namespace Cert.Proof.Experts

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation BodyObligationLoose cellOf)

variable {F : FTy → Type} [FloatOps F]

local notation "𝕄" => MT nD τ sig Unit (Elt F) ℕ (UR sig nD τ) ℕ

variable {T0 : S219.Idx → BitVec 32} {T1 : S1.Idx → BitVec 32} (h : InRange T0 T1)
variable (m : (ℓ : Loc nD τ sig) → Buf (Elt F) ℓ)

variable (ρ : Dev nD → PrngReg)

set_option maxHeartbeats 4000000 in
/-- The body's obligation at every point. -/
theorem body_obligation (c : Dev nD) : BodyObligation (dats h m 0 c) (defs₀ (F := F)) Variants.none () Set.univ := fun t => by
  rw [bigSep_W0, bigSep_W0]
  by_cases hl : Live (F := F) T1 (crd F h t)
  · have hn := (live_at h t).1 hl
    have hi : (cfgA F h).idle (4 : Fin 5) ((cfgA F h).grid.coords t) = false := by
      rw [idle_out, show ((cfgA F h).grid.coords t 0).val = t.val from coord_point h t, decide_eq_true hn, Bool.not_true]
    rewrite [hi]
    simp only [before_0, before_1, before_2, before_3, after_0, after_1, after_2, after_3, after_4, upTo_live h t hn]
    rewrite [show (dats h m 0 c).Φ t.succ = Phi h m c t.succ from rfl, show (dats h m 0 c).Φ t.castSucc = Phi h m c t.castSucc from rfl,
      show (dats h m 0 c).owesAt () t.succ = (dats h m 0 c).owesAt () t.castSucc from rfl]
    have hb : {P Q : sProp 𝕄} → (hk : ¬Loads (F := F) T0 T1 (crd F h t) → P ⊢ Q) → (hc : Loads (F := F) T0 T1 (crd F h t) → P ⊢ Q) → P ⊢ Q :=
      fun hk hc => (em _).elim hc hk
    refine .trans ?_ (hb (fun hc => body_keep h m c t hc hl) (fun hc => body_load h m c t hc hl))
    iintro ⟨HP, Ho, H0, H1, H2, H3, ⟨%d4, H4⟩⟩
    isplitl [HP]; · iexact HP
    isplitl [Ho]; · iexact Ho
    isplitl [H0]; · iexact H0
    isplitl [H1]; · iexact H1
    isplitl [H2]; · iexact H2
    isplitl [H3]; · iexact H3
    iexists _; iexact H4
  · have hn : used T1 ≤ t.val := Nat.le_of_not_lt fun e => hl ((live_at h t).2 e)
    have hi : (cfgA F h).idle (4 : Fin 5) ((cfgA F h).grid.coords t) = true := by
      rw [idle_out, show ((cfgA F h).grid.coords t 0).val = t.val from coord_point h t, decide_eq_false (by omega), Bool.not_false]
    rewrite [hi]
    cases hf : ((cfgA F h).win (4 : Fin 5)).flush t
    · simp only [before_0, before_1, before_2, before_3, after_0, after_1, after_2, after_3, before_4 h m c t hn]
      rewrite [show (dats h m 0 c).Φ t.succ = Phi h m c t.succ from rfl, show (dats h m 0 c).Φ t.castSucc = Phi h m c t.castSucc from rfl,
        show (dats h m 0 c).owesAt () t.succ = (dats h m 0 c).owesAt () t.castSucc from rfl]
      refine .trans ?_ (body_idle h m c t hl ((dats h m 0 c).after (4 : Fin 5) t) _ (by
        iintro H
        iexists ((dats h m 0 c).after (4 : Fin 5) t); iexact H))
      iintro ⟨HP, Ho, H0, H1, H2, H3, ⟨%d4, H4⟩⟩
      isplitl [HP]; · iexact HP
      isplitl [Ho]; · iexact Ho
      isplitl [H0]; · iexact H0
      isplitl [H1]; · iexact H1
      isplitl [H2]; · iexact H2
      isplitl [H3]; · iexact H3
      iexact H4
    · simp only [before_0, before_1, before_2, before_3, after_0, after_1, after_2, after_3, before_4 h m c t hn]
      rewrite [show (dats h m 0 c).Φ t.succ = Phi h m c t.succ from rfl, show (dats h m 0 c).Φ t.castSucc = Phi h m c t.castSucc from rfl,
        show (dats h m 0 c).owesAt () t.succ = (dats h m 0 c).owesAt () t.castSucc from rfl]
      refine .trans ?_ (body_idle h m c t hl ((dats h m 0 c).after (4 : Fin 5) t) _ .rfl)
      iintro ⟨HP, Ho, H0, H1, H2, H3, ⟨%d4, H4⟩⟩
      isplitl [HP]; · iexact HP
      isplitl [Ho]; · iexact Ho
      isplitl [H0]; · iexact H0
      isplitl [H1]; · iexact H1
      isplitl [H2]; · iexact H2
      isplitl [H3]; · iexact H3
      iexact H4

/-! ## The launch -/

/-- The program reaches its launch with the arrays as its copies leave them. -/
theorem reaches : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub copy_fresh main_chain

/-- What the launch hands out. -/
def start : UR sig nD τ :=
  initOf (Pipeline.cells (pcs (F := F) h) ((launch0 (F := F)).cellOf_inj fun _ => adm F h))
    (Pipeline.launchToks (pcs (F := F) h) ((launch0 (F := F)).cellOf_inj fun _ => adm F h))

/-- The pipeline holds its arrays whole. -/
theorem share_eq (c : Dev nD) (w : Fin (cfgA F h).W) : (dats h m 0 c).share w = fullShare := by unfold Dat.share; split <;> rfl

/-- The tables as the launch hands them over, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- Before the first point the scratch buffers hold anything. -/
theorem phi_first (c : Dev nD) :
    iprop(BI.emp ∗ Pipeline.prefHeld pre0 c (fun _ => fullShare.right) (adm F h).1 ∗ Pipeline.scopedRest spec0 c) ⊢ (dats h m 0 c).Φ 0 := by
  rw [tables_held, scopedRest0_eq, show (dats h m 0 c).Φ 0 = Phi h m c 0 from rfl]
  unfold Phi
  iintro ⟨-, ⟨HT0, HT1⟩, ⟨%a0, HS0⟩, ⟨%a1, HS1⟩⟩
  isplitl [HS0]
  · iexists a0; isplitr; swap
    · iexact HS0
    · ipureintro; exact fun e => absurd rfl e
  isplitl [HS1]
  · iexists a1; isplitr; swap
    · iexact HS1
    · ipureintro; exact fun e => absurd rfl e
  isplitl [HT0]
  · iexact HT0
  iexact HT1

/-- After the last point the scratch buffers are given back. -/
theorem phi_last (c : Dev nD) : (dats h m 0 c).Φ (Fin.last (cfgA F h).N) ⊢ iprop(BI.emp ∗ Pipeline.scopedRest spec0 c) := by
  rw [scopedRest0_eq, show (dats h m 0 c).Φ (Fin.last (cfgA F h).N) = Phi h m c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run leaves: every array as the pipeline computes it, the tables as they were. -/
def Final : PUnit × MemSt nD τ sig (Elt F) → Prop := fun r =>
  ∀ c : Dev nD, (∀ w : Fin (cfgA F h).W, r.2.mem (((cfgA F h).win w).arr.view.loc (c : Thread nD τ)) = (dats h m 0 c).arrAt w (cfgA F h).N)
    ∧ ∀ j, r.2.mem ((c : Thread nD τ).loc (pre0.ref j)) = (adm F h).1 j

/-- The launch memory holds these tables. -/
def Given (T0 : S219.Idx → BitVec 32) (T1 : S1.Idx → BitVec 32) (m : (ℓ : Loc nD τ sig) → Buf (Elt F) ℓ) : Prop :=
  ∀ c : Dev nD, m ((c : Thread nD τ).loc main_arg0) = T0 ∧ m ((c : Thread nD τ).loc main_arg1) = T1

/-- The pipeline finds the tables as given. -/
theorem tables_found (hp : Given T0 T1 m) (c : Dev nD) (j : Fin 2) : V m c (pre0.ref j) = (adm F h).1 j := by
  fin_cases j
  · exact (V_arg m c main_arg0 (by decide)).trans (hp c).1
  · exact (V_arg m c main_arg1 (by decide)).trans (hp c).2

set_option backward.isDefEq.respectTransparency.types false in
set_option maxHeartbeats 4000000 in
/-- Every run ends, with the arrays as computed and every semaphore at zero. -/
theorem run (hp : Given T0 T1 m) : θ_run (defs (F := F)) (onTc (τ := τ) (main (F := F))) (s₀ m ρ) (fun r => Final h m r ∧ r.2.sem = fun _ => 0) :=
  Pipeline.θ_run_region_noSem_pf_quiescent pcfgs (fun _ => adm F h) (dats h m) () ((launch0 (F := F)).cellOf_inj fun _ => adm F h) (0 : Fin 1)
    (launch0 (F := F)).win.to₀ (launch0 (F := F)).pre emb₁ defs₀ Variants.none m ρ main
    (hbody := fun c => (body_obligation h m c).loose) (hne := (launch0 (F := F)).block_pos)
    (harr := (launch0 (F := F)).arr_whole) (hstage := (launch0 (F := F)).stage_whole) (howed := fun _ _ => rfl)
    (u₀ := start h) (hu₀ := .rfl)
    (V := V m)
    (hmain := reaches m)
    (hsplit := fun c => Pipeline.arrays_split (pcs h) (dats h m) 0 (launch0 (F := F)).win.arr_inj c (launch0 (F := F)).arr_whole
      (share_eq h m c) _ _ fun _ => rfl)
    (hpf := tables_found h m hp)
    (X := fun _ => iprop(emp)) (Y := fun _ => iprop(emp)) (Z := fun _ => iprop(emp))
    (hX := fun c => by rw [unscopedRestP0_eq]; iintro -; isplitr <;> iempintro)
    (hin := phi_first h m)
    (hout := phi_last h m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves in the arguments. -/
theorem final_args (hp : Given T0 T1 m) (r : PUnit × MemSt nD τ sig (Elt F)) (hr : Final h m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (hp c).1.symm, ((hr c).2 1).trans (hp c).2.symm,
    ((hr c).1 (0 : Fin 5)).trans (((dats h m 0 c).arrAt_in (0 : Fin 5) rfl _).trans (V_arg m c main_arg2 (by decide))),
    ((hr c).1 (1 : Fin 5)).trans (((dats h m 0 c).arrAt_in (1 : Fin 5) rfl _).trans (V_arg m c main_arg3 (by decide))),
    ((hr c).1 (2 : Fin 5)).trans (((dats h m 0 c).arrAt_in (2 : Fin 5) rfl _).trans (V_arg m c main_arg4 (by decide))),
    ((hr c).1 (3 : Fin 5)).trans (((dats h m 0 c).arrAt_in (3 : Fin 5) rfl _).trans (V_arg m c main_arg5 (by decide)))⟩

end Cert.Proof.Experts

end
-- ==== Proof.Experts.Words.lean ====
/- The kernel's words: the program at bits and the program over the extended reals are one text, so that what holds of the one
   at every number format holds of the other. -/
module

public import proofs.«01_k».proof.Proof.Gen.Experts
public import proofs.«01_k».proof.Proof.Gen.ExpertsIdeal

@[expose] public section

noncomputable section

namespace Cert.Proof.Experts

open Idealize.ShloMosaic
open Idealize.ShloMosaic.TcCoe

variable {F : FTy → Type} [FloatOps F]

/-- The two bodies are the same. -/
theorem body_eq : @Cert.Experts.cc0_moe_experts F _ _ = @Cert.ExpertsIdeal.cc0_moe_experts F _ _ := by
  unfold Cert.Experts.cc0_moe_experts Cert.ExpertsIdeal.cc0_moe_experts
  rfl

set_option maxHeartbeats 8000000 in
/-- So are the tables of functions that a pipeline calls, -/
theorem bodies_eq : (Cert.Experts.defs₀ (F := F)) = Cert.ExpertsIdeal.defs₀ (F := F) := by
  refine congrArg Defs.onTc (funext fun l => funext fun p => ?_)
  match l, p with
  | 0, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
  | ⟨_ + 1, h⟩, _ => exact absurd h (Nat.not_lt.2 (Nat.le_add_left _ _))

set_option maxHeartbeats 8000000 in
/-- and the tables with the pipelines themselves. -/
theorem table_eq : (Cert.Experts.defs (F := F)) = Cert.ExpertsIdeal.defs (F := F) := by
  unfold Cert.Experts.defs Cert.ExpertsIdeal.defs
  exact congrArg (Pipeline.defs (Cert.Experts.pcfgs (F := F))) bodies_eq

end Cert.Proof.Experts

end
-- ==== Proof.Experts.Frames.lean ====
/- The claims about the experts' call that do not look at its result: every run of the kernel, and of its reference, ends with the
   arguments as they were and every counter at zero. -/
module

public import proofs.«01_k».proof.Defs
public import proofs.«01_k».proof.Proof.Experts.Launch
public import proofs.«01_k».proof.Proof.Experts.Words
public import proofs.«01_k».proof.Proof.Gen.Pre_in_range
public import proofs.«01_k».proof.Proof.Gen.ExpertsReferenceIdeal.Run
public import Idealize.ShloMosaic.Lib.ReduceAll

@[expose] public section

set_option maxRecDepth 16384

noncomputable section

namespace Cert.Proof.Experts

open Cert.ExpertsIdeal (S219 S1)
open Idealize.ShloMosaic Idealize.SL.Sem
open Idealize.ShloMosaic.TcCoe
open Idealize.ShloMosaic.Pointwise

variable {F : FTy → Type} [FloatOps F]

/-- A word from 0 to below 32, compared with sign, is a number below 32. -/
theorem expert_word : ∀ x : BitVec 32, IntOp.cmpi .sge x 0#32 = 1#1 → IntOp.cmpi .slt x 32#32 = 1#1 → x.toNat < 32 := fun x h1 h2 => by
  unfold IntOp.cmpi at h1 h2
  rw [bit_of] at h1 h2
  simp only [BitVec.sle_eq_decide, BitVec.slt_eq_decide, decide_eq_true_eq] at h1 h2
  have e := BitVec.toInt_eq_toNat_cond x
  have := x.isLt
  split at e <;> simp at h1 h2 <;> omega

/-- A word from 1 to 219, compared with sign, is a number from 1 to 219. -/
theorem used_word : ∀ x : BitVec 32, IntOp.cmpi .sge x 1#32 = 1#1 → IntOp.cmpi .sle x 219#32 = 1#1 → 1 ≤ x.toNat ∧ x.toNat ≤ 219 := fun x h1 h2 => by
  unfold IntOp.cmpi at h1 h2
  rw [bit_of] at h1 h2
  simp only [BitVec.sle_eq_decide, decide_eq_true_eq] at h1 h2
  have e := BitVec.toInt_eq_toNat_cond x
  have := x.isLt
  split at e <;> simp at h1 h2 <;> omega

/-- The precondition says that the tables are in range. -/
theorem in_range (T0 : S219.Idx → BitVec 32) (T1 : S1.Idx → BitVec 32) (a2 a3 a4 a5)
    (e : Cert.Pre_in_range.fn (F := F) T0 T1 a2 a3 a4 a5 = fun _ => 1#1) : InRange T0 T1 := by
  haveI : Subsingleton Cert.Pre_in_range.S_.Idx := ⟨fun a b => funext fun x => x.elim0⟩
  have e0 := congrFun e (fun x => x.elim0)
  unfold Cert.Pre_in_range.fn at e0
  obtain ⟨h1, h2⟩ := IntOp.andi_eq_one.1 e0
  have k1 := fun i => IntOp.andi_eq_one.1 (Host.reduce_andi_all _ _ _ _ _ h1 i)
  have k2 := fun i => IntOp.andi_eq_one.1 (Host.reduce_andi_all _ _ _ _ _ h2 i)
  exact ⟨fun i => expert_word _ (k1 i).1 (k1 i).2, fun i => (used_word _ (k2 i).1 (k2 i).2).1, fun i => (used_word _ (k2 i).1 (k2 i).2).2⟩

/-- There is one device, so that the tables are those of every device. -/
theorem given (m : (ℓ : Loc Cert.ExpertsIdeal.nD Cert.ExpertsIdeal.τ Cert.ExpertsIdeal.sig) → Buf (Elt F) ℓ) (c : Dev Cert.ExpertsIdeal.nD) :
    Given (F := F) (m (c.tc.loc Cert.ExpertsIdeal.main_arg0)) (m (c.tc.loc Cert.ExpertsIdeal.main_arg1)) m := fun d => by
  obtain rfl : d = c := Subsingleton.elim _ _
  exact ⟨rfl, rfl⟩

/-- The kernel over the extended reals. -/
theorem ideal_frame : Cert.quiescent_ExpertsIdeal := fun m ρ pre =>
  have h := in_range _ _ _ _ _ _ (pre 0)
  (θ_run Cert.ExpertsIdeal.defs _ _).mono (fun r hr => ⟨final_args h m (given m 0) r hr.1, hr.2⟩) (run h m ρ (given m 0))

/-- The kernel's words. -/
theorem kernel_frame : Cert.quiescent_Experts := fun m ρ pre =>
  have h := in_range _ _ _ _ _ _ (pre 0)
  table_eq (F := Bits) ▸ (θ_run (Cert.ExpertsIdeal.defs (F := Bits)) _ _).mono
    (fun r hr => ⟨final_args (F := Bits) h m (given m 0) r hr.1, hr.2⟩) (run (F := Bits) h m ρ (given m 0))

/-- The reference, which has no semaphore. -/
theorem reference_frame : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

/-- The same for tables in range. -/
theorem reference_frame_in_range : Cert.quiescent_ExpertsReferenceIdeal_pre_in_range := fun m ρ _ => reference_frame m ρ trivial

end Cert.Proof.Experts

end
-- ==== Proof.Experts.Array.lean ====
/- The result's array after the run: the results of the blocks in use, and the rows as given elsewhere. -/
module

public import proofs.«01_k».proof.Proof.Experts.Data
public import Idealize.ShloMosaic.Lib.Pipeline.ValueKit

@[expose] public section

set_option maxRecDepth 16384

noncomputable section

namespace Cert.Proof.Experts

open Cert.ExpertsIdeal Cert.ExpertsIdeal.Gen
open Idealize.ShloMosaic Idealize.ShloMosaic.Pointwise Idealize.ShloMosaic.TcCoe

variable {F : FTy → Type} [FloatOps F]
variable {T0 : S219.Idx → BitVec 32} {T1 : S1.Idx → BitVec 32} (h : InRange T0 T1)
variable (m : (ℓ : Loc nD τ sig) → Buf (Elt F) ℓ) (c : Dev nD)

/-- The array that the result is written over holds the rows as given. -/
theorem copied : V m c main_v0 = m ((c : Thread nD τ).loc main_arg2) := by
  unfold V
  simp only [hostOps0]
  after_results
  rfl

/-- The blocks written back are those in use. -/
theorem covered : ((cfgA F h).win (4 : Fin 5)).CoversWhere (fun β => β (0 : Fin 2) < used T1) := by
  have hp : 1 ≤ used T1 := h.pos (ix1 0)
  have hl : used T1 ≤ 219 := h.le (ix1 0)
  have hN : (cfgA F h).grid.N = 219 := points F h
  have one : ((cfgA F h).win (4 : Fin 5)).nblk (1 : Fin 2) = 1 := by
    delta Pipeline.Window.nblk
    show (1024 + 1024 - 1) / 1024 = 1
    norm_num
  refine ⟨fun a => ?_, fun t hf => ⟨?_, fun a => .inl ?_⟩, fun β hq => ?_⟩
  · fin_cases a <;> exact Nat.succ_pos _
  · rw [index_out]
    show min t.val (used T1 - 1) < used T1
    omega
  · rfl
  · have hq' : (β (0 : Fin 2)).val < used T1 := hq
    by_cases e : (β (0 : Fin 2)).val + 1 = used T1
    · refine ⟨⟨218, by omega⟩, fun a => ?_, ?_⟩
      · rw [index_out]
        fin_cases a
        · show min 218 (used T1 - 1) = (β (0 : Fin 2)).val
          omega
        · show 0 = (β (1 : Fin 2)).val
          have := (β (1 : Fin 2)).isLt
          omega
      · rw [flush_out]; exact decide_eq_true (.inr rfl)
    · refine ⟨⟨(β (0 : Fin 2)).val, by omega⟩, fun a => ?_, ?_⟩
      · rw [index_out]
        fin_cases a
        · show min (β (0 : Fin 2)).val (used T1 - 1) = (β (0 : Fin 2)).val
          omega
        · show 0 = (β (1 : Fin 2)).val
          have := (β (1 : Fin 2)).isLt
          omega
      · rw [flush_out]; refine decide_eq_true (.inl ?_); show (β (0 : Fin 2)).val + 1 < used T1; omega

/-- A row's block, as a grid point. -/
def blockOf (R : Fin 112128) : Fin (cfgA F h).N := ⟨R.val / 512, by have := points F h; omega⟩

/-- The result's array after the run. -/
theorem final : (dats h m 0 c).arrAt (4 : Fin 5) (cfgA F h).N
    = fun i : S112128x1024.Idx => if (i 0).val / 512 < used T1 then resultAt h m c (blockOf h (i 0)) (ix2 ⟨(i 0).val % 512, by omega⟩ (i 1))
        else m ((c : Thread nD τ).loc main_arg2) i := by
  refine ((dats h m 0 c).arrAt_eq_of_coversWhere (4 : Fin 5) (fun i : S112128x1024.Idx => resultAt h m c (blockOf h (i 0)) (ix2 ⟨(i 0).val % 512, by omega⟩ (i 1)))
    (P := fun i : S112128x1024.Idx => (i 0).val / 512 < used T1) _ (covered h) (fun t hf y => ?_) (fun j => Iff.rfl)).trans ?_
  · have hN : (cfgA F h).grid.N = 219 := points F h
    have ht := t.isLt
    have e : (((cfgA F h).win (4 : Fin 5)).blk t).view.emb y = ix2 (rowOf h t.val (y (0 : Fin 2))) (y (1 : Fin 2)) := by
      blk_ext [index_out h t, rowOf]
    have eb : blockOf h (rowOf (T0 := T0) (T1 := T1) h t.val (y (0 : Fin 2))) = upTo F h t.val := Fin.ext (by
      have : (y (0 : Fin 2)).val < 512 := (y (0 : Fin 2)).isLt
      show (512 * min t.val (used T1 - 1) + (y (0 : Fin 2)).val) / 512 = min t.val (used T1 - 1)
      omega)
    rw [after_4, e]
    blk_simp
    show _ = resultAt h m c (blockOf h (rowOf h t.val (y (0 : Fin 2)))) _
    rw [eb]
    refine congrArg _ (funext fun a => ?_)
    have hy : (y (0 : Fin 2)).val < 512 := (y (0 : Fin 2)).isLt
    fin_cases a
    · refine Fin.ext ?_
      show (y (0 : Fin 2)).val = (512 * min t.val (used T1 - 1) + (y (0 : Fin 2)).val) % 512
      omega
    · rfl
  · funext i
    exact if_congr Iff.rfl rfl (congrFun (copied m c) i)

end Cert.Proof.Experts

end
-- ==== Proof.Experts.Expert.lean ====
/- An expert's result on one row, over the extended reals, and that the body's arithmetic computes it. -/
module

public import proofs.«01_k».proof.Proof.Experts.Contents
public import Idealize.ShloMosaic.Lib.Pointwise
public import Idealize.ShloMosaic.Lib.WritesUnit

@[expose] public section

set_option maxRecDepth 16384

noncomputable section

namespace Cert.Proof.Experts

open Cert.ExpertsIdeal Cert.ExpertsIdeal.Gen
open Idealize.ShloMosaic Idealize.ShloMosaic.Pointwise
open scoped BigOperators

/-- A row times one of an expert's first matrices. -/
def first (x : Fin 1024 → EReal) (A : Fin 1024 → Fin 512 → EReal) (k : Fin 512) : EReal := ∑ i : Fin 1024, x i * A i k

/-- The expert's gated unit: the gate, times its logistic, times the other product. -/
def hidden (x : Fin 1024 → EReal) (A B : Fin 1024 → Fin 512 → EReal) (k : Fin 512) : EReal :=
  first x A k * Ideal.logistic (first x A k) * first x B k

/-- The expert's result. -/
def expert (x : Fin 1024 → EReal) (A B : Fin 1024 → Fin 512 → EReal) (D : Fin 512 → Fin 1024 → EReal) (j : Fin 1024) : EReal :=
  ∑ k : Fin 512, hidden x A B k * D k j

variable (x0 : S512x1024.Idx → EReal) (x1 x2 : S1x1x1024x512.Idx → EReal) (x3 : S1x1x512x1024.Idx → EReal)

/-- The gate's weights as the first scratch buffer takes them. -/
theorem pay1_apply (i : Fin 1024) (k : Fin 512) : k0_pay1 (F := Ideal) x1 (ix2 i k) = x1 (ix4 0 0 i k) := by
  unfold k0_pay1
  pointwise

/-- The other weights of the first step likewise. -/
theorem pay2_apply (i : Fin 1024) (k : Fin 512) : k0_pay2 (F := Ideal) x2 (ix2 i k) = x2 (ix4 0 0 i k) := by
  unfold k0_pay2
  pointwise

/-- The second step's weights as the second scratch buffer takes them. -/
theorem down_apply (k : Fin 512) (j : Fin 1024) : down (F := Ideal) x3 (ix2 k j) = x3 (ix4 0 0 k j) := by
  unfold down k0_pay3
  pointwise

/-- The left half of the first scratch buffer is the gate's weights. -/
theorem gateUp_left (i : Fin 1024) (k : Fin 512) : gateUp (F := Ideal) x1 x2 (ix2 i ⟨k.val, by omega⟩) = x1 (ix4 0 0 i k) := by
  rw [← pay1_apply x1]
  unfold gateUp
  generalize k0_pay1 (F := Ideal) x1 = y1
  generalize k0_pay2 (F := Ideal) x2 = y2
  have e := View.read_writes_cons_unit_of_not_mem (s := S1024x1024) (e := .bf16) (Val := Elt Ideal) (View.whole cc0_scratch0) (View.whole cc0_scratch0).junk
    inb_S1024x1024_S1024x512_0_512 y2 [⟨Rect.unit ![0, 0] S1024x512.size inb_S1024x1024_S1024x512_0_0, y1⟩] (ix2 i ⟨k.val, by omega⟩) rfl 1 (.inl (by exact k.isLt))
  have e' := View.read_writes_cons_unit_of_mem (s := S1024x1024) (e := .bf16) (Val := Elt Ideal) (View.whole cc0_scratch0) (View.whole cc0_scratch0).junk
    inb_S1024x1024_S1024x512_0_0 y1 [] (ix2 i ⟨k.val, by omega⟩) (ix2 i k) rfl
    (Fin.forall_fin_two.mpr ⟨(Nat.zero_add _).symm, (Nat.zero_add _).symm⟩)
  rw [e', View.read_whole] at e
  exact e

/-- The right half is the other weights. -/
theorem gateUp_right (i : Fin 1024) (k : Fin 512) : gateUp (F := Ideal) x1 x2 (ix2 i ⟨512 + k.val, by omega⟩) = x2 (ix4 0 0 i k) := by
  rw [← pay2_apply x2]
  unfold gateUp
  generalize k0_pay1 (F := Ideal) x1 = y1
  generalize k0_pay2 (F := Ideal) x2 = y2
  have e := View.read_writes_cons_unit_of_mem (s := S1024x1024) (e := .bf16) (Val := Elt Ideal) (View.whole cc0_scratch0) (View.whole cc0_scratch0).junk
    inb_S1024x1024_S1024x512_0_512 y2 [⟨Rect.unit ![0, 0] S1024x512.size inb_S1024x1024_S1024x512_0_0, y1⟩] (ix2 i ⟨512 + k.val, by omega⟩) (ix2 i k) rfl
    (Fin.forall_fin_two.mpr ⟨(Nat.zero_add _).symm, rfl⟩)
  rw [View.read_whole] at e
  exact e

/-- The body's arithmetic on one row, the first matrices side by side. -/
theorem pay4_apply (w : S1024x1024.Idx → EReal) (v : S512x1024.Idx → EReal) (r : Fin 512) (j : Fin 1024) :
    k0_pay4 (F := Ideal) x0 w v (ix2 r j)
      = expert (fun i => x0 (ix2 r i)) (fun i k => w (ix2 i ⟨k.val, by omega⟩)) (fun i k => w (ix2 i ⟨512 + k.val, by omega⟩)) (fun k j => v (ix2 k j)) j := by
  unfold k0_pay4 expert hidden first
  pointwise

end Cert.Proof.Experts

end
-- ==== Proof.Experts.Reference.lean ====
/- The reference's result, entry by entry, as the row's expert's result. -/
module

public import proofs.«01_k».proof.Proof.Experts.Expert
public import proofs.«01_k».proof.Proof.Experts.Tables
public import proofs.«01_k».proof.Proof.Gen.ExpertsReferenceIdeal.Read
public import Idealize.ShloMosaic.Lib.Pointwise

@[expose] public section

set_option maxRecDepth 16384

noncomputable section

namespace Cert.Proof.Experts

open Cert.ExpertsReferenceIdeal Cert.ExpertsReferenceIdeal.Read
open Idealize.ShloMosaic Idealize.ShloMosaic.Pointwise
open scoped BigOperators

variable {T0 : S219.Idx → BitVec 32} {T1 : S1.Idx → BitVec 32}
variable (X : S112128x1024.Idx → EReal) (A B : S2x32x1024x512.Idx → EReal) (D : S2x32x512x1024.Idx → EReal)

/-- The reshape that drops the layer's axis of a first matrix keeps expert, row and column. -/
theorem first_index (e : Fin 32) (i : Fin 1024) (k : Fin 512) : idx_main_v1 (idx_main_v2 (ix3 e i k)) = ix4 0 e i k := by
  have he := e.isLt
  have hi := i.isLt
  have hk := k.isLt
  funext a
  refine Fin.ext ?_
  fin_cases a
  · rfl
  · show ((e.val * 1024 + i.val) * 512 + k.val) / 524288 % 32 = e.val
    omega
  · show ((e.val * 1024 + i.val) * 512 + k.val) / 512 % 1024 = i.val
    omega
  · show ((e.val * 1024 + i.val) * 512 + k.val) % 512 = k.val
    omega

/-- The same of a second matrix. -/
theorem second_index (e : Fin 32) (k : Fin 512) (j : Fin 1024) : idx_main_v11 (idx_main_v12 (ix3 e k j)) = ix4 0 e k j := by
  have he := e.isLt
  have hk := k.isLt
  have hj := j.isLt
  funext a
  refine Fin.ext ?_
  fin_cases a
  · rfl
  · show ((e.val * 512 + k.val) * 1024 + j.val) / 524288 % 32 = e.val
    omega
  · show ((e.val * 512 + k.val) * 1024 + j.val) / 1024 % 512 = k.val
    omega
  · show ((e.val * 512 + k.val) * 1024 + j.val) % 1024 = j.val
    omega

/-- The gate's product, of expert `e` on row `R`. -/
theorem gate_apply (e : Fin 32) (R : Fin 112128) (k : Fin 512) :
    val_main_v4 (F := Ideal) X A (ix3 e R k) = first (fun i => X (ix2 R i)) (fun i k => A (ix4 0 e i k)) k := by
  rw [val_main_v4_apply, val_main_v3_apply]
  refine Finset.sum_congr rfl fun i _ => ?_
  have hl : lidx_main_v3 (idx_main_v4 (ix3 e R k)) i = ix3 e i k := by funext a; fin_cases a <;> rfl
  have hr : ridx_main_v3 (idx_main_v4 (ix3 e R k)) i = ix2 R i := by funext a; fin_cases a <;> rfl
  rw [hl, hr, val_main_v2_apply, val_main_v1_apply, first_index, mul_comm]
  rfl

/-- The other product likewise. -/
theorem other_apply (e : Fin 32) (R : Fin 112128) (k : Fin 512) :
    val_main_v8 (F := Ideal) X B (ix3 e R k) = first (fun i => X (ix2 R i)) (fun i k => B (ix4 0 e i k)) k := gate_apply X B e R k

/-- The gated unit. -/
theorem hidden_apply (e : Fin 32) (R : Fin 112128) (k : Fin 512) :
    val_main_v10 (F := Ideal) X A B (ix3 e R k)
      = hidden (fun i => X (ix2 R i)) (fun i k => A (ix4 0 e i k)) (fun i k => B (ix4 0 e i k)) k := by
  rw [val_main_v10_apply, val_main_v9_apply, val_main_call0_v5_apply, val_main_call0_v4_apply, val_main_call0_v3_apply,
    val_main_call0_v2_apply, val_main_call0_v1_apply, val_main_call0_v0_apply, other_apply, gate_apply,
    val_main_call0_cst_0_apply, val_main_call0_cst_apply]
  unfold hidden Ideal.logistic
  rw [← Ideal.ofBits_one_f32]
  rfl

/-- The second product. -/
theorem expert_apply (e : Fin 32) (R : Fin 112128) (j : Fin 1024) :
    val_main_v13 (F := Ideal) X A B D (ix3 e R j)
      = expert (fun i => X (ix2 R i)) (fun i k => A (ix4 0 e i k)) (fun i k => B (ix4 0 e i k)) (fun k j => D (ix4 0 e k j)) j := by
  rw [val_main_v13_apply]
  refine Finset.sum_congr rfl fun k _ => ?_
  have hl : lidx_main_v13 (ix3 e R j) k = ix3 e R k := by funext a; fin_cases a <;> rfl
  have hr : ridx_main_v13 (ix3 e R j) k = ix3 e k j := by funext a; fin_cases a <;> rfl
  rw [hl, hr, hidden_apply, val_main_v12_apply, val_main_v11_apply, second_index]

/-- The row's block. -/
def blockRow (R : Fin 112128) : Fin 219 := ⟨R.val / 512, by omega⟩

/-- The mask that picks the row's expert. -/
theorem mask_apply (h : InRange T0 T1) (e : Fin 32) (R : Fin 112128) (j : Fin 1024) :
    val_main_v19 (F := Ideal) T0 (ix3 e R j) = if e.val = expertAt T0 (blockRow R) then 1 else 0 := by
  rw [val_main_v19_apply, val_main_v18_apply, val_main_v17_apply, val_main_v16_apply, val_main_call1_v4_apply, val_main_call1_v3_apply,
    val_main_call1_v2_apply, val_main_call1_v1_apply, val_main_call1_v0_apply, val_main_v15_apply, val_main_v14_apply]
  have hi : idx_main_v14 (idx_main_v15 (idx_main_call1_v0 (idx_main_call1_v2 (idx_main_v17 (idx_main_v18 (idx_main_v19 (ix3 e R j)))))))
      = ix1 (blockRow R) := by funext a; fin_cases a; rfl
  rw [hi]
  show FloatOps.uitofp .f32 (IntOp.cmpi .eq (T0 (ix1 (blockRow R))) (BitVec.ofNat 32 e.val)) = _
  have hw : (T0 (ix1 (blockRow R)) == BitVec.ofNat 32 e.val) = decide (e.val = expertAt T0 (blockRow R)) := by
    have := e.isLt
    unfold expertAt
    rw [Bool.eq_iff_iff, beq_iff_eq, decide_eq_true_iff, ← BitVec.toNat_inj, BitVec.toNat_ofNat]
    omega
  show FloatOps.uitofp .f32 (BitVec.ofBool (T0 (ix1 (blockRow R)) == BitVec.ofNat 32 e.val)) = _
  rw [hw]
  by_cases k : e.val = expertAt T0 (blockRow R)
  · rw [decide_eq_true k, if_pos k]
    show ((((1#1).toNat : ℝ)) : EReal) = 1
    simp
  · rw [decide_eq_false k, if_neg k]
    show ((((0#1).toNat : ℝ)) : EReal) = 0
    simp

/-- The sum over the experts is the row's. -/
theorem combined_apply (h : InRange T0 T1) (R : Fin 112128) (j : Fin 1024) :
    val_main_v21 (F := Ideal) T0 X A B D (ix2 R j)
      = expert (fun i => X (ix2 R i)) (fun i k => A (ix4 0 ⟨expertAt T0 (blockRow R), h.expert _⟩ i k))
          (fun i k => B (ix4 0 ⟨expertAt T0 (blockRow R), h.expert _⟩ i k)) (fun k j => D (ix4 0 ⟨expertAt T0 (blockRow R), h.expert _⟩ k j)) j := by
  rw [val_main_v21_apply, val_main_cst_apply]
  have hi : ∀ e : Fin 32, idx_main_v21 (ix2 R j) e = ix3 e R j := fun e => by funext a; fin_cases a <;> rfl
  simp only [hi, val_main_v20_apply, mask_apply h, expert_apply]
  rw [Finset.sum_eq_single (⟨expertAt T0 (blockRow R), h.expert _⟩ : Fin 32)]
  · rw [if_pos rfl]
    show Ideal.ofBits .f32 0x00000000#32 + _ * 1 = _
    rw [Ideal.ofBits_zero_f32, zero_add, mul_one]
  · intro e _ he
    rw [if_neg (fun k => he (Fin.ext k))]
    exact mul_zero _
  · intro k
    exact absurd (Finset.mem_univ _) k

/-- Which rows are in a block in use. -/
theorem in_use (h : InRange T0 T1) (R : Fin 112128) (j : Fin 1024) :
    val_main_call2_v0 (F := Ideal) T1 (ix2 R j) = BitVec.ofBool (decide (R.val / 512 < used T1)) := by
  rw [val_main_call2_v0_apply, val_main_v27_apply, val_main_v26_apply, val_main_v25_apply, val_main_v24_apply, val_main_v22_apply, val_main_c_apply]
  have hw : ∀ i, val_main_v23 (F := Ideal) T1 i = T1 (ix1 0) := fun i => by
    unfold val_main_v23 shapeCast
    refine congrArg T1 (funext fun a => ?_)
    fin_cases a
    exact Subsingleton.elim (α := Fin 1) _ _
  rw [hw]
  have h1 := h.le (ix1 0)
  have hR := R.isLt
  have hm : (512#32 * T1 (ix1 0)).toNat = 512 * used T1 := by
    unfold used
    rw [BitVec.toNat_mul]
    show 512 * (T1 (ix1 0)).toNat % 2 ^ 32 = _
    omega
  have hr : (BitVec.ofNat 32 R.val).toNat = R.val := by rw [BitVec.toNat_ofNat]; omega
  show BitVec.ofBool ((BitVec.ofNat 32 R.val).slt (512#32 * T1 (ix1 0))) = _
  have hu : used T1 ≤ 219 := h1
  rw [BitVec.slt_eq_decide, BitVec.toInt_eq_toNat_of_lt (by omega), BitVec.toInt_eq_toNat_of_lt (by omega), hm, hr]
  congr 1
  rw [decide_eq_decide]
  omega

/-- The reference's result. -/
theorem reference_apply (h : InRange T0 T1) (R : Fin 112128) (j : Fin 1024) :
    val_main_v29 (F := Ideal) T0 T1 X A B D (ix2 R j)
      = if R.val / 512 < used T1 then
          expert (fun i => X (ix2 R i)) (fun i k => A (ix4 0 ⟨expertAt T0 (blockRow R), h.expert _⟩ i k))
            (fun i k => B (ix4 0 ⟨expertAt T0 (blockRow R), h.expert _⟩ i k)) (fun k j => D (ix4 0 ⟨expertAt T0 (blockRow R), h.expert _⟩ k j)) j
        else X (ix2 R j) := by
  rw [val_main_v29_apply, in_use h, val_main_v28_apply]
  by_cases hR : R.val / 512 < used T1
  · rw [if_pos hR, decide_eq_true hR, ← combined_apply X A B D h]
    rfl
  · rw [if_neg hR, decide_eq_false hR]
    rfl

end Cert.Proof.Experts

end
-- ==== Proof.Experts.Whole.lean ====
/- The kernel's result array is the reference's, and the claim of the two programs' equality. -/
module

public import proofs.«01_k».proof.Proof.Experts.Array
public import proofs.«01_k».proof.Proof.Experts.Reference
public import proofs.«01_k».proof.Proof.Experts.Frames

@[expose] public section

set_option maxRecDepth 16384

noncomputable section

namespace Cert.Proof.Experts

open Cert.ExpertsIdeal Cert.ExpertsIdeal.Gen
open Idealize.ShloMosaic Idealize.ShloMosaic.Pointwise Idealize.ShloMosaic.TcCoe Idealize.SL.Sem

variable {T0 : S219.Idx → BitVec 32} {T1 : S1.Idx → BitVec 32} (h : InRange T0 T1)
variable (m : (ℓ : Loc nD τ sig) → Buf (Elt Ideal) ℓ) (c : Dev nD)

/-- The row that a point in use reads as its `r`-th is the array's. -/
theorem rowOf_block (R : Fin 112128) (hR : R.val / 512 < used T1) :
    rowOf h (blockOf (F := Ideal) h R).val ⟨R.val % 512, by omega⟩ = R := Fin.ext (by
  show 512 * min (R.val / 512) (used T1 - 1) + R.val % 512 = R.val
  omega)

/-- The block's number is its grid point's coordinate. -/
theorem coord_block (R : Fin 112128) : crd Ideal h (blockOf h R) 0 = blockRow R := Fin.ext (coord_point h _)

/-- An expert's result depends on the row and the weights only. -/
theorem expert_congr {x y : Fin 1024 → EReal} {A A' B B' : Fin 1024 → Fin 512 → EReal} {D D' : Fin 512 → Fin 1024 → EReal}
    (hx : x = y) (hA : A = A') (hB : B = B') (hD : D = D') (j : Fin 1024) : expert x A B D j = expert y A' B' D' j := by
  rw [hx, hA, hB, hD]

/-- A point in use computes its expert's result on each row of its block. -/
theorem result_row (R : Fin 112128) (j : Fin 1024) (hR : R.val / 512 < used T1) :
    resultAt h m c (blockOf h R) (ix2 ⟨R.val % 512, by omega⟩ j)
      = expert (fun i => m ((c : Thread nD τ).loc main_arg2) (ix2 R i))
          (fun i k => m ((c : Thread nD τ).loc main_arg3) (ix4 0 ⟨expertAt T0 (blockRow R), h.expert _⟩ i k))
          (fun i k => m ((c : Thread nD τ).loc main_arg4) (ix4 0 ⟨expertAt T0 (blockRow R), h.expert _⟩ i k))
          (fun k j => m ((c : Thread nD τ).loc main_arg5) (ix4 0 ⟨expertAt T0 (blockRow R), h.expert _⟩ k j)) j := by
  unfold resultAt firstAt secondAt
  rw [pay4_apply]
  exact expert_congr
    (funext fun i => (rows_read h m c _ _).trans (congrArg (fun R => m ((c : Thread nD τ).loc main_arg2) (ix2 R i)) (rowOf_block h R hR)))
    (funext fun i => funext fun k => (gateUp_left _ _ i k).trans ((gate_read h m c _ _).trans
      (congrArg (fun b => m ((c : Thread nD τ).loc main_arg3) (ix4 0 ⟨expertAt T0 b, h.expert _⟩ i k)) (coord_block h R))))
    (funext fun i => funext fun k => (gateUp_right _ _ i k).trans ((other_read h m c _ _).trans
      (congrArg (fun b => m ((c : Thread nD τ).loc main_arg4) (ix4 0 ⟨expertAt T0 b, h.expert _⟩ i k)) (coord_block h R))))
    (funext fun k => funext fun j => (down_apply _ k j).trans ((down_read h m c _ _).trans
      (congrArg (fun b => m ((c : Thread nD τ).loc main_arg5) (ix4 0 ⟨expertAt T0 b, h.expert _⟩ k j)) (coord_block h R)))) j

/-- The kernel's result is the reference's. -/
theorem value : (dats h m 0 c).arrAt (4 : Fin 5) (cfgA Ideal h).N
    = Cert.ExpertsReferenceIdeal.Read.val_main_v29 (F := Ideal) T0 T1 (m ((c : Thread nD τ).loc main_arg2)) (m ((c : Thread nD τ).loc main_arg3))
        (m ((c : Thread nD τ).loc main_arg4)) (m ((c : Thread nD τ).loc main_arg5)) := by
  rw [final]
  funext i
  obtain ⟨R, j, rfl⟩ : ∃ R j, i = ix2 R j := ⟨i 0, i 1, (ix2_eta i).symm⟩
  rw [reference_apply _ _ _ _ h]
  by_cases hR : R.val / 512 < used T1
  · rw [if_pos hR, ← result_row h m c R j hR]
    exact if_pos hR
  · rw [if_neg hR]
    exact if_neg hR

/-- The two programs compute the same. -/
theorem equal : Cert.algebraic_ExpertsIdeal_ExpertsReferenceIdeal := fun m g m' g' pre agree => by
  have h := in_range _ _ _ _ _ _ (pre 0)
  refine ⟨fun c => (dats h m 0 c).arrAt (4 : Fin 5) (cfgA Ideal h).N, ?_, ?_⟩
  · exact (θ_run Cert.ExpertsIdeal.defs _ _).mono (fun r hr c => ⟨(hr.1 c).1 (4 : Fin 5), final_args h m (given m 0) r hr.1 c⟩) (run h m g (given m 0))
  · refine (θ_run Cert.ExpertsReferenceIdeal.defs _ _).mono (fun r hr c => ⟨(hr c).1.trans ?_, (hr c).2⟩) (Cert.ExpertsReferenceIdeal.Value.run m' g')
    rw [Cert.ExpertsReferenceIdeal.Read.val_main_v29_eq]
    obtain rfl : c = 0 := Subsingleton.elim _ _
    obtain ⟨e0, e1, e2, e3, e4, e5⟩ := agree 0
    rw [e0, e1, e2, e3, e4, e5]
    exact (value h m 0).symm

end Cert.Proof.Experts

end
-- ==== Proof.Projection.Block.lean ====
/- What one grid point of the projection's kernel leaves in its block: forty panels of 128 columns, each cut from one
   product of the normalised rows with the weights. -/
module

public import proofs.«01_k».proof.Proof.Math
public import proofs.«01_k».proof.Proof.Gen.ProjectionIdeal.Frame
public import Idealize.ShloMosaic.Lib.Pointwise

@[expose] public section

noncomputable section

namespace Cert.ProjectionIdeal.Block

open Cert.ProjectionIdeal Cert.ProjectionIdeal.Gen Idealize.ShloMosaic Idealize.ShloMosaic.Pointwise Layer
open scoped BigOperators

/-- The body's test of its grid point: whether the point's tile is the prompt's. -/
theorem prompt_flag (i : grid0.Coords) :
    Scalar.cmpi .slt (BitVec.ofNat 32 (i 0).val) 32#32 = if (i 0).val < 32 then 1#1 else 0#1 := by
  generalize i 0 = n
  revert n
  decide +kernel

/-- The product at row `r`: the row of the tile the point reads, normalised, times the weights. -/
theorem product_apply (i : grid0.Coords) (x0 x1 : Vec Ideal S512x1024 .f32) (g : Vec Ideal S1x1024 .f32) (w : Vec Ideal S1024x5120 .bf16)
    (r : Fin 512) (j : Fin 5120) :
    k0_pay5 i x0 x1 g w (ix2 r j)
      = lin (rms (fun k => if (i 0).val < 32 then x0 (ix2 r k) else x1 (ix2 r k)) (fun k => g (ix2 0 k))) (fun k n => w (ix2 k n)) j := by
  unfold k0_pay5
  rw [prompt_flag]
  by_cases h : (i 0).val < 32
  · simp only [if_pos h]
    unfold lin rms
    rw [show ∀ a b : Vec Ideal S512x1024 .f32, Scalar.select 1#1 a b = a from fun _ _ => rfl]
    pointwise [dot_S512x1024_S1024x5120_S512x5120_1_0_0_1_n_n]
  · simp only [if_neg h]
    unfold lin rms
    rw [show ∀ a b : Vec Ideal S512x1024 .f32, Scalar.select 0#1 a b = b from fun _ _ => rfl]
    pointwise [dot_S512x1024_S1024x5120_S512x5120_1_0_0_1_n_n]

/-- Panel `n` lies inside the block. -/
theorem panel_inb {n : ℕ} (h : n < 40) : ∀ a, (![n, 0, 0] : Fin 3 → ℕ) a + S1x512x128.size a ≤ S40x512x128.size a := by
  intro a
  fin_cases a
  · show n + 1 ≤ 40; omega
  · show 0 + 512 ≤ 512; omega
  · show 0 + 128 ≤ 128; omega

/-- The columns of panel `n` lie inside the product. -/
theorem panel_slices {n : ℕ} (h : n < 40) : S512x5120.Slices ![0, 128 * n] S512x128 := by
  refine ⟨rfl, fun a => ?_⟩
  fin_cases a
  · show 0 + 512 ≤ 512; omega
  · show 128 * n + 128 ≤ 5120; omega

/-- The columns `128 n` to `128 n + 127` of the product, as a panel. -/
def panel (v : FVec Ideal S512x5120 .f32) (n : ℕ) (h : n < 40) : FVec Ideal S1x512x128 .bf16 :=
  shapeCast S1x512x128 (truncf .bf16 (extractStridedSlice S512x128 ![0, 128 * n] v (panel_slices h)) bitsLt_bf16_f32) shapeCasts_S512x128_S1x512x128

/-- A panel's entry. -/
theorem panel_apply (v : FVec Ideal S512x5120 .f32) (n : ℕ) (h : n < 40) (r : Fin 512) (c : Fin 128) :
    panel v n h (ix3 0 r c) = v (ix2 r ⟨128 * n + c.val, by omega⟩) := by
  unfold panel
  pointwise

/-- The first `n` panels, the last first. -/
def panels (v : FVec Ideal S512x5120 .f32) : (n : ℕ) → n ≤ 40 → List (View.Piece (Elt Ideal) S40x512x128 .bf16)
  | 0, _ => []
  | n + 1, h => ⟨Rect.unit (s := S40x512x128) ![n, 0, 0] S1x512x128.size (panel_inb h), panel v n h⟩ :: panels v n (Nat.le_of_succ_le h)

/-- What the first `n` panels leave at an entry of one of them. -/
theorem panels_apply (v : FVec Ideal S512x5120 .f32) : ∀ (n : ℕ) (h : n ≤ 40) (p : Fin 40) (r : Fin 512) (c : Fin 128), p.val < n →
    View.canon (panels v n h) (ix3 p r c) = v (ix2 r ⟨128 * p.val + c.val, by omega⟩)
  | 0, _, _, _, _, hp => absurd hp (Nat.not_lt_zero _)
  | n + 1, h, p, r, c, hp => by
    by_cases e : p.val = n
    · have he : (ix3 p r c : S40x512x128.Idx) = (Rect.unit (s := S40x512x128) ![n, 0, 0] S1x512x128.size (panel_inb h)).emb (ix3 0 r c) := by
        funext a
        apply Fin.ext
        fin_cases a
        · show p.val = n + 1 * 0; omega
        · show r.val = 0 + 1 * r.val; omega
        · show c.val = 0 + 1 * c.val; omega
      rw [panels, he, View.canon_cons_emb, panel_apply]
      exact congrArg (fun j => v (ix2 r j)) (Fin.ext (by show 128 * n + c.val = 128 * p.val + c.val; omega))
    · rw [panels, View.canon_cons_of_not_mem]
      · exact panels_apply v n _ p r c (by omega)
      · intro hm
        obtain ⟨x, hx⟩ := LoadRect.exists_idx_of_mem _ hm
        have h0 := congrArg Fin.val (congrFun hx 0)
        have hx0 : (x 0).val < 1 := (x 0).isLt
        have : n + 1 * (x 0).val = p.val := h0
        omega

/-- The block a grid point leaves: entry `(p, r, c)` is entry `128 p + c` of row `r`'s product. -/
theorem out_apply (i : grid0.Coords) (x0 x1 : Vec Ideal S512x1024 .f32) (g : Vec Ideal S1x1024 .f32) (w : Vec Ideal S1024x5120 .bf16)
    (p : Fin 40) (r : Fin 512) (c : Fin 128) :
    out0_4 i x0 x1 g w (ix3 p r c)
      = lin (rms (fun k => if (i 0).val < 32 then x0 (ix2 r k) else x1 (ix2 r k)) (fun k => g (ix2 0 k))) (fun k n => w (ix2 k n))
          ⟨128 * p.val + c.val, by omega⟩ := by
  have e : out0_4 i x0 x1 g w = View.canon (panels (k0_pay46 i x0 x1 g w) 40 le_rfl) := rfl
  rw [e, panels_apply _ _ _ _ _ _ p.isLt]
  unfold k0_pay46
  rw [View.ld_unit_zero (S := S512x1024) (by decide), View.ld_unit_zero (S := S512x1024) (by decide),
    View.ld_unit_zero (S := S1x1024) (by decide), View.ld_unit_zero (S := S1024x5120) (by decide)]
  exact product_apply i x0 x1 g w r _

end Cert.ProjectionIdeal.Block

end
-- ==== Proof.Projection.Reference.lean ====
/- The reference's projection, entry by entry, as the layer's row functions. -/
module

public import proofs.«01_k».proof.Proof.Math
public import proofs.«01_k».proof.Proof.Gen.ProjectionReferenceIdeal.Read
public import Idealize.ShloMosaic.Lib.Pointwise

@[expose] public section

noncomputable section

namespace Cert.ProjectionReferenceIdeal.Entries

open Cert.ProjectionReferenceIdeal Cert.ProjectionReferenceIdeal.Read Idealize.ShloMosaic Idealize.ShloMosaic.Pointwise Layer
open scoped BigOperators

variable (x0 x1 : (⟨S16384x1024, .f32⟩ : BufTy).Contents (Elt Ideal)) (x2 : (⟨S1024, .f32⟩ : BufTy).Contents (Elt Ideal))
  (x3 : (⟨S1024x5120, .f32⟩ : BufTy).Contents (Elt Ideal))

/-- A token's row: the prompt's tokens first, the sample's after them. -/
def tokenRow (R : Fin 32768) : Row := fun k =>
  if h : R.val < 16384 then x0 (ix2 ⟨R.val, h⟩ k) else x1 (ix2 ⟨R.val - 16384, by omega⟩ k)

/-- A token's projection. -/
def projected (R : Fin 32768) : Fin 5120 → EReal := lin (rms (tokenRow x0 x1 R) (fun k => x2 (ix1 k))) (fun k n => x3 (ix2 k n))

/-- A prompt token's product in the reference. -/
theorem prompt_apply (R : Fin 16384) (j : Fin 5120) :
    val_main_v13 (F := Ideal) x0 x2 x3 (ix2 R j) = lin (rms (fun k => x0 (ix2 R k)) (fun k => x2 (ix1 k))) (fun k n => x3 (ix2 k n)) j := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 lin rms
  pointwise [dot_S16384x1024_S1024x5120_S16384x5120_1_0_0_1_n_n]

/-- A sample token's product is the same function of its row. -/
theorem sample_apply (R : Fin 16384) (j : Fin 5120) :
    val_main_v27 (F := Ideal) x1 x2 x3 (ix2 R j) = lin (rms (fun k => x1 (ix2 R k)) (fun k => x2 (ix1 k))) (fun k n => x3 (ix2 k n)) j :=
  prompt_apply x1 x2 x3 R j

/-- The reference's result: entry `(p, R, c)` is entry `128 p + c` of the token's projection. -/
theorem result_apply (p : Fin 40) (R : Fin 32768) (c : Fin 128) :
    val_main_v31 (F := Ideal) x0 x1 x2 x3 (ix3 p R c) = projected x0 x1 x2 x3 R ⟨128 * p.val + c.val, by omega⟩ := by
  have e : idx_main_v29 (idx_main_v30 (ix3 p R c)) = ix2 R ⟨128 * p.val + c.val, by omega⟩ := by
    funext a
    apply Fin.ext
    fin_cases a
    · show ((R.val * 40 + p.val) * 128 + c.val) / 5120 = R.val; omega
    · show ((R.val * 40 + p.val) * 128 + c.val) % 5120 = 128 * p.val + c.val; omega
  rw [val_main_v31_apply, val_main_v30_apply, val_main_v29_apply, e]
  have hp := prompt_apply x0 x2 x3
  have hq := sample_apply x1 x2 x3
  unfold val_main_v28 projected tokenRow
  generalize val_main_v13 (F := Ideal) x0 x2 x3 = a at hp ⊢
  generalize val_main_v27 (F := Ideal) x1 x2 x3 = b at hq ⊢
  pointwise
  by_cases h : R.val < 16384
  · simp only [dif_pos h]
    exact hp _ _
  · simp only [dif_neg h]
    exact hq _ _

end Cert.ProjectionReferenceIdeal.Entries

end
-- ==== Proof.Projection.Array.lean ====
/- The kernel's result array after the run, entry by entry, as the layer's function of the argument arrays. -/
module

public import proofs.«01_k».proof.Proof.Projection.Block
public import proofs.«01_k».proof.Proof.Projection.Reference
public import proofs.«01_k».proof.Proof.Gen.ProjectionIdeal.Value
public import Idealize.ShloMosaic.Lib.Pipeline.ValueKit
public import Idealize.ShloMosaic.Lib.Pointwise

@[expose] public section

noncomputable section

namespace Cert.ProjectionIdeal.Array

open Cert.ProjectionIdeal Cert.ProjectionIdeal.Gen Cert.ProjectionIdeal.Block Idealize.ShloMosaic Idealize.ShloMosaic.TcCoe Layer
open Idealize.ShloMosaic.Pointwise
open Idealize.ShloMosaic.Pipeline (Dat)
open Cert.ProjectionReferenceIdeal.Entries (tokenRow projected)
open scoped BigOperators

variable (m : (ℓ : Loc nD τ sig) → Buf (Elt Ideal) ℓ) (c : Dev nD)

/-- The weights are only cast before the launch. -/
theorem V_main_v0 : (V m c main_v0 : S1024x5120.Idx → EReal) = m ((c : Thread nD τ).loc main_arg3) := by
  unfold V
  simp only [hostOps0, List.flatten_cons, List.flatten_nil, List.append_nil, List.cons_append, List.nil_append]
  after_results
  rfl

/-- The norm's weights as a one-row matrix. -/
theorem V_main_v1 (k : Fin 1024) : (V m c main_v1 : S1x1024.Idx → EReal) (ix2 0 k) = m ((c : Thread nD τ).loc main_arg2) (ix1 k) := by
  unfold V
  simp only [hostOps0, List.flatten_cons, List.flatten_nil, List.append_nil, List.cons_append, List.nil_append]
  after_results
  pointwise

/-- A grid point's coordinate is its number. -/
theorem coord_eq : ∀ t : Fin cfg0.N, (grid0.coords t 0).val = t.val := (by decide +kernel : ∀ t : Fin grid0.N, _)

/-- There are 64 grid points. -/
theorem lt_points (t : Fin cfg0.N) : t.val < 64 := t.isLt

/-- The prompt's tile of a point: its own, or the last one. -/
theorem index0 : ∀ t : Fin cfg0.N, win0_0.index t = ![min t.val 31, 0] := (by decide +kernel : ∀ t : Fin grid0.N, _)

/-- The sample's tile of a point: its own, or the first one. -/
theorem index1 : ∀ t : Fin cfg0.N, win0_1.index t = ![t.val - 32, 0] := (by decide +kernel : ∀ t : Fin grid0.N, _)

/-- The norm weights are one block. -/
theorem index2 : ∀ t : Fin cfg0.N, win0_2.index t = ![0, 0] := (by decide +kernel : ∀ t : Fin grid0.N, _)

/-- The input weights are one block. -/
theorem index3 : ∀ t : Fin cfg0.N, win0_3.index t = ![0, 0] := (by decide +kernel : ∀ t : Fin grid0.N, _)

/-- A point writes its own rows of every panel. -/
theorem index4 : ∀ t : Fin cfg0.N, win0_4.index t = ![0, t.val, 0] := (by decide +kernel : ∀ t : Fin grid0.N, _)

/-- The token that row `r` of point `t`'s block holds. -/
def tok (t : Fin cfg0.N) (r : Fin 512) : Fin 32768 := ⟨t.val * 512 + r.val, by have := lt_points t; omega⟩

/-- The tile a prompt's point reads is its tokens. -/
theorem iblk0_apply (t : Fin cfg0.N) (h : t.val < 32) (r : Fin 512) (k : Fin 1024) :
    (iblk m c 0 t : S512x1024.Idx → EReal) (ix2 r k)
      = m ((c : Thread nD τ).loc main_arg0) (ix2 ⟨t.val * 512 + r.val, by omega⟩ k) := by
  blk_simp [iblk]
  rw [V_main_arg0]
  refine congrArg _ ?_
  blk_ext [index0 t]

/-- The tile a sample's point reads is its tokens. -/
theorem iblk1_apply (t : Fin cfg0.N) (h : ¬ t.val < 32) (r : Fin 512) (k : Fin 1024) :
    (iblk m c 1 t : S512x1024.Idx → EReal) (ix2 r k)
      = m ((c : Thread nD τ).loc main_arg1) (ix2 ⟨t.val * 512 + r.val - 16384, by have := lt_points t; omega⟩ k) := by
  have := lt_points t
  blk_simp [iblk]
  rw [V_main_arg1]
  refine congrArg _ ?_
  blk_ext [index1 t]

/-- The norm's weights are read whole. -/
theorem iblk2_eq (t : Fin cfg0.N) : (iblk m c 2 t : S1x1024.Idx → EReal) = V m c main_v1 := by
  refine Eq.trans (b := (V m c main_v1 : S1x1024.Idx → EReal)) ?_ rfl
  funext y
  blk_simp [iblk]
  refine congrArg _ ?_
  blk_ext [index2 t]

/-- The weights are read whole. -/
theorem iblk3_eq (t : Fin cfg0.N) : (iblk m c 3 t : S1024x5120.Idx → EReal) = m ((c : Thread nD τ).loc main_arg3) := by
  refine Eq.trans (b := (V m c main_v0 : S1024x5120.Idx → EReal)) ?_ (V_main_v0 m c)
  funext y
  blk_simp [iblk]
  refine congrArg _ ?_
  blk_ext [index3 t]

/-- The row the point computes on is its token's. -/
theorem row_eq (t : Fin cfg0.N) (r : Fin 512) :
    (fun k => if (grid0.coords t 0).val < 32 then (iblk m c 0 t : S512x1024.Idx → EReal) (ix2 r k) else (iblk m c 1 t : S512x1024.Idx → EReal) (ix2 r k))
      = tokenRow (m ((c : Thread nD τ).loc main_arg0)) (m ((c : Thread nD τ).loc main_arg1)) (tok t r) := by
  funext k
  have hr := r.isLt
  have hv : (tok t r).val = t.val * 512 + r.val := rfl
  unfold tokenRow
  rw [coord_eq]
  by_cases h : t.val < 32
  · rw [if_pos h, dif_pos (by omega), iblk0_apply m c t h]
    rfl
  · rw [if_neg h, dif_neg (by omega), iblk1_apply m c t h]
    rfl

/-- The result array: each token's projection in forty panels of 128 columns. -/
def result : S40x32768x128.Idx → EReal := fun i =>
  projected (m ((c : Thread nD τ).loc main_arg0)) (m ((c : Thread nD τ).loc main_arg1)) (m ((c : Thread nD τ).loc main_arg2))
    (m ((c : Thread nD τ).loc main_arg3)) (i 1)
    ⟨128 * (i 0).val + (i 2).val, by have h0 : (i 0).val < 40 := (i 0).isLt; have h2 : (i 2).val < 128 := (i 2).isLt; omega⟩

/-- Where an entry of point `t`'s block lies in the result array. -/
theorem emb4 (t : Fin cfg0.N) (p : Fin 40) (r : Fin 512) (j : Fin 128) :
    ((win0_4.blk t).view.emb (ix3 p r j) : S40x32768x128.Idx) = ix3 p (tok t r) j := by
  blk_ext [index4 t, tok]

/-- The kernel leaves the projection in its result array. -/
theorem final4 : (dats m 0 c).arrAt 4 cfg0.N = result m c := by
  refine (dats m 0 c).arrAt_eq_of_covers 4 _ (by decide +kernel) fun t hf y => ?_
  blk_simp
  rw [after0_4]
  obtain ⟨p, r, j, rfl⟩ : ∃ (p : Fin 40) (r : Fin 512) (j : Fin 128), y = ix3 p r j := ⟨y 0, y 1, y 2, ix3_eta y |>.symm⟩
  have h2 : (fun k => (iblk m c 2 t : S1x1024.Idx → EReal) (ix2 0 k)) = fun k => m ((c : Thread nD τ).loc main_arg2) (ix1 k) := by
    funext k; rw [iblk2_eq, V_main_v1]
  rw [out_apply, row_eq, h2, iblk3_eq, emb4]
  rfl

end Cert.ProjectionIdeal.Array

end
-- ==== Proof.Projection.Whole.lean ====
/- The claims about the projection: the norm and the product that the recurrence reads. -/
module

public import proofs.«01_k».proof.Defs
public import proofs.«01_k».proof.Proof.Projection.Array
public import proofs.«01_k».proof.Proof.Gen.Projection.Frame
public import proofs.«01_k».proof.Proof.Gen.ProjectionReferenceIdeal.Run

@[expose] public section

noncomputable section

namespace Cert.Proof.Projection

open Idealize.ShloMosaic Idealize.ShloMosaic.Pointwise Idealize.SL.Sem

/-- The kernel's words: every run ends, the arguments are kept and every counter is zero. -/
theorem kernel_frame : Cert.quiescent_Projection := fun m ρ _ => Cert.Projection.Gen.frame m ρ

/-- Likewise over the extended reals. -/
theorem ideal_frame : Cert.quiescent_ProjectionIdeal := fun m ρ _ => Cert.ProjectionIdeal.Gen.frame m ρ

/-- Likewise for the reference, which has no semaphore. -/
theorem reference_frame : Cert.quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run m ρ)

/-- Kernel and reference compute the same array: every token's projection in panels of 128 columns. -/
theorem equal : Cert.algebraic_ProjectionIdeal_ProjectionReferenceIdeal := fun m ρ m' ρ' _ agree => by
  refine ⟨fun c => Cert.ProjectionIdeal.Array.result m c, ?_, ?_⟩
  · exact (θ_run Cert.ProjectionIdeal.defs _ _).mono
      (fun r h c => ⟨(h c).1.trans (Cert.ProjectionIdeal.Array.final4 m c), (h c).2⟩)
      (Cert.ProjectionIdeal.Value.run_blocks m ρ)
  · refine (θ_run Cert.ProjectionReferenceIdeal.defs _ _).mono
      (fun r h c => ⟨(h c).1.trans (?_ : _ = Cert.ProjectionIdeal.Array.result m c), (h c).2⟩)
      (Cert.ProjectionReferenceIdeal.Value.run m' ρ')
    clear h
    rw [Cert.ProjectionReferenceIdeal.Read.val_main_v31_eq]
    obtain ⟨e0, e1, e2, e3⟩ := agree c
    change Cert.ProjectionReferenceIdeal.Read.val_main_v31 (F := Ideal) (m' (c.tc.loc Cert.ProjectionReferenceIdeal.main_arg0)) (m' (c.tc.loc Cert.ProjectionReferenceIdeal.main_arg1)) (m' (c.tc.loc Cert.ProjectionReferenceIdeal.main_arg2)) (m' (c.tc.loc Cert.ProjectionReferenceIdeal.main_arg3)) = _
    rw [e0, e1, e2, e3]
    funext i
    obtain ⟨p, R, j, rfl⟩ : ∃ (p : Fin 40) (R : Fin 32768) (j : Fin 128), i = ix3 p R j := ⟨i 0, i 1, i 2, ix3_eta i |>.symm⟩
    exact Cert.ProjectionReferenceIdeal.Entries.result_apply _ _ _ _ p R j

end Cert.Proof.Projection

end
-- ==== Proof.Attention.Block.lean ====
/- What one grid point of the attention's kernel writes: the block's two results at row `r`, from the point's input
   blocks, as the layer's row functions. -/
module

public import proofs.«01_k».proof.Proof.Math
public import proofs.«01_k».proof.Proof.Gen.AttentionIdeal.Frame
public import Idealize.ShloMosaic.Lib.Pointwise

@[expose] public section

noncomputable section

namespace Cert.AttentionIdeal.Block

open Cert.AttentionIdeal Cert.AttentionIdeal.Gen Idealize.ShloMosaic Idealize.ShloMosaic.Pointwise Layer
open scoped BigOperators

/-! ## The body's values, element by element -/

/-- The body's test of its grid point: whether the point's tile is the prompt's. -/
theorem prompt_flag (i : grid0.Coords) :
    Scalar.cmpi .slt (BitVec.ofNat 32 (i 0).val) 32#32 = if (i 0).val < 32 then 1#1 else 0#1 := by
  generalize i 0 = n
  revert n
  decide +kernel

/-- The token's row at row `r`, from the tile the point reads. -/
theorem pay4_apply (i : grid0.Coords) (x0 x1 : Vec Ideal S512x1024 .f32) (y : Vec Ideal S512x1024 .bf16) (w : Vec Ideal S1024x1024 .bf16)
    (r : Fin 512) (j : Fin 1024) :
    k0_pay4 i x0 x1 y w (ix2 r j)
      = added (fun k => if (i 0).val < 32 then x0 (ix2 r k) else x1 (ix2 r k)) (fun k => y (ix2 r k)) (fun k n => w (ix2 k n)) j := by
  unfold k0_pay4
  rw [prompt_flag]
  by_cases h : (i 0).val < 32
  · simp only [if_pos h]
    unfold added lin
    rw [show ∀ a b : Vec Ideal S512x1024 .f32, Scalar.select 1#1 a b = a from fun _ _ => rfl]
    pointwise [dot_S512x1024_S1024x1024_S512x1024_1_0_0_1_n_n]
  · simp only [if_neg h]
    unfold added lin
    rw [show ∀ a b : Vec Ideal S512x1024 .f32, Scalar.select 0#1 a b = b from fun _ _ => rfl]
    pointwise [dot_S512x1024_S1024x1024_S512x1024_1_0_0_1_n_n]

/-- The scaled query at row `r`. -/
theorem pay5_apply (i : grid0.Coords) (x0 x1 : Vec Ideal S512x1024 .f32) (y : Vec Ideal S512x1024 .bf16) (w : Vec Ideal S1024x1024 .bf16)
    (g : Vec Ideal S1x1024 .f32) (wq : Vec Ideal S1024x1024 .bf16) (r : Fin 512) (j : Fin 1024) :
    k0_pay5 i x0 x1 y w g wq (ix2 r j)
      = lin (rms (fun k => k0_pay4 i x0 x1 y w (ix2 r k)) (fun k => g (ix2 0 k))) (fun k n => wq (ix2 k n)) j
          * Ideal.ofBits .f32 1031798784#32 := by
  unfold k0_pay5
  generalize k0_pay4 i x0 x1 y w = v
  unfold lin rms
  pointwise [dot_S512x1024_S1024x1024_S512x1024_1_0_0_1_n_n]

/-- The first head's attention at row `r`. -/
theorem pay8_apply (i : grid0.Coords) (x0 x1 : Vec Ideal S512x1024 .f32) (y : Vec Ideal S512x1024 .bf16) (w : Vec Ideal S1024x1024 .bf16)
    (g : Vec Ideal S1x1024 .f32) (wq : Vec Ideal S1024x1024 .bf16) (k v : Vec Ideal S256x256 .bf16) (r : Fin 512) (d : Fin 256) :
    k0_pay8 (k0_pay6 i x0 x1 y w g wq k) (k0_pay7 i x0 x1 y w g wq k) v (ix2 r d)
      = ∑ c, softmax (fun c => ∑ e : Fin 256, k0_pay5 i x0 x1 y w g wq (ix2 r ⟨e.val, by omega⟩) * k (ix2 c e)) c
          * v (ix2 c d) := by
  unfold k0_pay8 k0_pay7 k0_pay6
  generalize k0_pay5 i x0 x1 y w g wq = q
  unfold softmax
  pointwise [dot_S512x256_S256x256_S512x256_1_1_0_0_n_n, dot_S512x256_S256x256_S512x256_1_0_0_1_n_n]

/-- The second head's attention at row `r`. -/
theorem pay9_apply (q : FVec Ideal S512x1024 .bf16) (k v : Vec Ideal S256x256 .bf16) (r : Fin 512) (d : Fin 256) :
    k0_pay9 q k v (ix2 r d)
      = ∑ c, softmax (fun c => ∑ e : Fin 256, q (ix2 r ⟨256 + e.val, by omega⟩) * k (ix2 c e)) c * v (ix2 c d) := by
  unfold k0_pay9 softmax
  pointwise [dot_S512x256_S256x256_S512x256_1_1_0_0_n_n, dot_S512x256_S256x256_S512x256_1_0_0_1_n_n]

/-- The third head's attention at row `r`. -/
theorem pay10_apply (q : FVec Ideal S512x1024 .bf16) (k v : Vec Ideal S256x256 .bf16) (r : Fin 512) (d : Fin 256) :
    k0_pay10 q k v (ix2 r d)
      = ∑ c, softmax (fun c => ∑ e : Fin 256, q (ix2 r ⟨512 + e.val, by omega⟩) * k (ix2 c e)) c * v (ix2 c d) := by
  unfold k0_pay10 softmax
  pointwise [dot_S512x256_S256x256_S512x256_1_1_0_0_n_n, dot_S512x256_S256x256_S512x256_1_0_0_1_n_n]

/-- The token's result: the mixed token plus the four heads' attention side by side, projected. -/
theorem pay12_apply (y : FVec Ideal S512x1024 .f32) (h0 h1 h2 : FVec Ideal S512x256 .f32) (q : FVec Ideal S512x1024 .bf16)
    (k v : Vec Ideal S256x256 .bf16) (wo : Vec Ideal S1024x1024 .bf16) (r : Fin 512) (j : Fin 1024) :
    k0_pay12 y h0 h1 h2 (k0_pay11 q) k v wo (ix2 r j)
      = y (ix2 r j) + ∑ n : Fin 1024,
          (if h : n.val < 256 then h0 (ix2 r ⟨n.val, h⟩)
           else if h : n.val - 256 < 256 then h1 (ix2 r ⟨n.val - 256, h⟩)
           else if h : n.val - 256 - 256 < 256 then h2 (ix2 r ⟨n.val - 256 - 256, h⟩)
           else ∑ c, softmax (fun c => ∑ e : Fin 256, q (ix2 r ⟨768 + e.val, by omega⟩) * k (ix2 c e)) c
            * v (ix2 c ⟨n.val - 256 - 256 - 256, by omega⟩)) * wo (ix2 n j) := by
  unfold k0_pay12 k0_pay11 softmax
  pointwise [dot_S512x1024_S1024x1024_S512x1024_1_0_0_1_n_n, dot_S512x256_S256x256_S512x256_1_1_0_0_n_n, dot_S512x256_S256x256_S512x256_1_0_0_1_n_n]

/-- The normalised result at row `r`. -/
theorem pay13_apply (y : FVec Ideal S512x1024 .f32) (h0 h1 h2 : FVec Ideal S512x256 .f32) (q : FVec Ideal S512x256 .bf16)
    (k v : Vec Ideal S256x256 .bf16) (wo : Vec Ideal S1024x1024 .bf16) (g : Vec Ideal S1x1024 .f32) (r : Fin 512) (j : Fin 1024) :
    k0_pay13 y h0 h1 h2 q k v wo g (ix2 r j)
      = rms (fun n => k0_pay12 y h0 h1 h2 q k v wo (ix2 r n)) (fun n => g (ix2 0 n)) j := by
  unfold k0_pay13
  generalize k0_pay12 y h0 h1 h2 q k v wo = z
  unfold rms
  pointwise

/-! ## The point's results -/

variable (i : grid0.Coords) (x0 x1 : Vec Ideal S512x1024 .f32) (x2 : Vec Ideal S512x1024 .bf16) (x3 : Vec Ideal S1024x1024 .bf16)
  (x4 : Vec Ideal S1x1024 .f32) (x5 : Vec Ideal S1024x1024 .bf16) (x6 : Vec Ideal S256x2048 .bf16) (x7 : Vec Ideal S1024x1024 .bf16)
  (x8 : Vec Ideal S1x1024 .f32) (x9 : Vec Ideal S40x1024 .bf16) (x10 : Vec Ideal S40x1024 .bf16) (x11 : Vec Ideal S40x512 .f32)
  (x12 : Vec Ideal S512x512 .bf16) (x13 : Vec Ideal S32x32 .bf16)

/-- The token's row at row `r` of the point's block, the mixer's result added. -/
def mixedAt (r : Fin 512) : Row :=
  added (fun k => if (i 0).val < 32 then x0 (ix2 r k) else x1 (ix2 r k)) (fun k => x2 (ix2 r k)) (fun k n => x3 (ix2 k n))

/-- The body computes it. -/
theorem pay38_apply (r : Fin 512) (j : Fin 1024) : k0_pay38 i x0 x1 x2 x3 x4 x5 x6 x7 x8 x9 x10 x11 x12 x13 (ix2 r j) = mixedAt i x0 x1 x2 x3 r j := by
  unfold k0_pay38
  rw [View.ld_unit_zero (S := S512x1024) (by decide), View.ld_unit_zero (S := S512x1024) (by decide),
    View.ld_unit_zero (S := S512x1024) (by decide), View.ld_unit_zero (S := S1024x1024) (by decide), pay4_apply]
  rfl

/-- A head's attention over scaled queries is the attention over the scaled scores. -/
theorem head_eq (q : Row) (kv : Fin 256 → Fin 2048 → EReal) (h : Fin 4) (d : Fin 256) (s : Fin 256 → EReal) (v : Fin 256 → EReal)
    (hs : ∀ c, s c = ∑ e : Fin 256, q (feat h e) * Ideal.ofBits .f32 1031798784#32 * kv c ⟨256 * h.val + e.val, by omega⟩)
    (hv : ∀ c, v c = kv c ⟨1024 + (256 * h.val + d.val), by omega⟩) :
    ∑ c, softmax s c * v c = attend q kv h d := by
  obtain rfl : s = scores q kv h := by
    funext c
    rw [hs, sum_scale]
    rfl
  exact Finset.sum_congr rfl fun c _ => congrArg (_ * ·) (hv c)

/-- The point's queries at row `r`, before the scale. -/
def queryAt (r : Fin 512) : Row :=
  lin (rms (mixedAt i x0 x1 x2 x3 r) (fun k => x4 (ix2 0 k))) (fun k n => x5 (ix2 k n))

/-- The body's queries are those times the scale. -/
theorem pay39_apply (r : Fin 512) (n : Fin 1024) :
    k0_pay39 i x0 x1 x2 x3 x4 x5 x6 x7 x8 x9 x10 x11 x12 x13 (ix2 r n)
      = queryAt i x0 x1 x2 x3 x4 x5 r n * Ideal.ofBits .f32 1031798784#32 := by
  unfold k0_pay39
  rw [pay5_apply, View.ld_unit_zero (S := S1x1024) (by decide), View.ld_unit_zero (X := x5) (by decide)]
  show lin (rms (fun k => k0_pay38 i x0 x1 x2 x3 x4 x5 x6 x7 x8 x9 x10 x11 x12 x13 (ix2 r k)) _) _ n * _ = _
  simp only [pay38_apply]
  rfl

/-- A 256-column window of the memory starting at column `o`. -/
theorem memory_cols (o : ℕ) (inb) (c e : Fin 256) (h : o + e.val < 2048) :
    View.ld x6 (Rect.unit (s := S256x2048) ![0, o] S256x256.size inb) (ix2 c e) = x6 (ix2 c ⟨o + e.val, h⟩) := by
  refine congrArg x6 (funext fun a => ?_)
  refine Fin.ext ?_
  match a with
  | 0 => show 0 + 1 * c.val = c.val; omega
  | 1 => show o + 1 * e.val = o + e.val; omega

/-- The first head. -/
theorem pay40_apply (r : Fin 512) (d : Fin 256) :
    k0_pay40 i x0 x1 x2 x3 x4 x5 x6 x7 x8 x9 x10 x11 x12 x13 (ix2 r d)
      = attend (queryAt i x0 x1 x2 x3 x4 x5 r) (fun c n => x6 (ix2 c n)) 0 d := by
  unfold k0_pay40
  rw [pay8_apply]
  refine head_eq _ _ _ _ _ _ (fun c => Finset.sum_congr rfl fun e _ => ?_) (fun c => ?_)
  · refine congrArg₂ (· * ·) ((pay39_apply i x0 x1 x2 x3 x4 x5 x6 x7 x8 x9 x10 x11 x12 x13 r _).trans (congrArg (fun n => queryAt i x0 x1 x2 x3 x4 x5 r n * _) (Fin.ext ?_))) ?_
    · show e.val = 256 * 0 + e.val; omega
    · exact (memory_cols x6 0 _ c e (by omega)).trans (congrArg (fun n => x6 (ix2 c n)) (Fin.ext (by show 0 + e.val = 256 * 0 + e.val; omega)))
  · exact (memory_cols x6 1024 _ c d (by omega)).trans (congrArg (fun n => x6 (ix2 c n)) (Fin.ext (by show 1024 + d.val = 1024 + (256 * 0 + d.val); omega)))

/-- The second head. -/
theorem pay41_apply (r : Fin 512) (d : Fin 256) :
    k0_pay41 i x0 x1 x2 x3 x4 x5 x6 x7 x8 x9 x10 x11 x12 x13 (ix2 r d)
      = attend (queryAt i x0 x1 x2 x3 x4 x5 r) (fun c n => x6 (ix2 c n)) 1 d := by
  unfold k0_pay41
  rw [pay9_apply]
  refine head_eq _ _ _ _ _ _ (fun c => Finset.sum_congr rfl fun e _ => ?_) (fun c => ?_)
  · refine congrArg₂ (· * ·) (pay39_apply i x0 x1 x2 x3 x4 x5 x6 x7 x8 x9 x10 x11 x12 x13 r _) ?_
    exact memory_cols x6 256 _ c e (by omega)
  · exact (memory_cols x6 1280 _ c d (by omega)).trans (congrArg (fun n => x6 (ix2 c n)) (Fin.ext (by show 1280 + d.val = 1024 + (256 * 1 + d.val); omega)))

/-- The third head. -/
theorem pay42_apply (r : Fin 512) (d : Fin 256) :
    k0_pay42 i x0 x1 x2 x3 x4 x5 x6 x7 x8 x9 x10 x11 x12 x13 (ix2 r d)
      = attend (queryAt i x0 x1 x2 x3 x4 x5 r) (fun c n => x6 (ix2 c n)) 2 d := by
  unfold k0_pay42
  rw [pay10_apply]
  refine head_eq _ _ _ _ _ _ (fun c => Finset.sum_congr rfl fun e _ => ?_) (fun c => ?_)
  · refine congrArg₂ (· * ·) (pay39_apply i x0 x1 x2 x3 x4 x5 x6 x7 x8 x9 x10 x11 x12 x13 r _) ?_
    exact memory_cols x6 512 _ c e (by omega)
  · exact (memory_cols x6 1536 _ c d (by omega)).trans (congrArg (fun n => x6 (ix2 c n)) (Fin.ext (by show 1536 + d.val = 1024 + (256 * 2 + d.val); omega)))

/-- The block's result at row `r`, as a payload. -/
theorem result_apply (r : Fin 512) (j : Fin 1024) :
    k0_pay12 (k0_pay38 i x0 x1 x2 x3 x4 x5 x6 x7 x8 x9 x10 x11 x12 x13) (k0_pay40 i x0 x1 x2 x3 x4 x5 x6 x7 x8 x9 x10 x11 x12 x13) (k0_pay41 i x0 x1 x2 x3 x4 x5 x6 x7 x8 x9 x10 x11 x12 x13) (k0_pay42 i x0 x1 x2 x3 x4 x5 x6 x7 x8 x9 x10 x11 x12 x13) (k0_pay43 i x0 x1 x2 x3 x4 x5 x6 x7 x8 x9 x10 x11 x12 x13) (View.ld x6 r0_9) (View.ld x6 r0_10) (View.ld x7 r0_1) (ix2 r j)
      = crossed (mixedAt i x0 x1 x2 x3 r) (fun k => x4 (ix2 0 k)) (fun k n => x5 (ix2 k n)) (fun c n => x6 (ix2 c n))
          (fun k n => x7 (ix2 k n)) j := by
  unfold k0_pay43
  rw [pay12_apply, pay38_apply, View.ld_unit_zero (X := x7) (by decide)]
  refine congrArg (HAdd.hAdd _) (Finset.sum_congr rfl fun n _ => congrArg (· * x7 (ix2 n j)) ?_)
  have hn := n.isLt
  have key : ∀ (h : Fin 4) (d : Fin 256), n.val = 256 * h.val + d.val →
      attend (queryAt i x0 x1 x2 x3 x4 x5 r) (fun c n => x6 (ix2 c n)) h d
        = attended (queryAt i x0 x1 x2 x3 x4 x5 r) (fun c n => x6 (ix2 c n)) n := by
    intro h d e
    exact congrArg₂ (attend _ _) (Fin.ext (by show h.val = n.val / 256; omega)) (Fin.ext (by show d.val = n.val % 256; omega))
  by_cases h0 : n.val < 256
  · rw [dif_pos h0, pay40_apply]
    exact key 0 ⟨n.val, h0⟩ (by show n.val = 256 * 0 + n.val; omega)
  rw [dif_neg h0]
  by_cases h1 : n.val - 256 < 256
  · rw [dif_pos h1, pay41_apply]
    exact key 1 ⟨n.val - 256, h1⟩ (by show n.val = 256 * 1 + (n.val - 256); omega)
  rw [dif_neg h1]
  by_cases h2 : n.val - 256 - 256 < 256
  · rw [dif_pos h2, pay42_apply]
    exact key 2 ⟨n.val - 256 - 256, h2⟩ (by show n.val = 256 * 2 + (n.val - 256 - 256); omega)
  rw [dif_neg h2]
  refine Eq.trans ?_ (key 3 ⟨n.val - 256 - 256 - 256, by omega⟩ (by show n.val = 256 * 3 + (n.val - 256 - 256 - 256); omega))
  refine head_eq _ _ _ _ _ _ (fun c => Finset.sum_congr rfl fun e _ => ?_) (fun c => ?_)
  · refine congrArg₂ (· * ·) (pay39_apply i x0 x1 x2 x3 x4 x5 x6 x7 x8 x9 x10 x11 x12 x13 r _) ?_
    exact memory_cols x6 768 _ c e (by omega)
  · exact (memory_cols x6 1792 _ c _ (by show 1792 + (n.val - 256 - 256 - 256) < 2048; omega)).trans (congrArg (fun n => x6 (ix2 c n))
      (Fin.ext (by show 1792 + (n.val - 256 - 256 - 256) = 1024 + (256 * 3 + (n.val - 256 - 256 - 256)); omega)))

/-- What the point leaves in the first result's block. -/
theorem out14_apply (r : Fin 512) (j : Fin 1024) :
    out0_14 i x0 x1 x2 x3 x4 x5 x6 x7 x8 x9 x10 x11 x12 x13 (ix2 r j)
      = crossed (mixedAt i x0 x1 x2 x3 r) (fun k => x4 (ix2 0 k)) (fun k n => x5 (ix2 k n)) (fun c n => x6 (ix2 c n))
          (fun k n => x7 (ix2 k n)) j := by
  unfold out0_14
  rw [View.canon_unit_zero (by decide)]
  exact result_apply i x0 x1 x2 x3 x4 x5 x6 x7 x8 x9 x10 x11 x12 x13 r j

/-- What the point leaves in the second result's block. -/
theorem out15_apply (r : Fin 512) (j : Fin 1024) :
    out0_15 i x0 x1 x2 x3 x4 x5 x6 x7 x8 x9 x10 x11 x12 x13 (ix2 r j)
      = rms (crossed (mixedAt i x0 x1 x2 x3 r) (fun k => x4 (ix2 0 k)) (fun k n => x5 (ix2 k n)) (fun c n => x6 (ix2 c n))
          (fun k n => x7 (ix2 k n))) (fun k => x8 (ix2 0 k)) j := by
  unfold out0_15
  rw [View.canon_unit_zero (by decide)]
  unfold k0_pay44 k0_pay14
  show k0_pay13 (F := Ideal) _ _ _ _ _ _ _ _ _ (ix2 r j) = _
  rw [pay13_apply, View.ld_unit_zero (X := x8) (by decide)]
  exact congrFun (congrArg₂ rms (funext fun n => result_apply i x0 x1 x2 x3 x4 x5 x6 x7 x8 x9 x10 x11 x12 x13 r n) rfl) j

end Cert.AttentionIdeal.Block

end
-- ==== Proof.Attention.Prompt.lean ====
/- The reference's eight prompt sequences, one token's row at a time, as the layer's row functions. -/
module

public import proofs.«01_k».proof.Proof.Math
public import proofs.«01_k».proof.Proof.Gen.AttentionReferenceIdeal.Read
public import Idealize.ShloMosaic.Lib.Pointwise

@[expose] public section

noncomputable section

namespace Cert.AttentionReferenceIdeal.Prompt

open Cert.AttentionReferenceIdeal Cert.AttentionReferenceIdeal.Read Idealize.ShloMosaic Idealize.ShloMosaic.Pointwise Layer
open scoped BigOperators

variable (x0 : (⟨S16384x1024, .f32⟩ : BufTy).Contents (Elt Ideal)) (x2 : (⟨S32768x1024, .bf16⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S3072x2048, .bf16⟩ : BufTy).Contents (Elt Ideal))
  (x7 : (⟨S1024x1024, .f32⟩ : BufTy).Contents (Elt Ideal)) (x8 : (⟨S1024, .f32⟩ : BufTy).Contents (Elt Ideal))

/-- Token `s` of sequence `b` among the prompt's tokens. -/
abbrev pos (b : Fin 8) (s : Fin 2048) : Fin 16384 := ⟨2048 * b.val + s.val, by omega⟩

/-- Token `s` of sequence `b` among all the tokens. -/
abbrev tok (b : Fin 8) (s : Fin 2048) : Fin 32768 := ⟨2048 * b.val + s.val, by omega⟩

/-- The tokens, regrouped by sequence. -/
theorem tokens (b : Fin 8) (s : Fin 2048) (k : Fin 1024) : val_main_v2 (F := Ideal) x0 (ix3 b s k) = x0 (ix2 (pos b s) k) := by
  unfold val_main_v2
  pointwise
  exact congrArg (fun a => x0 (ix2 a k)) (Fin.ext (by show b.val * 2048 + s.val = 2048 * b.val + s.val; omega))

/-- The mixer's rows, regrouped by sequence. -/
theorem mixers (b : Fin 8) (s : Fin 2048) (k : Fin 1024) : val_main_v4 (F := Ideal) x2 (ix3 b s k) = x2 (ix2 (tok b s) k) := by
  unfold val_main_v4 val_main_v3 val_main_v0
  pointwise
  exact congrArg (fun a => x2 (ix2 a k)) (Fin.ext (by show b.val * 2048 + s.val = 2048 * b.val + s.val; omega))

/-- The memories, regrouped by sequence. -/
theorem memories (b : Fin 8) (a : Fin 256) (n : Fin 2048) :
    val_main_v6 (F := Ideal) x6 (ix3 b a n) = x6 (ix2 ⟨256 * b.val + a.val, by omega⟩ n) := by
  unfold val_main_v6 val_main_v5 val_main_v1
  pointwise
  exact congrArg (fun a => x6 (ix2 a n)) (Fin.ext (by show b.val * 256 + a.val = 256 * b.val + a.val; omega))

/-- A token's row after the projected mixer's row is added. -/
theorem mixer (b : Fin 8) (s : Fin 2048) (j : Fin 1024) : val_main_v8 (F := Ideal) x0 x2 x3 (ix3 b s j)
    = added (fun k => x0 (ix2 (pos b s) k)) (fun k => x2 (ix2 (tok b s) k)) (fun k n => x3 (ix2 k n)) j := by
  unfold val_main_v8 val_main_v7 added lin
  pointwise
  simp only [tokens, mixers]

/-- The norm's result for a token's mixed row, projected to a query. -/
theorem query (b : Fin 8) (s : Fin 2048) (n : Fin 1024) : val_main_v22 (F := Ideal) x0 x2 x3 x4 x5 (ix3 b s n)
    = lin (rms (fun k => val_main_v8 (F := Ideal) x0 x2 x3 (ix3 b s k)) (fun k => x4 (ix1 k))) (fun k n => x5 (ix2 k n)) n := by
  unfold val_main_v22 val_main_v21 val_main_v20 val_main_v19 val_main_v18 val_main_v17 val_main_v16 val_main_v15 val_main_v14 val_main_v13 val_main_v12
    val_main_v11 val_main_v10 val_main_v9 val_main_cst val_main_cst_0 val_main_cst_1 lin rms
  pointwise

/-- A head's scaled scores. -/
theorem score (b : Fin 8) (h : Fin 4) (s : Fin 2048) (a : Fin 256) : val_main_v30 (F := Ideal) x0 x2 x3 x4 x5 x6 (ix4 b h s a)
    = scores (fun n => val_main_v22 (F := Ideal) x0 x2 x3 x4 x5 (ix3 b s n)) (fun a n => x6 (ix2 ⟨256 * b.val + a.val, by omega⟩ n)) h a := by
  unfold val_main_v30 val_main_v29 val_main_v28 val_main_v26 val_main_v24 val_main_v23 val_main_cst_2 scores feat
  pointwise
  simp only [memories, Nat.mul_comm h.val 256]

/-- The maximum over the memory, from minus infinity. -/
theorem maximum (b : Fin 8) (h : Fin 4) (s : Fin 2048) : val_main_v31 (F := Ideal) x0 x2 x3 x4 x5 x6 (ix3 b h s)
    = Finset.fold max (Ideal.ofBits .f32 4286578688#32) (fun a => val_main_v30 (F := Ideal) x0 x2 x3 x4 x5 x6 (ix4 b h s a)) Finset.univ := by
  unfold val_main_v31
  pointwise
  have start : val_main_cst_3 (F := Ideal) (Shape.Idx.first Gen.h_S_) = Ideal.ofBits .f32 4286578688#32 := rfl
  rw [start]

/-- The largest score. -/
theorem largest (b : Fin 8) (h : Fin 4) (s : Fin 2048) : val_main_v33 (F := Ideal) x0 x2 x3 x4 x5 x6 (ix3 b h s)
    = Finset.fold max (Ideal.ofBits .f32 4286578688#32) (fun a => val_main_v30 (F := Ideal) x0 x2 x3 x4 x5 x6 (ix4 b h s a)) Finset.univ := by
  have step : val_main_v33 (F := Ideal) x0 x2 x3 x4 x5 x6 (ix3 b h s)
      = max (Ideal.ofBits .f32 4286578688#32) (val_main_v31 (F := Ideal) x0 x2 x3 x4 x5 x6 (ix3 b h s)) := by
    rw [val_main_v33_apply, val_main_v32_apply]
    rfl
  rw [step, maximum]
  exact max_fold _ _

/-- The exponential of a score less the largest. -/
theorem exponential (b : Fin 8) (h : Fin 4) (s : Fin 2048) (a : Fin 256) : val_main_v37 (F := Ideal) x0 x2 x3 x4 x5 x6 (ix4 b h s a)
    = Ideal.exp (val_main_v30 (F := Ideal) x0 x2 x3 x4 x5 x6 (ix4 b h s a) - val_main_v33 (F := Ideal) x0 x2 x3 x4 x5 x6 (ix3 b h s)) := by
  unfold val_main_v37 val_main_v36 val_main_v35 val_main_v34
  generalize val_main_v30 (F := Ideal) x0 x2 x3 x4 x5 x6 = y
  generalize val_main_v33 (F := Ideal) x0 x2 x3 x4 x5 x6 = z
  pointwise

/-- The softmax over the memory. -/
theorem weight (b : Fin 8) (h : Fin 4) (s : Fin 2048) (a : Fin 256) : val_main_v41 (F := Ideal) x0 x2 x3 x4 x5 x6 (ix4 b h s a)
    = softmax (fun a => val_main_v30 (F := Ideal) x0 x2 x3 x4 x5 x6 (ix4 b h s a)) a := by
  have step : val_main_v41 (F := Ideal) x0 x2 x3 x4 x5 x6 (ix4 b h s a)
      = Ideal.div (val_main_v37 (F := Ideal) x0 x2 x3 x4 x5 x6 (ix4 b h s a)) (∑ a', val_main_v37 (F := Ideal) x0 x2 x3 x4 x5 x6 (ix4 b h s a')) := by
    unfold val_main_v41 val_main_v40 val_main_v39 val_main_v38 val_main_cst_5
    generalize val_main_v37 (F := Ideal) x0 x2 x3 x4 x5 x6 = y
    pointwise
  rw [step]
  simp only [exponential, largest]
  rfl

/-- The four heads' attention side by side. -/
theorem attention (b : Fin 8) (s : Fin 2048) (j : Fin 1024) : val_main_v44 (F := Ideal) x0 x2 x3 x4 x5 x6 (ix3 b s j)
    = attended (fun n => val_main_v22 (F := Ideal) x0 x2 x3 x4 x5 (ix3 b s n)) (fun a n => x6 (ix2 ⟨256 * b.val + a.val, by omega⟩ n)) j := by
  unfold val_main_v44 val_main_v43 val_main_v42 val_main_v27 val_main_v25 attended attend
  pointwise
  simp only [weight, score, memories]
  refine Finset.sum_congr rfl fun a _ => (mul_comm _ _).trans (congrArg (fun n => _ * x6 (ix2 _ n)) (Fin.ext ?_))
  show 1024 + j.val = 1024 + (256 * (j.val / 256) + j.val % 256)
  omega

/-- The group's result for a token. -/
theorem result (b : Fin 8) (s : Fin 2048) (j : Fin 1024) : val_main_v46 (F := Ideal) x0 x2 x3 x4 x5 x6 x7 (ix3 b s j)
    = crossed (fun k => val_main_v8 (F := Ideal) x0 x2 x3 (ix3 b s k)) (fun k => x4 (ix1 k)) (fun k n => x5 (ix2 k n))
        (fun a n => x6 (ix2 ⟨256 * b.val + a.val, by omega⟩ n)) (fun k n => x7 (ix2 k n)) j := by
  unfold val_main_v46 val_main_v45 crossed lin
  pointwise
  simp only [attention, query]
  rfl

/-- The group's normalised result for a token. -/
theorem normalised (b : Fin 8) (s : Fin 2048) (j : Fin 1024) : val_main_v59 (F := Ideal) x0 x2 x3 x4 x5 x6 x7 x8 (ix3 b s j)
    = rms (fun k => val_main_v46 (F := Ideal) x0 x2 x3 x4 x5 x6 x7 (ix3 b s k)) (fun k => x8 (ix1 k)) j := by
  unfold val_main_v59 val_main_v58 val_main_v57 val_main_v56 val_main_v55 val_main_v54 val_main_v53 val_main_v52 val_main_v51 val_main_v50
    val_main_v49 val_main_v48 val_main_v47 val_main_cst_6 val_main_cst_7 val_main_cst_8 rms
  pointwise

end Cert.AttentionReferenceIdeal.Prompt

end
-- ==== Proof.Attention.Sample.lean ====
/- The reference's four sample sequences, one token's row at a time, as the layer's row functions. -/
module

public import proofs.«01_k».proof.Proof.Math
public import proofs.«01_k».proof.Proof.Gen.AttentionReferenceIdeal.Read
public import Idealize.ShloMosaic.Lib.Pointwise

@[expose] public section

noncomputable section

namespace Cert.AttentionReferenceIdeal.Sample

open Cert.AttentionReferenceIdeal Cert.AttentionReferenceIdeal.Read Idealize.ShloMosaic Idealize.ShloMosaic.Pointwise Layer
open scoped BigOperators

variable (x1 : (⟨S16384x1024, .f32⟩ : BufTy).Contents (Elt Ideal)) (x2 : (⟨S32768x1024, .bf16⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S3072x2048, .bf16⟩ : BufTy).Contents (Elt Ideal))
  (x7 : (⟨S1024x1024, .f32⟩ : BufTy).Contents (Elt Ideal)) (x8 : (⟨S1024, .f32⟩ : BufTy).Contents (Elt Ideal))

/-- Token `s` of sequence `b` among the sample's tokens. -/
abbrev pos (b : Fin 4) (s : Fin 4096) : Fin 16384 := ⟨4096 * b.val + s.val, by omega⟩

/-- Token `s` of sequence `b` among all the tokens. -/
abbrev tok (b : Fin 4) (s : Fin 4096) : Fin 32768 := ⟨16384 + 4096 * b.val + s.val, by omega⟩

/-- The tokens, regrouped by sequence. -/
theorem tokens (b : Fin 4) (s : Fin 4096) (k : Fin 1024) : val_main_v60 (F := Ideal) x1 (ix3 b s k) = x1 (ix2 (pos b s) k) := by
  unfold val_main_v60
  pointwise
  exact congrArg (fun a => x1 (ix2 a k)) (Fin.ext (by show b.val * 4096 + s.val = 4096 * b.val + s.val; omega))

/-- The mixer's rows, regrouped by sequence. -/
theorem mixers (b : Fin 4) (s : Fin 4096) (k : Fin 1024) : val_main_v62 (F := Ideal) x2 (ix3 b s k) = x2 (ix2 (tok b s) k) := by
  unfold val_main_v62 val_main_v61 val_main_v0
  pointwise
  exact congrArg (fun a => x2 (ix2 a k)) (Fin.ext (by show 16384 + (b.val * 4096 + s.val) = 16384 + 4096 * b.val + s.val; omega))

/-- The memories, regrouped by sequence. -/
theorem memories (b : Fin 4) (a : Fin 256) (n : Fin 2048) :
    val_main_v64 (F := Ideal) x6 (ix3 b a n) = x6 (ix2 ⟨2048 + 256 * b.val + a.val, by omega⟩ n) := by
  unfold val_main_v64 val_main_v63 val_main_v1
  pointwise
  exact congrArg (fun a => x6 (ix2 a n)) (Fin.ext (by show 2048 + (b.val * 256 + a.val) = 2048 + 256 * b.val + a.val; omega))

/-- A token's row after the projected mixer's row is added. -/
theorem mixer (b : Fin 4) (s : Fin 4096) (j : Fin 1024) : val_main_v66 (F := Ideal) x1 x2 x3 (ix3 b s j)
    = added (fun k => x1 (ix2 (pos b s) k)) (fun k => x2 (ix2 (tok b s) k)) (fun k n => x3 (ix2 k n)) j := by
  unfold val_main_v66 val_main_v65 added lin
  pointwise
  simp only [tokens, mixers]

/-- The norm's result for a token's mixed row, projected to a query. -/
theorem query (b : Fin 4) (s : Fin 4096) (n : Fin 1024) : val_main_v80 (F := Ideal) x1 x2 x3 x4 x5 (ix3 b s n)
    = lin (rms (fun k => val_main_v66 (F := Ideal) x1 x2 x3 (ix3 b s k)) (fun k => x4 (ix1 k))) (fun k n => x5 (ix2 k n)) n := by
  unfold val_main_v80 val_main_v79 val_main_v78 val_main_v77 val_main_v76 val_main_v75 val_main_v74 val_main_v73 val_main_v72 val_main_v71 val_main_v70
    val_main_v69 val_main_v68 val_main_v67 val_main_cst_9 val_main_cst_10 val_main_cst_11 lin rms
  pointwise

/-- A head's scaled scores. -/
theorem score (b : Fin 4) (h : Fin 4) (s : Fin 4096) (a : Fin 256) : val_main_v88 (F := Ideal) x1 x2 x3 x4 x5 x6 (ix4 b h s a)
    = scores (fun n => val_main_v80 (F := Ideal) x1 x2 x3 x4 x5 (ix3 b s n)) (fun a n => x6 (ix2 ⟨2048 + 256 * b.val + a.val, by omega⟩ n)) h a := by
  unfold val_main_v88 val_main_v87 val_main_v86 val_main_v84 val_main_v82 val_main_v81 val_main_cst_12 scores feat
  pointwise
  simp only [memories, Nat.mul_comm h.val 256]

/-- The maximum over the memory, from minus infinity. -/
theorem maximum (b : Fin 4) (h : Fin 4) (s : Fin 4096) : val_main_v89 (F := Ideal) x1 x2 x3 x4 x5 x6 (ix3 b h s)
    = Finset.fold max (Ideal.ofBits .f32 4286578688#32) (fun a => val_main_v88 (F := Ideal) x1 x2 x3 x4 x5 x6 (ix4 b h s a)) Finset.univ := by
  unfold val_main_v89
  pointwise
  have start : val_main_cst_13 (F := Ideal) (Shape.Idx.first Gen.h_S_) = Ideal.ofBits .f32 4286578688#32 := rfl
  rw [start]

/-- The largest score. -/
theorem largest (b : Fin 4) (h : Fin 4) (s : Fin 4096) : val_main_v91 (F := Ideal) x1 x2 x3 x4 x5 x6 (ix3 b h s)
    = Finset.fold max (Ideal.ofBits .f32 4286578688#32) (fun a => val_main_v88 (F := Ideal) x1 x2 x3 x4 x5 x6 (ix4 b h s a)) Finset.univ := by
  have step : val_main_v91 (F := Ideal) x1 x2 x3 x4 x5 x6 (ix3 b h s)
      = max (Ideal.ofBits .f32 4286578688#32) (val_main_v89 (F := Ideal) x1 x2 x3 x4 x5 x6 (ix3 b h s)) := by
    rw [val_main_v91_apply, val_main_v90_apply]
    rfl
  rw [step, maximum]
  exact max_fold _ _

/-- The exponential of a score less the largest. -/
theorem exponential (b : Fin 4) (h : Fin 4) (s : Fin 4096) (a : Fin 256) : val_main_v95 (F := Ideal) x1 x2 x3 x4 x5 x6 (ix4 b h s a)
    = Ideal.exp (val_main_v88 (F := Ideal) x1 x2 x3 x4 x5 x6 (ix4 b h s a) - val_main_v91 (F := Ideal) x1 x2 x3 x4 x5 x6 (ix3 b h s)) := by
  unfold val_main_v95 val_main_v94 val_main_v93 val_main_v92
  generalize val_main_v88 (F := Ideal) x1 x2 x3 x4 x5 x6 = y
  generalize val_main_v91 (F := Ideal) x1 x2 x3 x4 x5 x6 = z
  pointwise

/-- The softmax over the memory. -/
theorem weight (b : Fin 4) (h : Fin 4) (s : Fin 4096) (a : Fin 256) : val_main_v99 (F := Ideal) x1 x2 x3 x4 x5 x6 (ix4 b h s a)
    = softmax (fun a => val_main_v88 (F := Ideal) x1 x2 x3 x4 x5 x6 (ix4 b h s a)) a := by
  have step : val_main_v99 (F := Ideal) x1 x2 x3 x4 x5 x6 (ix4 b h s a)
      = Ideal.div (val_main_v95 (F := Ideal) x1 x2 x3 x4 x5 x6 (ix4 b h s a)) (∑ a', val_main_v95 (F := Ideal) x1 x2 x3 x4 x5 x6 (ix4 b h s a')) := by
    unfold val_main_v99 val_main_v98 val_main_v97 val_main_v96 val_main_cst_15
    generalize val_main_v95 (F := Ideal) x1 x2 x3 x4 x5 x6 = y
    pointwise
  rw [step]
  simp only [exponential, largest]
  rfl

/-- The four heads' attention side by side. -/
theorem attention (b : Fin 4) (s : Fin 4096) (j : Fin 1024) : val_main_v102 (F := Ideal) x1 x2 x3 x4 x5 x6 (ix3 b s j)
    = attended (fun n => val_main_v80 (F := Ideal) x1 x2 x3 x4 x5 (ix3 b s n)) (fun a n => x6 (ix2 ⟨2048 + 256 * b.val + a.val, by omega⟩ n)) j := by
  unfold val_main_v102 val_main_v101 val_main_v100 val_main_v85 val_main_v83 attended attend
  pointwise
  simp only [weight, score, memories]
  refine Finset.sum_congr rfl fun a _ => (mul_comm _ _).trans (congrArg (fun n => _ * x6 (ix2 _ n)) (Fin.ext ?_))
  show 1024 + j.val = 1024 + (256 * (j.val / 256) + j.val % 256)
  omega

/-- The group's result for a token. -/
theorem result (b : Fin 4) (s : Fin 4096) (j : Fin 1024) : val_main_v104 (F := Ideal) x1 x2 x3 x4 x5 x6 x7 (ix3 b s j)
    = crossed (fun k => val_main_v66 (F := Ideal) x1 x2 x3 (ix3 b s k)) (fun k => x4 (ix1 k)) (fun k n => x5 (ix2 k n))
        (fun a n => x6 (ix2 ⟨2048 + 256 * b.val + a.val, by omega⟩ n)) (fun k n => x7 (ix2 k n)) j := by
  unfold val_main_v104 val_main_v103 crossed lin
  pointwise
  simp only [attention, query]
  rfl

/-- The group's normalised result for a token. -/
theorem normalised (b : Fin 4) (s : Fin 4096) (j : Fin 1024) : val_main_v117 (F := Ideal) x1 x2 x3 x4 x5 x6 x7 x8 (ix3 b s j)
    = rms (fun k => val_main_v104 (F := Ideal) x1 x2 x3 x4 x5 x6 x7 (ix3 b s k)) (fun k => x8 (ix1 k)) j := by
  unfold val_main_v117 val_main_v116 val_main_v115 val_main_v114 val_main_v113 val_main_v112 val_main_v111 val_main_v110 val_main_v109 val_main_v108
    val_main_v107 val_main_v106 val_main_v105 val_main_cst_16 val_main_cst_17 val_main_cst_18 rms
  pointwise

end Cert.AttentionReferenceIdeal.Sample

end
-- ==== Proof.Attention.Whole.lean ====
/- The reference's two results of the attention, one token's row at a time: the prompt group and the sample group joined. -/
module

public import proofs.«01_k».proof.Proof.Attention.Prompt
public import proofs.«01_k».proof.Proof.Attention.Sample

@[expose] public section

noncomputable section

namespace Cert.AttentionReferenceIdeal.Whole

open Cert.AttentionReferenceIdeal Cert.AttentionReferenceIdeal.Read Idealize.ShloMosaic Idealize.ShloMosaic.Pointwise Layer
open scoped BigOperators

variable (x0 x1 : (⟨S16384x1024, .f32⟩ : BufTy).Contents (Elt Ideal)) (x2 : (⟨S32768x1024, .bf16⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S3072x2048, .bf16⟩ : BufTy).Contents (Elt Ideal))
  (x7 : (⟨S1024x1024, .f32⟩ : BufTy).Contents (Elt Ideal)) (x8 : (⟨S1024, .f32⟩ : BufTy).Contents (Elt Ideal))

/-- A token's row: the prompt's tokens first, the sample's after them. -/
def tokenRow (R : Fin 32768) : Row := fun k =>
  if h : R.val < 16384 then x0 (ix2 ⟨R.val, h⟩ k) else x1 (ix2 ⟨R.val - 16384, by omega⟩ k)

/-- The result for token `R`: the mixer's row projected and added, then the attention to the sequence's memory. -/
def tokenOf (R : Fin 32768) : Row :=
  crossed (added (tokenRow x0 x1 R) (fun k => x2 (ix2 R k)) (fun k n => x3 (ix2 k n))) (fun k => x4 (ix1 k)) (fun k n => x5 (ix2 k n))
    (memory (fun a n => x6 (ix2 a n)) R) (fun k n => x7 (ix2 k n))

/-- A prompt token's row in the reference. -/
theorem prompt_token (b : Fin 8) (s : Fin 2048) :
    (fun k => val_main_v46 (F := Ideal) x0 x2 x3 x4 x5 x6 x7 (ix3 b s k)) = tokenOf x0 x1 x2 x3 x4 x5 x6 x7 (Prompt.tok b s) := by
  have short : (Prompt.tok b s).val < 16384 := by show 2048 * b.val + s.val < 16384; omega
  have hrow : (fun k => x0 (ix2 (Prompt.pos b s) k)) = tokenRow x0 x1 (Prompt.tok b s) := by
    funext k
    unfold tokenRow
    rw [dif_pos short]
  have hmemory : (fun (a : Fin 256) (n : Fin 2048) => x6 (ix2 ⟨256 * b.val + a.val, by omega⟩ n)) = memory (fun a n => x6 (ix2 a n)) (Prompt.tok b s) := by
    funext a n
    unfold memory
    refine congrArg (fun a => x6 (ix2 a n)) (Fin.ext ?_)
    show 256 * b.val + a.val = 256 * (if (Prompt.tok b s).val < 16384 then (Prompt.tok b s).val / 2048 else _) + a.val
    rw [if_pos short]
    show 256 * b.val + a.val = 256 * ((2048 * b.val + s.val) / 2048) + a.val
    omega
  funext k
  rw [Prompt.result, hmemory]
  simp only [Prompt.mixer, hrow]
  rfl

/-- A sample token's row in the reference. -/
theorem sample_token (b : Fin 4) (s : Fin 4096) :
    (fun k => val_main_v104 (F := Ideal) x1 x2 x3 x4 x5 x6 x7 (ix3 b s k)) = tokenOf x0 x1 x2 x3 x4 x5 x6 x7 (Sample.tok b s) := by
  have long : ¬(Sample.tok b s).val < 16384 := by show ¬16384 + 4096 * b.val + s.val < 16384; omega
  have hrow : (fun k => x1 (ix2 (Sample.pos b s) k)) = tokenRow x0 x1 (Sample.tok b s) := by
    funext k
    unfold tokenRow
    rw [dif_neg long]
    refine congrArg (fun a => x1 (ix2 a k)) (Fin.ext ?_)
    show 4096 * b.val + s.val = 16384 + 4096 * b.val + s.val - 16384
    omega
  have hmemory : (fun (a : Fin 256) (n : Fin 2048) => x6 (ix2 ⟨2048 + 256 * b.val + a.val, by omega⟩ n)) = memory (fun a n => x6 (ix2 a n)) (Sample.tok b s) := by
    funext a n
    unfold memory
    refine congrArg (fun a => x6 (ix2 a n)) (Fin.ext ?_)
    show 2048 + 256 * b.val + a.val = 256 * (if (Sample.tok b s).val < 16384 then _ else 8 + ((Sample.tok b s).val - 16384) / 4096) + a.val
    rw [if_neg long]
    show 2048 + 256 * b.val + a.val = 256 * (8 + (16384 + 4096 * b.val + s.val - 16384) / 4096) + a.val
    omega
  funext k
  rw [Sample.result, hmemory]
  simp only [Sample.mixer, hrow]
  rfl

/-- The two groups' rows joined: every token's row. -/
theorem joined (f : Fin 32768 → EReal) (p : Fin 8 → Fin 2048 → EReal) (q : Fin 4 → Fin 4096 → EReal)
    (hp : ∀ b s, p b s = f (Prompt.tok b s)) (hq : ∀ b s, q b s = f (Sample.tok b s)) (R : Fin 32768) :
    (if h : R.val < 16384 then p ⟨R.val / 2048, by omega⟩ ⟨R.val % 2048, by omega⟩
      else q ⟨(R.val - 16384) / 4096, by omega⟩ ⟨(R.val - 16384) % 4096, by omega⟩) = f R := by
  by_cases h : R.val < 16384
  · rw [dif_pos h, hp]
    exact congrArg f (Fin.ext (by show 2048 * (R.val / 2048) + R.val % 2048 = R.val; omega))
  · rw [dif_neg h, hq]
    exact congrArg f (Fin.ext (by show 16384 + 4096 * ((R.val - 16384) / 4096) + (R.val - 16384) % 4096 = R.val; omega))

/-- The reference's first result is each token's row. -/
theorem first_apply (R : Fin 32768) (j : Fin 1024) :
    val_main_v120 (F := Ideal) x0 x1 x2 x3 x4 x5 x6 x7 (ix2 R j) = tokenOf x0 x1 x2 x3 x4 x5 x6 x7 R j := by
  have hp := fun b s => congrFun (prompt_token x0 x1 x2 x3 x4 x5 x6 x7 b s) j
  have hq := fun b s => congrFun (sample_token x0 x1 x2 x3 x4 x5 x6 x7 b s) j
  unfold val_main_v120 val_main_v118 val_main_v119
  generalize val_main_v46 (F := Ideal) x0 x2 x3 x4 x5 x6 x7 = p at hp ⊢
  generalize val_main_v104 (F := Ideal) x1 x2 x3 x4 x5 x6 x7 = q at hq ⊢
  pointwise
  exact joined (fun R => tokenOf x0 x1 x2 x3 x4 x5 x6 x7 R j) (fun b s => p (ix3 b s j)) (fun b s => q (ix3 b s j)) hp hq R

/-- The reference's second result is that row normalised. -/
theorem second_apply (R : Fin 32768) (j : Fin 1024) : val_main_v124 (F := Ideal) x0 x1 x2 x3 x4 x5 x6 x7 x8 (ix2 R j)
    = rms (tokenOf x0 x1 x2 x3 x4 x5 x6 x7 R) (fun k => x8 (ix1 k)) j := by
  have hp : ∀ b s, val_main_v59 (F := Ideal) x0 x2 x3 x4 x5 x6 x7 x8 (ix3 b s j)
      = rms (tokenOf x0 x1 x2 x3 x4 x5 x6 x7 (Prompt.tok b s)) (fun k => x8 (ix1 k)) j := fun b s => by
    rw [Prompt.normalised, prompt_token x0 x1]
  have hq : ∀ b s, val_main_v117 (F := Ideal) x1 x2 x3 x4 x5 x6 x7 x8 (ix3 b s j)
      = rms (tokenOf x0 x1 x2 x3 x4 x5 x6 x7 (Sample.tok b s)) (fun k => x8 (ix1 k)) j := fun b s => by
    rw [Sample.normalised, sample_token x0 x1]
  unfold val_main_v124 val_main_v123 val_main_v121 val_main_v122
  generalize val_main_v59 (F := Ideal) x0 x2 x3 x4 x5 x6 x7 x8 = p at hp ⊢
  generalize val_main_v117 (F := Ideal) x1 x2 x3 x4 x5 x6 x7 x8 = q at hq ⊢
  pointwise
  exact joined (fun R => rms (tokenOf x0 x1 x2 x3 x4 x5 x6 x7 R) (fun k => x8 (ix1 k)) j)
    (fun b s => p (ix3 b s j)) (fun b s => q (ix3 b s j)) hp hq R

end Cert.AttentionReferenceIdeal.Whole

end
-- ==== Proof.Attention.Array.lean ====
/- The attention's two result arrays after the run, entry by entry, as the layer's function of the argument arrays. -/
module

public import proofs.«01_k».proof.Proof.Attention.Block
public import proofs.«01_k».proof.Proof.Attention.Whole
public import proofs.«01_k».proof.Proof.Gen.AttentionIdeal.Value
public import Idealize.ShloMosaic.Lib.Pipeline.ValueKit
public import Idealize.ShloMosaic.Lib.Pointwise

@[expose] public section

noncomputable section

namespace Cert.AttentionIdeal.Array

open Cert.AttentionIdeal Cert.AttentionIdeal.Gen Cert.AttentionIdeal.Block Idealize.ShloMosaic Idealize.ShloMosaic.TcCoe Layer
open Idealize.ShloMosaic.Pointwise
open Idealize.ShloMosaic.Pipeline (Dat)
open Cert.AttentionReferenceIdeal.Whole (tokenRow tokenOf)
open scoped BigOperators

variable (m : (ℓ : Loc nD τ sig) → Buf (Elt Ideal) ℓ) (c : Dev nD)

/-! ## The arrays prepared before the launch -/

/-- The mixer's output weights are only cast. -/
theorem V_main_v0 : (V m c main_v0 : S1024x1024.Idx → EReal) = m ((c : Thread nD τ).loc main_arg3) := by
  unfold V
  simp only [hostOps0, hostOps0_1, hostOps0_2, hostOps0_3, hostOps0_4, List.flatten_cons, List.flatten_nil, List.append_nil, List.cons_append, List.nil_append]
  after_results
  rfl

/-- The query weights are only cast. -/
theorem V_main_v1 : (V m c main_v1 : S1024x1024.Idx → EReal) = m ((c : Thread nD τ).loc main_arg5) := by
  unfold V
  simp only [hostOps0, hostOps0_1, hostOps0_2, hostOps0_3, hostOps0_4, List.flatten_cons, List.flatten_nil, List.append_nil, List.cons_append, List.nil_append]
  after_results
  rfl

/-- The attention's output weights are only cast. -/
theorem V_main_v2 : (V m c main_v2 : S1024x1024.Idx → EReal) = m ((c : Thread nD τ).loc main_arg7) := by
  unfold V
  simp only [hostOps0, hostOps0_1, hostOps0_2, hostOps0_3, hostOps0_4, List.flatten_cons, List.flatten_nil, List.append_nil, List.cons_append, List.nil_append]
  after_results
  rfl

/-- The attention's norm's weights as a one-row matrix. -/
theorem V_main_v29 (k : Fin 1024) : (V m c main_v29 : S1x1024.Idx → EReal) (ix2 0 k) = m ((c : Thread nD τ).loc main_arg4) (ix1 k) := by
  unfold V
  simp only [hostOps0, hostOps0_1, hostOps0_2, hostOps0_3, hostOps0_4, List.flatten_cons, List.flatten_nil, List.append_nil, List.cons_append, List.nil_append]
  after_results
  pointwise

/-- The last norm's weights as a one-row matrix. -/
theorem V_main_v30 (k : Fin 1024) : (V m c main_v30 : S1x1024.Idx → EReal) (ix2 0 k) = m ((c : Thread nD τ).loc main_arg8) (ix1 k) := by
  unfold V
  simp only [hostOps0, hostOps0_1, hostOps0_2, hostOps0_3, hostOps0_4, List.flatten_cons, List.flatten_nil, List.append_nil, List.cons_append, List.nil_append]
  after_results
  pointwise

/-! ## The windows' blocks -/

/-- A grid point's coordinate is its number. -/
theorem coord_eq : ∀ t : Fin cfg0.N, (grid0.coords t 0).val = t.val := (by decide +kernel : ∀ t : Fin grid0.N, _)

/-- There are 64 grid points. -/
theorem lt_points (t : Fin cfg0.N) : t.val < 64 := t.isLt

/-- The prompt's tile of a point: its own, or the last one. -/
theorem index0 : ∀ t : Fin cfg0.N, win0_0.index t = ![min t.val 31, 0] := (by decide +kernel : ∀ t : Fin grid0.N, _)

/-- The sample's tile of a point: its own, or the first one. -/
theorem index1 : ∀ t : Fin cfg0.N, win0_1.index t = ![t.val - 32, 0] := (by decide +kernel : ∀ t : Fin grid0.N, _)

/-- The mixer's tile of a point is its own. -/
theorem index2 : ∀ t : Fin cfg0.N, win0_2.index t = ![t.val, 0] := (by decide +kernel : ∀ t : Fin grid0.N, _)

/-- The mixer's output weights are one block. -/
theorem index3 : ∀ t : Fin cfg0.N, win0_3.index t = ![0, 0] := (by decide +kernel : ∀ t : Fin grid0.N, _)

/-- The attention's norm weights are one block. -/
theorem index4 : ∀ t : Fin cfg0.N, win0_4.index t = ![0, 0] := (by decide +kernel : ∀ t : Fin grid0.N, _)

/-- The query weights are one block. -/
theorem index5 : ∀ t : Fin cfg0.N, win0_5.index t = ![0, 0] := (by decide +kernel : ∀ t : Fin grid0.N, _)

/-- The memory a point reads is its sequence's. -/
theorem index6 : ∀ t : Fin cfg0.N, win0_6.index t = ![if t.val < 32 then t.val / 4 else 8 + (t.val - 32) / 8, 0] := (by decide +kernel : ∀ t : Fin grid0.N, _)

/-- The attention's output weights are one block. -/
theorem index7 : ∀ t : Fin cfg0.N, win0_7.index t = ![0, 0] := (by decide +kernel : ∀ t : Fin grid0.N, _)

/-- The last norm's weights are one block. -/
theorem index8 : ∀ t : Fin cfg0.N, win0_8.index t = ![0, 0] := (by decide +kernel : ∀ t : Fin grid0.N, _)

/-- A point writes its own tile of the first result. -/
theorem index14 : ∀ t : Fin cfg0.N, win0_14.index t = ![t.val, 0] := (by decide +kernel : ∀ t : Fin grid0.N, _)

/-- A point writes its own tile of the second result. -/
theorem index15 : ∀ t : Fin cfg0.N, win0_15.index t = ![t.val, 0] := (by decide +kernel : ∀ t : Fin grid0.N, _)

/-- The token that row `r` of point `t`'s block holds. -/
def tok (t : Fin cfg0.N) (r : Fin 512) : Fin 32768 := ⟨t.val * 512 + r.val, by have := lt_points t; omega⟩

/-- The tile a prompt's point reads is its tokens. -/
theorem iblk0_apply (t : Fin cfg0.N) (h : t.val < 32) (r : Fin 512) (k : Fin 1024) :
    (iblk m c 0 t : S512x1024.Idx → EReal) (ix2 r k)
      = m ((c : Thread nD τ).loc main_arg0) (ix2 ⟨t.val * 512 + r.val, by omega⟩ k) := by
  blk_simp [iblk]
  rw [V_main_arg0]
  refine congrArg _ ?_
  blk_ext [index0 t]

/-- The tile a sample's point reads is its tokens. -/
theorem iblk1_apply (t : Fin cfg0.N) (h : ¬ t.val < 32) (r : Fin 512) (k : Fin 1024) :
    (iblk m c 1 t : S512x1024.Idx → EReal) (ix2 r k)
      = m ((c : Thread nD τ).loc main_arg1) (ix2 ⟨t.val * 512 + r.val - 16384, by have := lt_points t; omega⟩ k) := by
  have := lt_points t
  blk_simp [iblk]
  rw [V_main_arg1]
  refine congrArg _ ?_
  blk_ext [index1 t]

/-- The mixer's rows of the point's block. -/
theorem iblk2_apply (t : Fin cfg0.N) (r : Fin 512) (k : Fin 1024) :
    (iblk m c 2 t : S512x1024.Idx → EReal) (ix2 r k) = m ((c : Thread nD τ).loc main_arg2) (ix2 (tok t r) k) := by
  blk_simp [iblk]
  rw [V_main_arg2]
  refine congrArg _ ?_
  blk_ext [index2 t, tok]

/-- Window 3's block is its whole array. -/
theorem iblk3_eq (t : Fin cfg0.N) : (iblk m c 3 t : S1024x1024.Idx → EReal) = m ((c : Thread nD τ).loc main_arg3) := by
  refine Eq.trans (b := (V m c main_v0 : S1024x1024.Idx → EReal)) ?_ (V_main_v0 m c)
  funext y
  blk_simp [iblk]
  refine congrArg _ ?_
  blk_ext [index3 t]

/-- Window 5's block is its whole array. -/
theorem iblk5_eq (t : Fin cfg0.N) : (iblk m c 5 t : S1024x1024.Idx → EReal) = m ((c : Thread nD τ).loc main_arg5) := by
  refine Eq.trans (b := (V m c main_v1 : S1024x1024.Idx → EReal)) ?_ (V_main_v1 m c)
  funext y
  blk_simp [iblk]
  refine congrArg _ ?_
  blk_ext [index5 t]

/-- Window 7's block is its whole array. -/
theorem iblk7_eq (t : Fin cfg0.N) : (iblk m c 7 t : S1024x1024.Idx → EReal) = m ((c : Thread nD τ).loc main_arg7) := by
  refine Eq.trans (b := (V m c main_v2 : S1024x1024.Idx → EReal)) ?_ (V_main_v2 m c)
  funext y
  blk_simp [iblk]
  refine congrArg _ ?_
  blk_ext [index7 t]

/-- Window 4's block is its whole array. -/
theorem iblk4_eq (t : Fin cfg0.N) : (iblk m c 4 t : S1x1024.Idx → EReal) = V m c main_v29 := by
  refine Eq.trans (b := (V m c main_v29 : S1x1024.Idx → EReal)) ?_ rfl
  funext y
  blk_simp [iblk]
  refine congrArg _ ?_
  blk_ext [index4 t]

/-- Window 8's block is its whole array. -/
theorem iblk8_eq (t : Fin cfg0.N) : (iblk m c 8 t : S1x1024.Idx → EReal) = V m c main_v30 := by
  refine Eq.trans (b := (V m c main_v30 : S1x1024.Idx → EReal)) ?_ rfl
  funext y
  blk_simp [iblk]
  refine congrArg _ ?_
  blk_ext [index8 t]

/-- The memory of the point's sequence. -/
theorem iblk6_apply (t : Fin cfg0.N) (r : Fin 512) (a : Fin 256) (n : Fin 2048) :
    (iblk m c 6 t : S256x2048.Idx → EReal) (ix2 a n)
      = memory (fun a n => m ((c : Thread nD τ).loc main_arg6) (ix2 a n)) (tok t r) a n := by
  have := lt_points t
  have hr := r.isLt
  have ha := a.isLt
  have hv : (tok t r).val = t.val * 512 + r.val := rfl
  unfold memory
  blk_simp [iblk]
  rw [V_main_arg6]
  refine congrArg _ ?_
  by_cases h : t.val < 32
  · have h' : (tok t r).val < 16384 := by omega
    blk_ext [index6 t, if_pos h, if_pos h']
  · have h' : ¬ (tok t r).val < 16384 := by omega
    blk_ext [index6 t, if_neg h, if_neg h']

/-- The row the point computes on is its token's. -/
theorem row_eq (t : Fin cfg0.N) (r : Fin 512) :
    (fun k => if (grid0.coords t 0).val < 32 then (iblk m c 0 t : S512x1024.Idx → EReal) (ix2 r k) else (iblk m c 1 t : S512x1024.Idx → EReal) (ix2 r k))
      = tokenRow (m ((c : Thread nD τ).loc main_arg0)) (m ((c : Thread nD τ).loc main_arg1)) (tok t r) := by
  funext k
  have hr := r.isLt
  have hv : (tok t r).val = t.val * 512 + r.val := rfl
  unfold tokenRow
  rw [coord_eq]
  by_cases h : t.val < 32
  · rw [if_pos h, dif_pos (by omega), iblk0_apply m c t h]
    rfl
  · rw [if_neg h, dif_neg (by omega), iblk1_apply m c t h]
    rfl

/-! ## The results -/

/-- The result for a token of the argument arrays. -/
abbrev tokenArg (R : Fin 32768) : Row :=
  tokenOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) R

/-- The point's result is the token's. -/
theorem crossedAt_eq (t : Fin cfg0.N) (r : Fin 512) :
    crossed (mixedAt (grid0.coords t) (iblk m c 0 t) (iblk m c 1 t) (iblk m c 2 t) (iblk m c 3 t) r)
        (fun k => (iblk m c 4 t : S1x1024.Idx → EReal) (ix2 0 k)) (fun k n => (iblk m c 5 t : S1024x1024.Idx → EReal) (ix2 k n))
        (fun a n => (iblk m c 6 t : S256x2048.Idx → EReal) (ix2 a n)) (fun k n => (iblk m c 7 t : S1024x1024.Idx → EReal) (ix2 k n))
      = tokenArg m c (tok t r) := by
  have h4 : (fun k => (iblk m c 4 t : S1x1024.Idx → EReal) (ix2 0 k)) = fun k => m ((c : Thread nD τ).loc main_arg4) (ix1 k) := by
    funext k; rw [iblk4_eq, V_main_v29]
  unfold mixedAt
  rw [row_eq, funext fun k => iblk2_apply m c t r k, iblk3_eq, h4, iblk5_eq, iblk7_eq, funext fun a => funext fun n => iblk6_apply m c t r a n]
  rfl

/-- The first result array. -/
def first : S32768x1024.Idx → EReal := fun i => tokenArg m c (i 0) (i 1)

/-- The second result array: the first one's rows normalised. -/
def second : S32768x1024.Idx → EReal := fun i =>
  rms (tokenArg m c (i 0)) (fun k => m ((c : Thread nD τ).loc main_arg8) (ix1 k)) (i 1)

/-- Where row `r` of point `t`'s block lies in a result array. -/
theorem emb14 (t : Fin cfg0.N) (r : Fin 512) (j : Fin 1024) :
    ((win0_14.blk t).view.emb (ix2 r j) : S32768x1024.Idx) = ix2 (tok t r) j := by
  blk_ext [index14 t, tok]

/-- Likewise for the second result. -/
theorem emb15 (t : Fin cfg0.N) (r : Fin 512) (j : Fin 1024) :
    ((win0_15.blk t).view.emb (ix2 r j) : S32768x1024.Idx) = ix2 (tok t r) j := by
  blk_ext [index15 t, tok]

/-- The kernel leaves every token's row in its first array. -/
theorem final14 : (dats m 0 c).arrAt 14 cfg0.N = first m c := by
  refine (dats m 0 c).arrAt_eq_of_covers 14 _ (by decide +kernel) fun t hf y => ?_
  blk_simp
  rw [after0_14]
  obtain ⟨r, j, rfl⟩ : ∃ (r : Fin 512) (j : Fin 1024), y = ix2 r j := ⟨y 0, y 1, ix2_eta y |>.symm⟩
  rw [out14_apply, crossedAt_eq, emb14]
  rfl

/-- The kernel leaves the normalised rows in its second array. -/
theorem final15 : (dats m 0 c).arrAt 15 cfg0.N = second m c := by
  refine (dats m 0 c).arrAt_eq_of_covers 15 _ (by decide +kernel) fun t hf y => ?_
  blk_simp
  rw [after0_15]
  obtain ⟨r, j, rfl⟩ : ∃ (r : Fin 512) (j : Fin 1024), y = ix2 r j := ⟨y 0, y 1, ix2_eta y |>.symm⟩
  have h8 : (fun k => (iblk m c 8 t : S1x1024.Idx → EReal) (ix2 0 k)) = fun k => m ((c : Thread nD τ).loc main_arg8) (ix1 k) := by
    funext k; rw [iblk8_eq, V_main_v30]
  rw [out15_apply, crossedAt_eq, h8, emb15]
  rfl

end Cert.AttentionIdeal.Array

end
-- ==== Proof.Attention.Claims.lean ====
/- The claims about the attention after the recurrence: the mixer's output projection, the attention to the memory and the
   norm of its result. -/
module

public import proofs.«01_k».proof.Defs
public import proofs.«01_k».proof.Proof.Attention.Array
public import proofs.«01_k».proof.Proof.Gen.Attention.Frame
public import proofs.«01_k».proof.Proof.Gen.AttentionReferenceIdeal.Run

@[expose] public section

noncomputable section

namespace Cert.Proof.Attention

open Idealize.ShloMosaic Idealize.SL.Sem Layer

/-- The kernel's words: every run ends, the arguments are kept and every counter is zero. -/
theorem kernel_frame : Cert.quiescent_Attention := fun m ρ _ => Cert.Attention.Gen.frame m ρ

/-- Likewise over the extended reals. -/
theorem ideal_frame : Cert.quiescent_AttentionIdeal := fun m ρ _ => Cert.AttentionIdeal.Gen.frame m ρ

/-- Likewise for the reference, which has no semaphore. -/
theorem reference_frame : Cert.quiescent_AttentionReferenceIdeal := fun m ρ _ =>
  (θ_run Cert.AttentionReferenceIdeal.defs _ _).mono (fun r h => ⟨fun c => (h c).2.2, sem_eq_zero_of_no_sems (by decide) r.2⟩)
    (Cert.AttentionReferenceIdeal.Value.run m ρ)

/-- Kernel and reference compute the same two arrays: every token's row, and that row normalised. -/
theorem equal : Cert.algebraic_AttentionIdeal_AttentionReferenceIdeal := fun m ρ m' ρ' _ agree => by
  refine ⟨fun c => Cert.AttentionIdeal.Array.first m c, fun c => Cert.AttentionIdeal.Array.second m c, ?_, ?_⟩
  · exact (θ_run Cert.AttentionIdeal.defs _ _).mono
      (fun r h c => ⟨(h c).1.trans (Cert.AttentionIdeal.Array.final14 m c), (h c).2.1.trans (Cert.AttentionIdeal.Array.final15 m c),
        (h c).2.2.2.2.2⟩)
      (Cert.AttentionIdeal.Value.run_blocks m ρ)
  · refine (θ_run Cert.AttentionReferenceIdeal.defs _ _).mono (fun r h c => ⟨(h c).1.trans (?_ : _ = Cert.AttentionIdeal.Array.first m c),
      (h c).2.1.trans (?_ : _ = Cert.AttentionIdeal.Array.second m c), (h c).2.2⟩)
      (Cert.AttentionReferenceIdeal.Value.run m' ρ')
    · clear h
      rw [Cert.AttentionReferenceIdeal.Read.val_main_v120_eq]
      obtain ⟨e0, e1, e2, e3, e4, e5, e6, e7, -⟩ := agree c
      change Cert.AttentionReferenceIdeal.Read.val_main_v120 (F := Ideal) (m' (c.tc.loc Cert.AttentionReferenceIdeal.main_arg0)) (m' (c.tc.loc Cert.AttentionReferenceIdeal.main_arg1)) (m' (c.tc.loc Cert.AttentionReferenceIdeal.main_arg2)) (m' (c.tc.loc Cert.AttentionReferenceIdeal.main_arg3)) (m' (c.tc.loc Cert.AttentionReferenceIdeal.main_arg4)) (m' (c.tc.loc Cert.AttentionReferenceIdeal.main_arg5)) (m' (c.tc.loc Cert.AttentionReferenceIdeal.main_arg6)) (m' (c.tc.loc Cert.AttentionReferenceIdeal.main_arg7)) = _
      rw [e0, e1, e2, e3, e4, e5, e6, e7]
      funext i
      obtain ⟨R, j, rfl⟩ : ∃ (R : Fin 32768) (j : Fin 1024), i = ix2 R j := ⟨i 0, i 1, ix2_eta i |>.symm⟩
      exact Cert.AttentionReferenceIdeal.Whole.first_apply _ _ _ _ _ _ _ _ R j
    · clear h
      rw [Cert.AttentionReferenceIdeal.Read.val_main_v124_eq]
      obtain ⟨e0, e1, e2, e3, e4, e5, e6, e7, e8, -⟩ := agree c
      change Cert.AttentionReferenceIdeal.Read.val_main_v124 (F := Ideal) (m' (c.tc.loc Cert.AttentionReferenceIdeal.main_arg0)) (m' (c.tc.loc Cert.AttentionReferenceIdeal.main_arg1)) (m' (c.tc.loc Cert.AttentionReferenceIdeal.main_arg2)) (m' (c.tc.loc Cert.AttentionReferenceIdeal.main_arg3)) (m' (c.tc.loc Cert.AttentionReferenceIdeal.main_arg4)) (m' (c.tc.loc Cert.AttentionReferenceIdeal.main_arg5)) (m' (c.tc.loc Cert.AttentionReferenceIdeal.main_arg6)) (m' (c.tc.loc Cert.AttentionReferenceIdeal.main_arg7)) (m' (c.tc.loc Cert.AttentionReferenceIdeal.main_arg8)) = _
      rw [e0, e1, e2, e3, e4, e5, e6, e7, e8]
      funext i
      obtain ⟨R, j, rfl⟩ : ∃ (R : Fin 32768) (j : Fin 1024), i = ix2 R j := ⟨i 0, i 1, ix2_eta i |>.symm⟩
      exact Cert.AttentionReferenceIdeal.Whole.second_apply _ _ _ _ _ _ _ _ _ R j

end Cert.Proof.Attention

end
-- ==== Proof.Memory.Block.lean ====
/- What one grid point of the memory projection's kernel leaves in its block: the normalised rows of its tile times the
   weights. -/
module

public import proofs.«01_k».proof.Proof.Math
public import proofs.«01_k».proof.Proof.Gen.MemoryIdeal.Frame
public import Idealize.ShloMosaic.Lib.Pointwise

@[expose] public section

noncomputable section

namespace Cert.MemoryIdeal.Block

open Cert.MemoryIdeal Cert.MemoryIdeal.Gen Idealize.ShloMosaic Idealize.ShloMosaic.Pointwise Layer
open scoped BigOperators

/-- The body's test of its grid point: whether the point's tile is of the prompt's memories. -/
theorem prompt_flag (i : grid0.Coords) :
    Scalar.cmpi .slt (BitVec.ofNat 32 (i 0).val) 4#32 = if (i 0).val < 4 then 1#1 else 0#1 := by
  generalize i 0 = n
  revert n
  decide +kernel

/-- The block at row `r`: the row of the tile the point reads, normalised, times the weights. -/
theorem product_apply (i : grid0.Coords) (x0 x1 : Vec Ideal S512x1024 .f32) (g : Vec Ideal S1x1024 .f32) (w : Vec Ideal S1024x2048 .bf16)
    (r : Fin 512) (j : Fin 2048) :
    k0_pay1 i x0 x1 g w (ix2 r j)
      = lin (rms (fun k => if (i 0).val < 4 then x0 (ix2 r k) else x1 (ix2 r k)) (fun k => g (ix2 0 k))) (fun k n => w (ix2 k n)) j := by
  unfold k0_pay1
  rw [prompt_flag]
  by_cases h : (i 0).val < 4
  · simp only [if_pos h]
    unfold lin rms
    rw [show ∀ a b : Vec Ideal S512x1024 .f32, Scalar.select 1#1 a b = a from fun _ _ => rfl]
    pointwise [dot_S512x1024_S1024x2048_S512x2048_1_0_0_1_n_n]
  · simp only [if_neg h]
    unfold lin rms
    rw [show ∀ a b : Vec Ideal S512x1024 .f32, Scalar.select 0#1 a b = b from fun _ _ => rfl]
    pointwise [dot_S512x1024_S1024x2048_S512x2048_1_0_0_1_n_n]

/-- The block a grid point leaves, written by its one store. -/
theorem out_apply (i : grid0.Coords) (x0 x1 : Vec Ideal S512x1024 .f32) (g : Vec Ideal S1x1024 .f32) (w : Vec Ideal S1024x2048 .bf16)
    (r : Fin 512) (j : Fin 2048) :
    out0_4 i x0 x1 g w (ix2 r j)
      = lin (rms (fun k => if (i 0).val < 4 then x0 (ix2 r k) else x1 (ix2 r k)) (fun k => g (ix2 0 k))) (fun k n => w (ix2 k n)) j := by
  unfold out0_4
  rw [View.canon_unit_zero (by decide), View.ld_unit_zero (S := S512x1024) (by decide), View.ld_unit_zero (S := S512x1024) (by decide),
    View.ld_unit_zero (S := S1x1024) (by decide), View.ld_unit_zero (S := S1024x2048) (by decide)]
  exact product_apply i x0 x1 g w r j

end Cert.MemoryIdeal.Block

end
-- ==== Proof.Memory.Reference.lean ====
/- The reference's memory projection, entry by entry, as the layer's row functions. -/
module

public import proofs.«01_k».proof.Proof.Math
public import proofs.«01_k».proof.Proof.Gen.MemoryReferenceIdeal.Read
public import Idealize.ShloMosaic.Lib.Pointwise

@[expose] public section

noncomputable section

namespace Cert.MemoryReferenceIdeal.Entries

open Cert.MemoryReferenceIdeal Cert.MemoryReferenceIdeal.Read Idealize.ShloMosaic Idealize.ShloMosaic.Pointwise Layer
open scoped BigOperators

variable (x0 : (⟨S2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x2048, .f32⟩ : BufTy).Contents (Elt Ideal))

/-- A memory's row: the prompt's memories first, the sample's after them. -/
def memoryRow (R : Fin 3072) : Row := fun k =>
  if h : R.val < 2048 then x0 (ix2 ⟨R.val, h⟩ k) else x1 (ix2 ⟨R.val - 2048, by omega⟩ k)

/-- A memory row's keys and values. -/
def projected (R : Fin 3072) : Fin 2048 → EReal := lin (rms (memoryRow x0 x1 R) (fun k => x2 (ix1 k))) (fun k n => x3 (ix2 k n))

/-- A prompt memory's product in the reference. -/
theorem prompt_apply (R : Fin 2048) (j : Fin 2048) :
    val_main_v13 (F := Ideal) x0 x2 x3 (ix2 R j) = lin (rms (fun k => x0 (ix2 R k)) (fun k => x2 (ix1 k))) (fun k n => x3 (ix2 k n)) j := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 lin rms
  pointwise [dot_S2048x1024_S1024x2048_S2048x2048_1_0_0_1_n_n]

/-- A sample memory's product in the reference. -/
theorem sample_apply (R : Fin 1024) (j : Fin 2048) :
    val_main_v27 (F := Ideal) x1 x2 x3 (ix2 R j) = lin (rms (fun k => x1 (ix2 R k)) (fun k => x2 (ix1 k))) (fun k n => x3 (ix2 k n)) j := by
  unfold val_main_v27 val_main_v26 val_main_v25 val_main_v24 val_main_v23 val_main_v22 val_main_v21 val_main_v20 val_main_v19 val_main_v18
    val_main_v17 val_main_v16 val_main_v15 val_main_v14 val_main_cst_2 val_main_cst_3 val_main_cst_4 lin rms
  pointwise [dot_S1024x1024_S1024x2048_S1024x2048_1_0_0_1_n_n]

/-- The reference's result: the keys and values of every memory row. -/
theorem result_apply (R : Fin 3072) (j : Fin 2048) :
    val_main_v29 (F := Ideal) x0 x1 x2 x3 (ix2 R j) = projected x0 x1 x2 x3 R j := by
  have hp := prompt_apply x0 x2 x3
  have hq := sample_apply x1 x2 x3
  unfold val_main_v29 val_main_v28 projected memoryRow
  generalize val_main_v13 (F := Ideal) x0 x2 x3 = a at hp ⊢
  generalize val_main_v27 (F := Ideal) x1 x2 x3 = b at hq ⊢
  pointwise
  by_cases h : R.val < 2048
  · simp only [dif_pos h]
    exact hp _ _
  · simp only [dif_neg h]
    exact hq _ _

end Cert.MemoryReferenceIdeal.Entries

end
-- ==== Proof.Memory.Array.lean ====
/- The memory projection's result array after the run, entry by entry, as the layer's function of the argument arrays. -/
module

public import proofs.«01_k».proof.Proof.Memory.Block
public import proofs.«01_k».proof.Proof.Memory.Reference
public import proofs.«01_k».proof.Proof.Gen.MemoryIdeal.Value
public import Idealize.ShloMosaic.Lib.Pipeline.ValueKit
public import Idealize.ShloMosaic.Lib.Pointwise

@[expose] public section

noncomputable section

namespace Cert.MemoryIdeal.Array

open Cert.MemoryIdeal Cert.MemoryIdeal.Gen Cert.MemoryIdeal.Block Idealize.ShloMosaic Idealize.ShloMosaic.TcCoe Layer
open Idealize.ShloMosaic.Pointwise
open Idealize.ShloMosaic.Pipeline (Dat)
open Cert.MemoryReferenceIdeal.Entries (memoryRow projected)
open scoped BigOperators

variable (m : (ℓ : Loc nD τ sig) → Buf (Elt Ideal) ℓ) (c : Dev nD)

/-- The weights are only cast before the launch. -/
theorem V_main_v0 : (V m c main_v0 : S1024x2048.Idx → EReal) = m ((c : Thread nD τ).loc main_arg3) := by
  unfold V
  simp only [hostOps0, List.flatten_cons, List.flatten_nil, List.append_nil, List.cons_append, List.nil_append]
  after_results
  rfl

/-- The norm's weights as a one-row matrix. -/
theorem V_main_v1 (k : Fin 1024) : (V m c main_v1 : S1x1024.Idx → EReal) (ix2 0 k) = m ((c : Thread nD τ).loc main_arg2) (ix1 k) := by
  unfold V
  simp only [hostOps0, List.flatten_cons, List.flatten_nil, List.append_nil, List.cons_append, List.nil_append]
  after_results
  pointwise

/-- A grid point's coordinate is its number. -/
theorem coord_eq : ∀ t : Fin cfg0.N, (grid0.coords t 0).val = t.val := (by decide +kernel : ∀ t : Fin grid0.N, _)

/-- There are six grid points. -/
theorem lt_points (t : Fin cfg0.N) : t.val < 6 := t.isLt

/-- The prompt's tile of a point: its own, or the last one. -/
theorem index0 : ∀ t : Fin cfg0.N, win0_0.index t = ![min t.val 3, 0] := (by decide +kernel : ∀ t : Fin grid0.N, _)

/-- The sample's tile of a point: its own, or the first one. -/
theorem index1 : ∀ t : Fin cfg0.N, win0_1.index t = ![t.val - 4, 0] := (by decide +kernel : ∀ t : Fin grid0.N, _)

/-- The norm's weights are one block. -/
theorem index2 : ∀ t : Fin cfg0.N, win0_2.index t = ![0, 0] := (by decide +kernel : ∀ t : Fin grid0.N, _)

/-- The weights are one block. -/
theorem index3 : ∀ t : Fin cfg0.N, win0_3.index t = ![0, 0] := (by decide +kernel : ∀ t : Fin grid0.N, _)

/-- A point writes its own tile of the result. -/
theorem index4 : ∀ t : Fin cfg0.N, win0_4.index t = ![t.val, 0] := (by decide +kernel : ∀ t : Fin grid0.N, _)

/-- The memory row that row `r` of point `t`'s block holds. -/
def row (t : Fin cfg0.N) (r : Fin 512) : Fin 3072 := ⟨t.val * 512 + r.val, by have := lt_points t; omega⟩

/-- The tile a prompt's point reads is its memory rows. -/
theorem iblk0_apply (t : Fin cfg0.N) (h : t.val < 4) (r : Fin 512) (k : Fin 1024) :
    (iblk m c 0 t : S512x1024.Idx → EReal) (ix2 r k)
      = m ((c : Thread nD τ).loc main_arg0) (ix2 ⟨t.val * 512 + r.val, by omega⟩ k) := by
  blk_simp [iblk]
  rw [V_main_arg0]
  refine congrArg _ ?_
  blk_ext [index0 t]

/-- The tile a sample's point reads is its memory rows. -/
theorem iblk1_apply (t : Fin cfg0.N) (h : ¬ t.val < 4) (r : Fin 512) (k : Fin 1024) :
    (iblk m c 1 t : S512x1024.Idx → EReal) (ix2 r k)
      = m ((c : Thread nD τ).loc main_arg1) (ix2 ⟨t.val * 512 + r.val - 2048, by have := lt_points t; omega⟩ k) := by
  have := lt_points t
  blk_simp [iblk]
  rw [V_main_arg1]
  refine congrArg _ ?_
  blk_ext [index1 t]

/-- The norm's weights are read whole. -/
theorem iblk2_eq (t : Fin cfg0.N) : (iblk m c 2 t : S1x1024.Idx → EReal) = V m c main_v1 := by
  refine Eq.trans (b := (V m c main_v1 : S1x1024.Idx → EReal)) ?_ rfl
  funext y
  blk_simp [iblk]
  refine congrArg _ ?_
  blk_ext [index2 t]

/-- The weights are read whole. -/
theorem iblk3_eq (t : Fin cfg0.N) : (iblk m c 3 t : S1024x2048.Idx → EReal) = m ((c : Thread nD τ).loc main_arg3) := by
  refine Eq.trans (b := (V m c main_v0 : S1024x2048.Idx → EReal)) ?_ (V_main_v0 m c)
  funext y
  blk_simp [iblk]
  refine congrArg _ ?_
  blk_ext [index3 t]

/-- The row the point computes on is its memory row. -/
theorem row_eq (t : Fin cfg0.N) (r : Fin 512) :
    (fun k => if (grid0.coords t 0).val < 4 then (iblk m c 0 t : S512x1024.Idx → EReal) (ix2 r k) else (iblk m c 1 t : S512x1024.Idx → EReal) (ix2 r k))
      = memoryRow (m ((c : Thread nD τ).loc main_arg0)) (m ((c : Thread nD τ).loc main_arg1)) (row t r) := by
  funext k
  have hr := r.isLt
  have hv : (row t r).val = t.val * 512 + r.val := rfl
  unfold memoryRow
  rw [coord_eq]
  by_cases h : t.val < 4
  · rw [if_pos h, dif_pos (by omega), iblk0_apply m c t h]
    rfl
  · rw [if_neg h, dif_neg (by omega), iblk1_apply m c t h]
    rfl

/-- The result array: the keys and values of every memory row. -/
def result : S3072x2048.Idx → EReal := fun i =>
  projected (m ((c : Thread nD τ).loc main_arg0)) (m ((c : Thread nD τ).loc main_arg1)) (m ((c : Thread nD τ).loc main_arg2))
    (m ((c : Thread nD τ).loc main_arg3)) (i 0) (i 1)

/-- Where an entry of point `t`'s block lies in the result array. -/
theorem emb4 (t : Fin cfg0.N) (r : Fin 512) (j : Fin 2048) :
    ((win0_4.blk t).view.emb (ix2 r j) : S3072x2048.Idx) = ix2 (row t r) j := by
  blk_ext [index4 t, row]

/-- The kernel leaves the keys and values in its result array. -/
theorem final4 : (dats m 0 c).arrAt 4 cfg0.N = result m c := by
  refine (dats m 0 c).arrAt_eq_of_covers 4 _ (by decide +kernel) fun t hf y => ?_
  blk_simp
  rw [after0_4]
  obtain ⟨r, j, rfl⟩ : ∃ (r : Fin 512) (j : Fin 2048), y = ix2 r j := ⟨y 0, y 1, ix2_eta y |>.symm⟩
  have h2 : (fun k => (iblk m c 2 t : S1x1024.Idx → EReal) (ix2 0 k)) = fun k => m ((c : Thread nD τ).loc main_arg2) (ix1 k) := by
    funext k; rw [iblk2_eq, V_main_v1]
  rw [out_apply, row_eq, h2, iblk3_eq, emb4]
  rfl

end Cert.MemoryIdeal.Array

end
-- ==== Proof.Memory.Whole.lean ====
/- The claims about the memory projection: the norm and the product that give a layer's keys and values. -/
module

public import proofs.«01_k».proof.Defs
public import proofs.«01_k».proof.Proof.Memory.Array
public import proofs.«01_k».proof.Proof.Gen.Memory.Frame
public import proofs.«01_k».proof.Proof.Gen.MemoryReferenceIdeal.Run

@[expose] public section

noncomputable section

namespace Cert.Proof.Memory

open Idealize.ShloMosaic Idealize.ShloMosaic.Pointwise Idealize.SL.Sem

/-- The kernel's words: every run ends, the arguments are kept and every counter is zero. -/
theorem kernel_frame : Cert.quiescent_Memory := fun m ρ _ => Cert.Memory.Gen.frame m ρ

/-- Likewise over the extended reals. -/
theorem ideal_frame : Cert.quiescent_MemoryIdeal := fun m ρ _ => Cert.MemoryIdeal.Gen.frame m ρ

/-- Likewise for the reference, which has no semaphore. -/
theorem reference_frame : Cert.quiescent_MemoryReferenceIdeal := fun m ρ _ =>
  (θ_run Cert.MemoryReferenceIdeal.defs _ _).mono (fun r h => ⟨fun c => (h c).2, sem_eq_zero_of_no_sems (by decide) r.2⟩)
    (Cert.MemoryReferenceIdeal.Value.run m ρ)

/-- Kernel and reference compute the same array: the keys and values of every memory row. -/
theorem equal : Cert.algebraic_MemoryIdeal_MemoryReferenceIdeal := fun m ρ m' ρ' _ agree => by
  refine ⟨fun c => Cert.MemoryIdeal.Array.result m c, ?_, ?_⟩
  · exact (θ_run Cert.MemoryIdeal.defs _ _).mono
      (fun r h c => ⟨(h c).1.trans (Cert.MemoryIdeal.Array.final4 m c), (h c).2⟩)
      (Cert.MemoryIdeal.Value.run_blocks m ρ)
  · refine (θ_run Cert.MemoryReferenceIdeal.defs _ _).mono
      (fun r h c => ⟨(h c).1.trans (?_ : _ = Cert.MemoryIdeal.Array.result m c), (h c).2⟩)
      (Cert.MemoryReferenceIdeal.Value.run m' ρ')
    clear h
    rw [Cert.MemoryReferenceIdeal.Read.val_main_v29_eq]
    obtain ⟨e0, e1, e2, e3⟩ := agree c
    change Cert.MemoryReferenceIdeal.Read.val_main_v29 (F := Ideal) (m' (c.tc.loc Cert.MemoryReferenceIdeal.main_arg0)) (m' (c.tc.loc Cert.MemoryReferenceIdeal.main_arg1)) (m' (c.tc.loc Cert.MemoryReferenceIdeal.main_arg2)) (m' (c.tc.loc Cert.MemoryReferenceIdeal.main_arg3)) = _
    rw [e0, e1, e2, e3]
    funext i
    obtain ⟨R, j, rfl⟩ : ∃ (R : Fin 3072) (j : Fin 2048), i = ix2 R j := ⟨i 0, i 1, ix2_eta i |>.symm⟩
    exact Cert.MemoryReferenceIdeal.Entries.result_apply _ _ _ _ R j

end Cert.Proof.Memory

end
-- ==== Proof.lean ====
/- The claims of this certificate, assembled, each call with its reference: the convolution and the attention
   (Proof/Layer.lean), the experts (Proof/Experts/Frames.lean and Proof/Experts/Whole.lean), the recurrence's input
   projection (Proof/Projection/Whole.lean), the attention after the recurrence (Proof/Attention/Claims.lean) and the
   memory's projection (Proof/Memory/Whole.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Layer
public import proofs.«01_k».proof.Proof.Gen.Experts
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.MemoryReferenceIdeal.Read
public import proofs.«01_k».proof.Proof.Gen.Pre_in_range
public import proofs.«01_k».proof.Proof.Gen.ExpertsReferenceIdeal.Run
public import proofs.«01_k».proof.Proof.Gen.ExpertsReferenceIdeal.Read
public import proofs.«01_k».proof.Proof.Experts.Frames
public import proofs.«01_k».proof.Proof.Experts.Whole
public import proofs.«01_k».proof.Proof.Projection.Whole
public import proofs.«01_k».proof.Proof.Attention.Claims
public import proofs.«01_k».proof.Proof.Memory.Whole

@[expose] public section

noncomputable section

namespace Cert.Proof

/-- Every claim, of every call: the frames, the ideal programs, and the equality of kernel and reference over the
    extended reals. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Projection.Gen.facts, Cert.ProjectionIdeal.Gen.facts, Cert.ProjectionReferenceIdeal.Gen.facts,
  Cert.Attention.Gen.facts, Cert.AttentionIdeal.Gen.facts, Cert.AttentionReferenceIdeal.Gen.facts,
  Cert.Memory.Gen.facts, Cert.MemoryIdeal.Gen.facts, Cert.MemoryReferenceIdeal.Gen.facts, Cert.Pre_in_range.Gen.facts,
  LayerClaims.kernel_frame, LayerClaims.ideal_frame, LayerClaims.reference_frame,
  Experts.kernel_frame, Experts.ideal_frame, Experts.reference_frame, Experts.reference_frame_in_range,
  Projection.kernel_frame, Projection.ideal_frame, Projection.reference_frame,
  Attention.kernel_frame, Attention.ideal_frame, Attention.reference_frame,
  Memory.kernel_frame, Memory.ideal_frame, Memory.reference_frame,
  trivial, LayerClaims.equal, trivial, Experts.equal, trivial, Projection.equal,
  trivial, Attention.equal, trivial, Memory.equal⟩

end Cert.Proof

end
